-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 2048, 768]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2, 512, 512]⟩ ⟨3, ![2, 2048, 512]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 512, 512]⟩ ⟨3, ![2, 2048, 512]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![2, 2048, 768]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x512x768 : Shape := ⟨3, ![2, 512, 768]⟩
abbrev S768x512 : Shape := ⟨2, ![768, 512]⟩
abbrev S2x512x512 : Shape := ⟨3, ![2, 512, 512]⟩
abbrev S512x768 : Shape := ⟨2, ![512, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x512 : S_.BroadcastsInDim S2x512x512 (![] : Fin 0 → Fin S2x512x512.rank)
  reducesTo_S2x512x512_S_d0_1_2 : S2x512x512.ReducesTo [0, 1, 2] S_

variable [Facts]

def fn {F : FTy → Type} [FloatOps F] (main_arg0 : FVec F S2x512x768 .bf16) (main_arg1 : FVec F S768x512 .bf16) (main_arg2 : FVec F S2x512x512 .f32) (main_arg3 : FVec F S2x512x512 .f32) (main_arg4 : FVec F S512x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x512x512 .f32 := Host.absf main_arg2
  let main_cst_2 : FVec F S_ .f32 := constant S_ .f32 0x7F800000#32
  let main_v12 : FVec F S2x512x512 .f32 := broadcastInDim S2x512x512 ![] bcast_S_S2x512x512 main_cst_2
  let main_v13 : IVec S2x512x512 1 := cmpf .olt main_v11 main_v12
  let main_c_3 : IVec S_ 1 := constantI S_ 1 1#1
  let main_v14 : IVec S_ 1 := (fun x v => Host.reduce IntOp.andi x v reducesTo_S2x512x512_S_d0_1_2 h_S_) main_v13 main_c_3
  let main_v15 : IVec S_ 1 := andi main_v10 main_v14
  main_v15
-- ==== Pre_finite_scores_ReferenceIdeal.lean ====
abbrev S2x2048x768 : Shape := ⟨3, ![2, 2048, 768]⟩
abbrev S768x512 : Shape := ⟨2, ![768, 512]⟩
abbrev S2x2048x512 : Shape := ⟨3, ![2, 2048, 512]⟩
abbrev S512x768 : Shape := ⟨2, ![512, 768]⟩
abbrev S_ : Shape := ⟨0, ![]⟩

class Facts : Prop where
  bitsLt_bf16_f32 : FTy.bits .bf16 < FTy.bits .f32
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_

variable [Facts]

def fn {F : FTy → Type} [FloatOps F] (main_arg0 : FVec F S2x2048x768 .bf16) (main_arg1 : FVec F S768x512 .bf16) (main_arg2 : FVec F S2x2048x512 .f32) (main_arg3 : FVec F S2x2048x512 .f32) (main_arg4 : FVec F S512x768 .bf16) : IVec S_ 1 :=
  let main_v0 : FVec F S2x2048x768 .f32 := (extf .f32 · bitsLt_bf16_f32) main_arg0
  let main_v1 : FVec F S2x2048x768 .f32 := Host.absf main_v0
  let main_cst : FVec F S_ .f32 := constant S_ .f32 0x7F800000#32
  let main_v2 : FVec F S2x2048x768 .f32 := broadcastInDim S2x2048x768 ![] bcast_S_S2x2048x768 main_cst
  let main_v3 : IVec S2x2048x768 1 := cmpf .olt main_v1 main_v2
  let main_c : IVec S_ 1 := constantI S_ 1 1#1
  let main_v4 : IVec S_ 1 := (fun x v => Host.reduce IntOp.andi x v reducesTo_S2x2048x768_S_d0_1_2 h_S_) main_v3 main_c
  let main_v5 : FVec F S768x512 .f32 := (extf .f32 · bitsLt_bf16_f32) main_arg1
  let main_v6 : FVec F S768x512 .f32 := Host.absf main_v5
  let main_cst_0 : FVec F S_ .f32 := constant S_ .f32 0x7F800000#32
  let main_v7 : FVec F S768x512 .f32 := broadcastInDim S768x512 ![] bcast_S_S768x512 main_cst_0
  let main_v8 : IVec S768x512 1 := cmpf .olt main_v6 main_v7
  let main_c_1 : IVec S_ 1 := constantI S_ 1 1#1
  let main_v9 : IVec S_ 1 := (fun x v => Host.reduce IntOp.andi x v reducesTo_S768x512_S_d0_1 h_S_) main_v8 main_c_1
  let main_v10 : IVec S_ 1 := andi main_v4 main_v9
  let main_v11 : FVec F S2x2048x512 .f32 := Host.absf main_arg2
  let main_cst_2 : FVec F S_ .f32 := constant S_ .f32 0x7F800000#32
  let main_v12 : FVec F S2x2048x512 .f32 := broadcastInDim S2x2048x512 ![] bcast_S_S2x2048x512 main_cst_2
  let main_v13 : IVec S2x2048x512 1 := cmpf .olt main_v11 main_v12
  let main_c_3 : IVec S_ 1 := constantI S_ 1 1#1
  let main_v14 : IVec S_ 1 := (fun x v => Host.reduce IntOp.andi x v reducesTo_S2x2048x512_S_d0_1_2 h_S_) main_v13 main_c_3
  let main_v15 : IVec S_ 1 := andi main_v10 main_v14
  main_v15
-- ==== Kernel.lean ====
abbrev S2x512x768 : Shape := ⟨3, ![2, 512, 768]⟩
abbrev S768x512 : Shape := ⟨2, ![768, 512]⟩
abbrev S2x512x512 : Shape := ⟨3, ![2, 512, 512]⟩
abbrev S512x768 : Shape := ⟨2, ![512, 768]⟩
abbrev S2x512x8 : Shape := ⟨3, ![2, 512, 8]⟩
abbrev S2x128x512 : Shape := ⟨3, ![2, 128, 512]⟩
abbrev S2x32x512 : Shape := ⟨3, ![2, 32, 512]⟩
abbrev S2x32x8 : Shape := ⟨3, ![2, 32, 8]⟩
abbrev S3x2x32x512 : Shape := ⟨4, ![3, 2, 32, 512]⟩
abbrev S3x2x32x8 : Shape := ⟨4, ![3, 2, 32, 8]⟩
abbrev S2 : Shape := ⟨1, ![2]⟩
abbrev S14 : Shape := ⟨1, ![14]⟩
abbrev S13 : Shape := ⟨1, ![13]⟩
abbrev S3 : Shape := ⟨1, ![3]⟩
abbrev S1 : Shape := ⟨1, ![1]⟩
abbrev S_ : Shape := ⟨0, ![]⟩
abbrev S1x512x768 : Shape := ⟨3, ![1, 512, 768]⟩
abbrev S512x512 : Shape := ⟨2, ![512, 512]⟩
abbrev S1x512x512 : Shape := ⟨3, ![1, 512, 512]⟩
abbrev S256x384 : Shape := ⟨2, ![256, 384]⟩
abbrev S384x1 : Shape := ⟨2, ![384, 1]⟩
abbrev S1x384x512 : Shape := ⟨3, ![1, 384, 512]⟩
abbrev S384x512 : Shape := ⟨2, ![384, 512]⟩
abbrev S1x256x64 : Shape := ⟨3, ![1, 256, 64]⟩
abbrev S256x64 : Shape := ⟨2, ![256, 64]⟩
abbrev S384x64 : Shape := ⟨2, ![384, 64]⟩
abbrev S256x1 : Shape := ⟨2, ![256, 1]⟩
abbrev S1x256x1 : Shape := ⟨3, ![1, 256, 1]⟩
abbrev S256x32 : Shape := ⟨2, ![256, 32]⟩
abbrev S32x1 : Shape := ⟨2, ![32, 1]⟩
abbrev S1x32x512 : Shape := ⟨3, ![1, 32, 512]⟩
abbrev S32x512 : Shape := ⟨2, ![32, 512]⟩
abbrev S32x64 : Shape := ⟨2, ![32, 64]⟩
abbrev S32x128 : Shape := ⟨2, ![32, 128]⟩
abbrev S128x1 : Shape := ⟨2, ![128, 1]⟩
abbrev S1x128x512 : Shape := ⟨3, ![1, 128, 512]⟩
abbrev S128x512 : Shape := ⟨2, ![128, 512]⟩
abbrev S1x32x64 : Shape := ⟨3, ![1, 32, 64]⟩
abbrev S128x64 : Shape := ⟨2, ![128, 64]⟩
abbrev S1x32x1 : Shape := ⟨3, ![1, 32, 1]⟩
abbrev S512x1 : Shape := ⟨2, ![512, 1]⟩
abbrev S1x512x64 : Shape := ⟨3, ![1, 512, 64]⟩
abbrev S512x64 : Shape := ⟨2, ![512, 64]⟩
abbrev S1x2x32x512 : Shape := ⟨4, ![1, 2, 32, 512]⟩
abbrev S1x2x32x8 : Shape := ⟨4, ![1, 2, 32, 8]⟩
abbrev S128x128 : Shape := ⟨2, ![128, 128]⟩
abbrev S1x128x64 : Shape := ⟨3, ![1, 128, 64]⟩
abbrev S1x128x1 : Shape := ⟨3, ![1, 128, 1]⟩
abbrev S512x32 : Shape := ⟨2, ![512, 32]⟩
abbrev S1x512x1 : Shape := ⟨3, ![1, 512, 1]⟩
abbrev S1x1x32x512 : Shape := ⟨4, ![1, 1, 32, 512]⟩
abbrev S1x32x8 : Shape := ⟨3, ![1, 32, 8]⟩
abbrev S32x8 : Shape := ⟨2, ![32, 8]⟩
abbrev S1x1x32x8 : Shape := ⟨4, ![1, 1, 32, 8]⟩
abbrev S1x512x8 : Shape := ⟨3, ![1, 512, 8]⟩
abbrev S512x8 : Shape := ⟨2, ![512, 8]⟩

abbrev nBuf : Space → Nat
  | .hbm => 6
  | .vmem => 22
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x512, .f32⟩
  | .hbm, ⟨3, _⟩ => ⟨S2x512x512, .f32⟩
  | .hbm, ⟨4, _⟩ => ⟨S512x768, .bf16⟩
  | .hbm, ⟨5, _⟩ => ⟨S2x512x768, .bf16⟩
  | .local _ .vmem, ⟨0, _⟩ => ⟨S2x512x768, .bf16⟩
  | .local _ .vmem, ⟨1, _⟩ => ⟨S768x512, .bf16⟩
  | .local _ .vmem, ⟨2, _⟩ => ⟨S512x768, .bf16⟩
  | .local _ .vmem, ⟨3, _⟩ => ⟨S2x512x768, .bf16⟩
  | .local _ .vmem, ⟨4, _⟩ => ⟨S2x512x512, .f32⟩
  | .local _ .vmem, ⟨5, _⟩ => ⟨S2x512x512, .f32⟩
  | .local _ .vmem, ⟨6, _⟩ => ⟨S2x512x512, .bf16⟩
  | .local _ .vmem, ⟨7, _⟩ => ⟨S2x512x512, .bf16⟩
  | .local _ .vmem, ⟨8, _⟩ => ⟨S2x512x512, .bf16⟩
  | .local _ .vmem, ⟨9, _⟩ => ⟨S2x512x512, .f32⟩
  | .local _ .vmem, ⟨10, _⟩ => ⟨S2x512x8, .f32⟩
  | .local _ .vmem, ⟨11, _⟩ => ⟨S2x128x512, .bf16⟩
  | .local _ .vmem, ⟨12, _⟩ => ⟨S2x128x512, .bf16⟩
  | .local _ .vmem, ⟨13, _⟩ => ⟨S2x128x512, .bf16⟩
  | .local _ .vmem, ⟨14, _⟩ => ⟨S2x128x512, .bf16⟩
  | .local _ .vmem, ⟨15, _⟩ => ⟨S2x32x512, .bf16⟩
  | .local _ .vmem, ⟨16, _⟩ => ⟨S2x32x512, .bf16⟩
  | .local _ .vmem, ⟨17, _⟩ => ⟨S2x32x512, .bf16⟩
  | .local _ .vmem, ⟨18, _⟩ => ⟨S2x32x512, .f32⟩
  | .local _ .vmem, ⟨19, _⟩ => ⟨S2x32x8, .f32⟩
  | .local _ .vmem, ⟨20, _⟩ => ⟨S3x2x32x512, .f32⟩
  | .local _ .vmem, ⟨21, _⟩ => ⟨S3x2x32x8, .f32⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 2 → Bool
  | ⟨0, _⟩ => false
  | ⟨1, _⟩ => true
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 2 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_scratch15 : Ref sig .tc := ⟨.vmem, 19, rfl⟩
abbrev cc0_scratch16 : Ref sig .tc := ⟨.vmem, 20, rfl⟩
abbrev cc0_scratch17 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 : Nat :=
  let c0_i32_9 : BitVec 32 := 0#32
  let c0_i32_7 : BitVec 32 := 0#32
  let c1_i32_8 : BitVec 32 := 1#32
  let v13 : BitVec 32 := Scalar.muli c0_i32_7 c1_i32_8
  let v14 : BitVec 32 := Scalar.addi c0_i32_9 v13
  v14.toNat
def k0_dev2 : Nat :=
  let c0_i32_13 : BitVec 32 := 0#32
  let c1_i32_11 : BitVec 32 := 1#32
  let c1_i32_12 : BitVec 32 := 1#32
  let v15 : BitVec 32 := Scalar.muli c1_i32_11 c1_i32_12
  let v16 : BitVec 32 := Scalar.addi c0_i32_13 v15
  v16.toNat
def k0_dev3 : Nat :=
  let c0_i32_16 : BitVec 32 := 0#32
  let c2_i32 : BitVec 32 := 2#32
  let c1_i32_15 : BitVec 32 := 1#32
  let v17 : BitVec 32 := Scalar.muli c2_i32 c1_i32_15
  let v18 : BitVec 32 := Scalar.addi c0_i32_16 v17
  v18.toNat
def k0_dev4 : Nat :=
  let c0_i32_19 : BitVec 32 := 0#32
  let c3_i32 : BitVec 32 := 3#32
  let c1_i32_18 : BitVec 32 := 1#32
  let v19 : BitVec 32 := Scalar.muli c3_i32 c1_i32_18
  let v20 : BitVec 32 := Scalar.addi c0_i32_19 v19
  v20.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_63 : BitVec 32 := 1#32
  let v67 : BitVec 32 := Scalar.muli v7 c1_i32_63
  let v68 : BitVec 32 := Scalar.addi c0_i32_64 v67
  v68.toNat
def k0_dev6 (d0 : Dev nD) : Nat :=
  let c0_i32_70 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_69 : BitVec 32 := 1#32
  let v74 : BitVec 32 := Scalar.muli v7 c1_i32_69
  let v75 : BitVec 32 := Scalar.addi c0_i32_70 v74
  v75.toNat
def k0_dev7 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_76 : BitVec 32 := 1#32
  let v81 : BitVec 32 := Scalar.muli v5 c1_i32_76
  let v82 : BitVec 32 := Scalar.addi c0_i32_77 v81
  v82.toNat
def k0_dev8 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_83 : BitVec 32 := 1#32
  let v88 : BitVec 32 := Scalar.muli v5 c1_i32_83
  let v89 : BitVec 32 := Scalar.addi c0_i32_84 v88
  v89.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_88 : BitVec 32 := 0#32
  let v95 : BitVec 1 := Scalar.cmpi .eq v2 c0_i32_88
  let v96 : BitVec 32 := Scalar.extui v95
  let c0_i32_89 : BitVec 32 := 0#32
  let v97 : BitVec 1 := Scalar.cmpi .ne v96 c0_i32_89
  v97

def k0_dev9 : Nat :=
  let c0_i32_1938 : BitVec 32 := 0#32
  let c1_i32_1936 : BitVec 32 := 1#32
  let c1_i32_1937 : BitVec 32 := 1#32
  let v2426 : BitVec 32 := Scalar.muli c1_i32_1936 c1_i32_1937
  let v2427 : BitVec 32 := Scalar.addi c0_i32_1938 v2426
  v2427.toNat
def k0_dev10 : Nat :=
  let c0_i32_1946 : BitVec 32 := 0#32
  let c1_i32_1944 : BitVec 32 := 1#32
  let c1_i32_1945 : BitVec 32 := 1#32
  let v2433 : BitVec 32 := Scalar.muli c1_i32_1944 c1_i32_1945
  let v2434 : BitVec 32 := Scalar.addi c0_i32_1946 v2433
  v2434.toNat
def k0_dev11 : Nat :=
  let c0_i32_1953 : BitVec 32 := 0#32
  let c2_i32_1951 : BitVec 32 := 2#32
  let c1_i32_1952 : BitVec 32 := 1#32
  let v2440 : BitVec 32 := Scalar.muli c2_i32_1951 c1_i32_1952
  let v2441 : BitVec 32 := Scalar.addi c0_i32_1953 v2440
  v2441.toNat
def k0_dev12 : Nat :=
  let c0_i32_1960 : BitVec 32 := 0#32
  let c2_i32_1958 : BitVec 32 := 2#32
  let c1_i32_1959 : BitVec 32 := 1#32
  let v2447 : BitVec 32 := Scalar.muli c2_i32_1958 c1_i32_1959
  let v2448 : BitVec 32 := Scalar.addi c0_i32_1960 v2447
  v2448.toNat
def k0_dev13 : Nat :=
  let c0_i32_1967 : BitVec 32 := 0#32
  let c3_i32_1965 : BitVec 32 := 3#32
  let c1_i32_1966 : BitVec 32 := 1#32
  let v2454 : BitVec 32 := Scalar.muli c3_i32_1965 c1_i32_1966
  let v2455 : BitVec 32 := Scalar.addi c0_i32_1967 v2454
  v2455.toNat
def k0_dev14 : Nat :=
  let c0_i32_1974 : BitVec 32 := 0#32
  let c3_i32_1972 : BitVec 32 := 3#32
  let c1_i32_1973 : BitVec 32 := 1#32
  let v2461 : BitVec 32 := Scalar.muli c3_i32_1972 c1_i32_1973
  let v2462 : BitVec 32 := Scalar.addi c0_i32_1974 v2461
  v2462.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_90 : BitVec 32 := 0#32
  let v98 : BitVec 1 := Scalar.cmpi .eq v2 c0_i32_90
  let v99 : BitVec 32 := Scalar.extui v98
  let c0_i32_91 : BitVec 32 := 0#32
  let v100 : BitVec 1 := Scalar.cmpi .ne v99 c0_i32_91
  v100

def k0_dev15 : Nat :=
  let c0_i32_1938 : BitVec 32 := 0#32
  let c1_i32_1936 : BitVec 32 := 1#32
  let c1_i32_1937 : BitVec 32 := 1#32
  let v2426 : BitVec 32 := Scalar.muli c1_i32_1936 c1_i32_1937
  let v2427 : BitVec 32 := Scalar.addi c0_i32_1938 v2426
  v2427.toNat
def k0_dev16 : Nat :=
  let c0_i32_1945 : BitVec 32 := 0#32
  let c2_i32_1943 : BitVec 32 := 2#32
  let c1_i32_1944 : BitVec 32 := 1#32
  let v2433 : BitVec 32 := Scalar.muli c2_i32_1943 c1_i32_1944
  let v2434 : BitVec 32 := Scalar.addi c0_i32_1945 v2433
  v2434.toNat
def k0_dev17 : Nat :=
  let c0_i32_1952 : BitVec 32 := 0#32
  let c3_i32_1950 : BitVec 32 := 3#32
  let c1_i32_1951 : BitVec 32 := 1#32
  let v2440 : BitVec 32 := Scalar.muli c3_i32_1950 c1_i32_1951
  let v2441 : BitVec 32 := Scalar.addi c0_i32_1952 v2440
  v2441.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1125 : BitVec 32 := 0#32
  let v1448 : BitVec 1 := Scalar.cmpi .ne v2 c0_i32_1125
  let v1449 : BitVec 32 := Scalar.extui v1448
  let c0_i32_1128 : BitVec 32 := 0#32
  let v1450 : BitVec 1 := Scalar.cmpi .ne v1449 c0_i32_1128
  v1450

def k0_off1 (d0 : Dev nD) : Fin 1 → Nat :=
  let c5_i32 : BitVec 32 := 5#32
  let c2_i32_1122 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1444 : BitVec 32 := Scalar.muli c2_i32_1122 v2
  let v1445 : BitVec 32 := Scalar.addi c5_i32 v1444
  ![v1445.toNat]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1121 : BitVec 32 := 1#32
  let v1443 : BitVec 32 := Scalar.subi v2 c1_i32_1121
  let c0_i32_2232 : BitVec 32 := 0#32
  let c0_i32_2233 : BitVec 32 := 0#32
  let c0_i32_2234 : BitVec 32 := 0#32
  ![v1443.toNat, 0, 0, 0]
def k0_dev18 : Nat :=
  let c0_i32_2231 : BitVec 32 := 0#32
  let c0_i32_2229 : BitVec 32 := 0#32
  let c1_i32_2230 : BitVec 32 := 1#32
  let v2704 : BitVec 32 := Scalar.muli c0_i32_2229 c1_i32_2230
  let v2705 : BitVec 32 := Scalar.addi c0_i32_2231 v2704
  v2705.toNat
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1124 : BitVec 32 := 1#32
  let v1447 : BitVec 32 := Scalar.subi v2 c1_i32_1124
  ![v1447.toNat]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1123 : BitVec 32 := 1#32
  let v1446 : BitVec 32 := Scalar.subi v2 c1_i32_1123
  let c0_i32_2238 : BitVec 32 := 0#32
  let c0_i32_2239 : BitVec 32 := 0#32
  let c0_i32_2240 : BitVec 32 := 0#32
  ![v1446.toNat, 0, 0, 0]
def k0_dev19 : Nat :=
  let c0_i32_2237 : BitVec 32 := 0#32
  let c0_i32_2235 : BitVec 32 := 0#32
  let c1_i32_2236 : BitVec 32 := 1#32
  let v2712 : BitVec 32 := Scalar.muli c0_i32_2235 c1_i32_2236
  let v2713 : BitVec 32 := Scalar.addi c0_i32_2237 v2712
  v2713.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1810 : BitVec 32 := 0#32
  let v2255 : BitVec 1 := Scalar.cmpi .ne v2 c0_i32_1810
  let v2256 : BitVec 32 := Scalar.extui v2255
  let c0_i32_1813 : BitVec 32 := 0#32
  let v2257 : BitVec 1 := Scalar.cmpi .ne v2256 c0_i32_1813
  v2257

def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1121 : BitVec 32 := 1#32
  let v1443 : BitVec 32 := Scalar.subi v2 c1_i32_1121
  let c0_i32_1936 : BitVec 32 := 0#32
  let c0_i32_1937 : BitVec 32 := 0#32
  let c0_i32_1938 : BitVec 32 := 0#32
  ![v1443.toNat, 0, 0, 0]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1123 : BitVec 32 := 1#32
  let v1446 : BitVec 32 := Scalar.subi v2 c1_i32_1123
  let c0_i32_1941 : BitVec 32 := 0#32
  let c0_i32_1942 : BitVec 32 := 0#32
  let c0_i32_1943 : BitVec 32 := 0#32
  ![v1446.toNat, 0, 0, 0]
def k0_dev20 : Nat :=
  let c0_i32_1937_r0 : BitVec 32 := 0#32
  let c0_i32_1935_r0 : BitVec 32 := 0#32
  let c1_i32_1936_r0 : BitVec 32 := 1#32
  let v2427_r0 : BitVec 32 := Scalar.muli c0_i32_1935_r0 c1_i32_1936_r0
  let v2428_r0 : BitVec 32 := Scalar.addi c0_i32_1937_r0 v2427_r0
  v2428_r0.toNat
def k0_dev21 : Nat :=
  let c0_i32_1941_r0 : BitVec 32 := 0#32
  let c1_i32_1939_r0 : BitVec 32 := 1#32
  let c1_i32_1940_r0 : BitVec 32 := 1#32
  let v2429_r0 : BitVec 32 := Scalar.muli c1_i32_1939_r0 c1_i32_1940_r0
  let v2430_r0 : BitVec 32 := Scalar.addi c0_i32_1941_r0 v2429_r0
  v2430_r0.toNat
def k0_dev22 : Nat :=
  let c0_i32_1945_r0 : BitVec 32 := 0#32
  let c2_i32_1943_r0 : BitVec 32 := 2#32
  let c1_i32_1944_r0 : BitVec 32 := 1#32
  let v2431_r0 : BitVec 32 := Scalar.muli c2_i32_1943_r0 c1_i32_1944_r0
  let v2432_r0 : BitVec 32 := Scalar.addi c0_i32_1945_r0 v2431_r0
  v2432_r0.toNat
def k0_dev23 : Nat :=
  let c0_i32_1949_r0 : BitVec 32 := 0#32
  let c3_i32_1947_r0 : BitVec 32 := 3#32
  let c1_i32_1948_r0 : BitVec 32 := 1#32
  let v2433_r0 : BitVec 32 := Scalar.muli c3_i32_1947_r0 c1_i32_1948_r0
  let v2434_r0 : BitVec 32 := Scalar.addi c0_i32_1949_r0 v2433_r0
  v2434_r0.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x2048x768 : Shape := ⟨3, ![2, 2048, 768]⟩
abbrev S768x512 : Shape := ⟨2, ![768, 512]⟩
abbrev S2x2048x512 : Shape := ⟨3, ![2, 2048, 512]⟩
abbrev S512x768 : Shape := ⟨2, ![512, 768]⟩
abbrev S2x2048x8x64 : Shape := ⟨4, ![2, 2048, 8, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2x8x2048x2048 : Shape := ⟨4, ![2, 8, 2048, 2048]⟩
abbrev S1x1x2048x2048 : Shape := ⟨4, ![1, 1, 2048, 2048]⟩
abbrev S2x8x2048 : Shape := ⟨3, ![2, 8, 2048]⟩
abbrev S2x8x2048x1 : Shape := ⟨4, ![2, 8, 2048, 1]⟩
abbrev S1x1x2048x1 : Shape := ⟨4, ![1, 1, 2048, 1]⟩
abbrev S2x8x64x2048 : Shape := ⟨4, ![2, 8, 64, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2x2048x768, .bf16⟩
  | .hbm, ⟨1, _⟩ => ⟨S768x512, .bf16⟩
  | .hbm, ⟨2, _⟩ => ⟨S2x2048x512, .f32⟩
  | .hbm, ⟨3, _⟩ => ⟨S2x2048x512, .f32⟩
  | .hbm, ⟨4, _⟩ => ⟨S512x768, .bf16⟩
  | .hbm, ⟨5, _⟩ => ⟨S2x2048x8x64, .f32⟩
  | .hbm, ⟨6, _⟩ => ⟨S2x2048x8x64, .f32⟩
  | .hbm, ⟨7, _⟩ => ⟨S2x2048x768, .f32⟩
  | .hbm, ⟨8, _⟩ => ⟨S768x512, .f32⟩
  | .hbm, ⟨9, _⟩ => ⟨S512x768, .f32⟩
  | .hbm, ⟨10, _⟩ => ⟨S2x2048x512, .f32⟩
  | .hbm, ⟨11, _⟩ => ⟨S2x2048x8x64, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S_, .i32⟩
  | .hbm, ⟨27, _⟩ => ⟨S2048x1, .i32⟩
  | .hbm, ⟨28, _⟩ => ⟨S2048x1, .i1⟩
  | .hbm, ⟨29, _⟩ => ⟨S2048x2048, .i1⟩
  | .hbm, ⟨30, _⟩ => ⟨S2048x2048, .i1⟩
  | .hbm, ⟨31, _⟩ => ⟨S2048x2048, .i1⟩
  | .hbm, ⟨32, _⟩ => ⟨S2048x2048, .i1⟩
  | .hbm, ⟨33, _⟩ => ⟨S2x8x2048x2048, .f32⟩
  | .hbm, ⟨34, _⟩ => ⟨S_, .f32⟩
  | .hbm, ⟨35, _⟩ => ⟨S2x8x2048x2048, .f32⟩
  | .hbm, ⟨36, _⟩ => ⟨S2x8x2048x2048, .f32⟩
  | .hbm, ⟨37, _⟩ => ⟨S1x1x2048x2048, .i1⟩
  | .hbm, ⟨38, _⟩ => ⟨S_, .f32⟩
  | .hbm, ⟨39, _⟩ => ⟨S_, .f32⟩
  | .hbm, ⟨40, _⟩ => ⟨S2x8x2048x2048, .i1⟩
  | .hbm, ⟨41, _⟩ => ⟨S2x8x2048x2048, .f32⟩
  | .hbm, ⟨42, _⟩ => ⟨S2x8x2048x2048, .f32⟩
  | .hbm, ⟨43, _⟩ => ⟨S_, .f32⟩
  | .hbm, ⟨44, _⟩ => ⟨S2x8x2048, .f32⟩
  | .hbm, ⟨45, _⟩ => ⟨S2x8x2048x1, .f32⟩
  | .hbm, ⟨46, _⟩ => ⟨S2x8x2048x2048, .f32⟩
  | .hbm, ⟨47, _⟩ => ⟨S2x8x2048x2048, .f32⟩
  | .hbm, ⟨48, _⟩ => ⟨S2x8x2048x2048, .f32⟩
  | .hbm, ⟨49, _⟩ => ⟨S_, .i1⟩
  | .hbm, ⟨50, _⟩ => ⟨S2048, .i1⟩
  | .hbm, ⟨51, _⟩ => ⟨S1x1x2048x1, .i1⟩
  | .hbm, ⟨52, _⟩ => ⟨S_, .f32⟩
  | .hbm, ⟨53, _⟩ => ⟨S2x8x2048, .f32⟩
  | .hbm, ⟨54, _⟩ => ⟨S2x8x2048x1, .f32⟩
  | .hbm, ⟨55, _⟩ => ⟨S_, .f32⟩
  | .hbm, ⟨56, _⟩ => ⟨S_, .f32⟩
  | .hbm, ⟨57, _⟩ => ⟨S2x8x2048x1, .i1⟩
  | .hbm, ⟨58, _⟩ => ⟨S2x8x2048x1, .f32⟩
  | .hbm, ⟨59, _⟩ => ⟨S2x8x2048x1, .f32⟩
  | .hbm, ⟨60, _⟩ => ⟨S2x8x2048x2048, .f32⟩
  | .hbm, ⟨61, _⟩ => ⟨S2x8x2048x2048, .f32⟩
  | .hbm, ⟨62, _⟩ => ⟨S1x1x2048x1, .i1⟩
  | .hbm, ⟨63, _⟩ => ⟨S_, .f32⟩
  | .hbm, ⟨64, _⟩ => ⟨S_, .f32⟩
  | .hbm, ⟨65, _⟩ => ⟨S2x8x2048x2048, .i1⟩
  | .hbm, ⟨66, _⟩ => ⟨S2x8x2048x2048, .f32⟩
  | .hbm, ⟨67, _⟩ => ⟨S2x8x2048x2048, .f32⟩
  | .hbm, ⟨68, _⟩ => ⟨S2x8x64x2048, .f32⟩
  | .hbm, ⟨69, _⟩ => ⟨S2x2048x8x64, .f32⟩
  | .hbm, ⟨70, _⟩ => ⟨S2x2048x512, .f32⟩
  | .hbm, ⟨71, _⟩ => ⟨S2x2048x768, .f32⟩
  | .hbm, ⟨72, _⟩ => ⟨S2x2048x768, .bf16⟩
  | _, _ => ⟨S2x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== Proof.Blocks.lean ====
/-
  The values one attention block computes, and the block as a run of memory operations, at any number of
  rows and columns. A block takes `nr` rows of queries against `nc` rows of keys, head by head: the scores
  plus the mask's bias, their exponentials, the exponentials' row sums (into the running sums) and the
  exponentials times the values (into the running products).
-/
module

public import proofs.«01_k».proof.Proof.Gen.KernelIdeal

@[expose] public section

noncomputable section

namespace Cert.KernelIdeal

open Idealize.ShloMosaic Idealize.SL.Sem

variable {F : FTy → Type} [FloatOps F] [Named F]

/-- A shape of two axes. -/
abbrev sh2 (a b : ℕ) : Shape := ⟨2, ![a, b]⟩
/-- A shape of three axes. -/
abbrev sh3 (a b c : ℕ) : Shape := ⟨3, ![a, b, c]⟩

/-- What the operations of a block of `nr` rows and `nc` columns ask of the extents. -/
structure Geo (nr nc : ℕ) : Prop where
  wQK : DotDims.WF (sh2 nr 64) (sh2 nc 64) (sh2 nr nc) [1] [1] [0] [0] [] []
  wL : DotDims.WF (sh2 nr nc) (sh2 nc 1) (sh2 nr 1) [1] [0] [0] [1] [] []
  wPV : DotDims.WF (sh2 nr nc) (sh2 nc 64) (sh2 nr 64) [1] [0] [0] [1] [] []
  cq : (sh3 1 nr 64).ShapeCasts (sh2 nr 64)
  cq' : (sh2 nr 64).ShapeCasts (sh3 1 nr 64)
  cl : (sh3 1 nr 1).ShapeCasts (sh2 nr 1)
  cl' : (sh2 nr 1).ShapeCasts (sh3 1 nr 1)
  pq : 0 < (sh3 1 nr 64).numel
  pl : 0 < (sh3 1 nr 1).numel

/-- What the key and value rows of a block ask: their cast to two axes and their heads' columns. -/
structure GeoK (nc : ℕ) : Prop where
  ck : (sh3 1 nc 512).ShapeCasts (sh2 nc 512)
  pk : 0 < (sh3 1 nc 512).numel
  sl : ∀ h : Fin 8, (sh2 nc 512).Slices ![0, 64 * h.val] (sh2 nc 64)

/-- What the row and column numbers of a block ask. -/
structure GeoI (nr nc : ℕ) : Prop where
  i0 : (sh2 nr nc).Iotas .tc 32 [0]
  i1 : (sh2 nr nc).Iotas .tc 32 [1]

section Values
variable {nr nc : ℕ}

/-- Queries times keys. -/
def dQK (g : Geo nr nc) : DotDims (sh2 nr 64) (sh2 nc 64) (sh2 nr nc) := ⟨[1], [1], [0], [0], [], [], g.wQK⟩
/-- Exponentials times a column of ones. -/
def dL (g : Geo nr nc) : DotDims (sh2 nr nc) (sh2 nc 1) (sh2 nr 1) := ⟨[1], [0], [0], [1], [], [], g.wL⟩
/-- Exponentials times values. -/
def dPV (g : Geo nr nc) : DotDims (sh2 nr nc) (sh2 nc 64) (sh2 nr 64) := ⟨[1], [0], [0], [1], [], [], g.wPV⟩

/-- The scores of a head, with the bias where the block has one. -/
def scoreV (g : Geo nr nc) (bias : Option (FVec F (sh2 nr nc) .f32)) (q : FVec F (sh2 nr 64) .bf16)
    (k : FVec F (sh2 nc 64) .bf16) : FVec F (sh2 nr nc) .f32 :=
  match bias with
  | none => matmul (dQK g) none q k (constant (sh2 nr nc) .f32 0x00000000#32)
  | some b => addf (matmul (dQK g) none q k (constant (sh2 nr nc) .f32 0x00000000#32)) b

/-- The exponentials of the scores of a head. -/
def wV (g : Geo nr nc) (bias : Option (FVec F (sh2 nr nc) .f32)) (q : FVec F (sh2 nr 64) .bf16)
    (k : FVec F (sh2 nc 64) .bf16) : FVec F (sh2 nr nc) .bf16 :=
  truncf .bf16 (exp (scoreV g bias q k)) Facts₀.bitsLt_bf16_f32

/-- The row sums of a head's exponentials. -/
def lsumV (g : Geo nr nc) (w : FVec F (sh2 nr nc) .bf16) : FVec F (sh2 nr 1) .f32 :=
  matmul (dL g) none w (broadcast (sh2 nc 1) (Scalar.ofBits .bf16 0x3F80#16)) (constant (sh2 nr 1) .f32 0x00000000#32)

/-- A head's exponentials times its values. -/
def pvV (g : Geo nr nc) (w : FVec F (sh2 nr nc) .bf16) (v : FVec F (sh2 nc 64) .bf16) : FVec F (sh2 nr 64) .f32 :=
  matmul (dPV g) none w v (constant (sh2 nr 64) .f32 0x00000000#32)

/-- Head `h`'s columns of the key or value rows. -/
def headOf (gk : GeoK nc) (k : FVec F (sh2 nc 512) .bf16) (h : Fin 8) : FVec F (sh2 nc 64) .bf16 :=
  extractStridedSlice (sh2 nc 64) ![0, 64 * h.val] k (gk.sl h)

/-- What a first block stores into the running sums of head `h`. -/
def initL (g : Geo nr nc) (gk : GeoK nc) (bias : Option (FVec F (sh2 nr nc) .f32)) (k : FVec F (sh2 nc 512) .bf16)
    (h : Fin 8) (q : Vec F (sh3 1 nr 64) .bf16) : FVec F (sh3 1 nr 1) .f32 :=
  shapeCast (sh3 1 nr 1) (lsumV g (wV g bias (shapeCast (sh2 nr 64) q g.cq) (headOf gk k h))) g.cl'

/-- What a first block stores into the running products of head `h`. -/
def initA (g : Geo nr nc) (gk : GeoK nc) (bias : Option (FVec F (sh2 nr nc) .f32)) (k v : FVec F (sh2 nc 512) .bf16)
    (h : Fin 8) (q : Vec F (sh3 1 nr 64) .bf16) : FVec F (sh3 1 nr 64) .f32 :=
  shapeCast (sh3 1 nr 64) (pvV g (wV g bias (shapeCast (sh2 nr 64) q g.cq) (headOf gk k h)) (headOf gk v h)) g.cq'

/-- What a later block stores into the running sums of head `h`. -/
def incL (g : Geo nr nc) (gk : GeoK nc) (bias : Option (FVec F (sh2 nr nc) .f32)) (k : FVec F (sh2 nc 512) .bf16)
    (h : Fin 8) (q : Vec F (sh3 1 nr 64) .bf16) (l : Vec F (sh3 1 nr 1) .f32) : FVec F (sh3 1 nr 1) .f32 :=
  shapeCast (sh3 1 nr 1) (addf (shapeCast (sh2 nr 1) l g.cl)
    (lsumV g (wV g bias (shapeCast (sh2 nr 64) q g.cq) (headOf gk k h)))) g.cl'

/-- What a later block stores into the running products of head `h`. -/
def incA (g : Geo nr nc) (gk : GeoK nc) (bias : Option (FVec F (sh2 nr nc) .f32)) (k v : FVec F (sh2 nc 512) .bf16)
    (h : Fin 8) (q : Vec F (sh3 1 nr 64) .bf16) (a : Vec F (sh3 1 nr 64) .f32) : FVec F (sh3 1 nr 64) .f32 :=
  shapeCast (sh3 1 nr 64) (addf (shapeCast (sh2 nr 64) a g.cq)
    (pvV g (wV g bias (shapeCast (sh2 nr 64) q g.cq) (headOf gk k h)) (headOf gk v h))) g.cq'

/-- The row numbers of a block, its device's first row added. -/
def rowIx (gi : GeoI nr nc) (a r0 : BitVec 32) : IVec (sh2 nr nc) 32 :=
  addi (broadcast (sh2 nr nc) (Scalar.addi a r0)) (iota .tc (sh2 nr nc) 32 [0] gi.i0)
/-- The column numbers of a block, their first column added. -/
def colIx (gi : GeoI nr nc) (a c0 : BitVec 32) : IVec (sh2 nr nc) 32 :=
  addi (broadcast (sh2 nr nc) (Scalar.addi a c0)) (iota .tc (sh2 nr nc) 32 [1] gi.i1)
/-- Zero where the mask holds, the named mask value elsewhere. -/
def biasOf (m : IVec (sh2 nr nc) 1) : FVec F (sh2 nr nc) .f32 :=
  select m (broadcast (sh2 nr nc) (Scalar.ofBits .f32 0x00000000#32)) (broadcast (sh2 nr nc) (Named.named κ "mask" 0xCE6E6B28#32))
/-- The mask of the own keys: near the diagonal, or a global column, or a global row. -/
def maskFull (qi ki : IVec (sh2 nr nc) 32) : IVec (sh2 nr nc) 1 :=
  ori (ori (cmpi .sle (absi (subi qi ki)) (broadcast (sh2 nr nc) 128#32)) (cmpi .slt ki (broadcast (sh2 nr nc) 32#32)))
    (cmpi .slt qi (broadcast (sh2 nr nc) 32#32))
/-- The mask of a neighbour's keys: near the diagonal, in a row that is not global. -/
def maskWin (qi ki : IVec (sh2 nr nc) 32) : IVec (sh2 nr nc) 1 :=
  andi (cmpi .sle (absi (subi qi ki)) (broadcast (sh2 nr nc) 128#32)) (cmpi .sge qi (broadcast (sh2 nr nc) 32#32))

end Values

end Cert.KernelIdeal
-- ==== Proof.Roll.lean ====
/-
  The kernel's body written with its loops: the same operations in the same order, the printed text's
  unrolled batches and heads as loops over `Fin 2` and `Fin 8`. `body_eq` says the two are the same
  program, device by device.
-/
module

public import proofs.«01_k».proof.Proof.Blocks
public import proofs.«01_k».proof.Proof.Gen.KernelIdeal.Frame

@[expose] public section

noncomputable section

namespace Cert.KernelIdeal

open Idealize.ShloMosaic Idealize.SL.Sem

variable {F : FTy → Type} [FloatOps F] [Named F]

/-! ## The buffers -/

abbrev mX : Memref sig .tc .vmem S2x512x768 .bf16 := Memref.whole cc0_stg0_0
abbrev mWq : Memref sig .tc .vmem S768x512 .bf16 := Memref.whole cc0_stg1_0
abbrev mK : Memref sig .tc .hbm S2x512x512 .f32 := Memref.whole main_arg2
abbrev mV : Memref sig .tc .hbm S2x512x512 .f32 := Memref.whole main_arg3
abbrev mWo : Memref sig .tc .vmem S512x768 .bf16 := Memref.whole cc0_stg2_0
abbrev mOut : Memref sig .tc .vmem S2x512x768 .bf16 := Memref.whole cc0_stg3_0
abbrev mKf : Memref sig .tc .vmem S2x512x512 .f32 := Memref.whole cc0_scratch0
abbrev mVf : Memref sig .tc .vmem S2x512x512 .f32 := Memref.whole cc0_scratch1
abbrev mKo : Memref sig .tc .vmem S2x512x512 .bf16 := Memref.whole cc0_scratch2
abbrev mVo : Memref sig .tc .vmem S2x512x512 .bf16 := Memref.whole cc0_scratch3
abbrev mQ : Memref sig .tc .vmem S2x512x512 .bf16 := Memref.whole cc0_scratch4
abbrev mA : Memref sig .tc .vmem S2x512x512 .f32 := Memref.whole cc0_scratch5
abbrev mL : Memref sig .tc .vmem S2x512x8 .f32 := Memref.whole cc0_scratch6
abbrev mHlk : Memref sig .tc .vmem S2x128x512 .bf16 := Memref.whole cc0_scratch7
abbrev mHlv : Memref sig .tc .vmem S2x128x512 .bf16 := Memref.whole cc0_scratch8
abbrev mHrk : Memref sig .tc .vmem S2x128x512 .bf16 := Memref.whole cc0_scratch9
abbrev mHrv : Memref sig .tc .vmem S2x128x512 .bf16 := Memref.whole cc0_scratch10
abbrev mGk : Memref sig .tc .vmem S2x32x512 .bf16 := Memref.whole cc0_scratch11
abbrev mGv : Memref sig .tc .vmem S2x32x512 .bf16 := Memref.whole cc0_scratch12
abbrev mGq : Memref sig .tc .vmem S2x32x512 .bf16 := Memref.whole cc0_scratch13
abbrev mPa : Memref sig .tc .vmem S2x32x512 .f32 := Memref.whole cc0_scratch14
abbrev mPl : Memref sig .tc .vmem S2x32x8 .f32 := Memref.whole cc0_scratch15
abbrev mRa : Memref sig .tc .vmem S3x2x32x512 .f32 := Memref.whole cc0_scratch16
abbrev mRl : Memref sig .tc .vmem S3x2x32x8 .f32 := Memref.whole cc0_scratch17

/-- A program of the body. -/
abbrev P (F : FTy → Type) [FloatOps F] : Type 1 := Prog (TpuEff nD τ sig (Elt F) Λ₀ .tc) PUnit

/-- A rectangle of three axes lies in its buffer when it does axis by axis. -/
theorem inb3 {A B C x y z a b c : ℕ} (hx : x + a ≤ A) (hy : y + b ≤ B) (hz : z + c ≤ C) :
    ∀ i, (![x, y, z] : Fin 3 → ℕ) i + (sh3 a b c).size i ≤ (sh3 A B C).size i := by
  intro i; fin_cases i <;> assumption

/-- The rectangle of one batch's rows `y..y+b`, columns `z..z+c`. -/
abbrev rc {B C : ℕ} (x : Fin 2) (y z b c : ℕ) (hy : y + b ≤ B) (hz : z + c ≤ C) : Rect (sh3 2 B C) :=
  Rect.unit (s := sh3 2 B C) ![x.val, y, z] (sh3 1 b c).size (inb3 (by omega) hy hz)

/-- Load a rectangle of one batch. -/
abbrev ldc {B C : ℕ} {e : EltTy} (m : Memref sig .tc .vmem (sh3 2 B C) e) (x : Fin 2) (y z b c : ℕ) (hy : y + b ≤ B)
    (hz : z + c ≤ C) (hp : 0 < (sh3 1 b c).numel) (k : Vec F (sh3 1 b c) e → P F) : P F :=
  .op (.load m (rc x y z b c hy hz).toLoadRect (View.loadsAt_vmem hp)) k

/-- Store a rectangle of one batch of a buffer of words. -/
abbrev stc {B C : ℕ} (m : Memref sig .tc .vmem (sh3 2 B C) .f32) (x : Fin 2) (y z b c : ℕ) (hy : y + b ≤ B)
    (hz : z + c ≤ C) (hp : 0 < (sh3 1 b c).numel) (w : Vec F (sh3 1 b c) .f32) (k : P F) : P F :=
  .op (.store m (rc x y z b c hy hz) w Finset.univ (View.stores_vmem_bits_univ hp rfl) (.inl rfl)) fun _ => k

/-- Over the eight heads. -/
def each8 (f : Fin 8 → P F → P F) (K : P F) : P F := f 0 (f 1 (f 2 (f 3 (f 4 (f 5 (f 6 (f 7 K)))))))
/-- Over the two batches. -/
def each2 (f : Fin 2 → P F → P F) (K : P F) : P F := f 0 (f 1 K)
/-- Over the three other devices. -/
def each3 (f : Fin 3 → P F → P F) (K : P F) : P F := f 0 (f 1 (f 2 K))

theorem hcol (h : Fin 8) : 64 * h.val + 64 ≤ 512 := by omega
theorem hone (h : Fin 8) : h.val + 1 ≤ 8 := by omega

theorem geo_own : Geo 256 384 where
  wQK := Facts₀.dot_S256x64_S384x64_S256x384_1_1_0_0_n_n_wf
  wL := Facts₀.dot_S256x384_S384x1_S256x1_1_0_0_1_n_n_wf
  wPV := Facts₀.dot_S256x384_S384x64_S256x64_1_0_0_1_n_n_wf
  cq := Facts₀.shapeCasts_S1x256x64_S256x64
  cq' := Facts₀.shapeCasts_S256x64_S1x256x64
  cl := Facts₀.shapeCasts_S1x256x1_S256x1
  cl' := Facts₀.shapeCasts_S256x1_S1x256x1
  pq := Facts₀.h_S1x256x64
  pl := Facts₀.h_S1x256x1
theorem geo_glob : Geo 256 32 where
  wQK := Facts₀.dot_S256x64_S32x64_S256x32_1_1_0_0_n_n_wf
  wL := Facts₀.dot_S256x32_S32x1_S256x1_1_0_0_1_n_n_wf
  wPV := Facts₀.dot_S256x32_S32x64_S256x64_1_0_0_1_n_n_wf
  cq := Facts₀.shapeCasts_S1x256x64_S256x64
  cq' := Facts₀.shapeCasts_S256x64_S1x256x64
  cl := Facts₀.shapeCasts_S1x256x1_S256x1
  cl' := Facts₀.shapeCasts_S256x1_S1x256x1
  pq := Facts₀.h_S1x256x64
  pl := Facts₀.h_S1x256x1
theorem geo_rest : Geo 32 128 where
  wQK := Facts₀.dot_S32x64_S128x64_S32x128_1_1_0_0_n_n_wf
  wL := Facts₀.dot_S32x128_S128x1_S32x1_1_0_0_1_n_n_wf
  wPV := Facts₀.dot_S32x128_S128x64_S32x64_1_0_0_1_n_n_wf
  cq := Facts₀.shapeCasts_S1x32x64_S32x64
  cq' := Facts₀.shapeCasts_S32x64_S1x32x64
  cl := Facts₀.shapeCasts_S1x32x1_S32x1
  cl' := Facts₀.shapeCasts_S32x1_S1x32x1
  pq := Facts₀.h_S1x32x64
  pl := Facts₀.h_S1x32x1
theorem geo_halo : Geo 128 128 where
  wQK := Facts₀.dot_S128x64_S128x64_S128x128_1_1_0_0_n_n_wf
  wL := Facts₀.dot_S128x128_S128x1_S128x1_1_0_0_1_n_n_wf
  wPV := Facts₀.dot_S128x128_S128x64_S128x64_1_0_0_1_n_n_wf
  cq := Facts₀.shapeCasts_S1x128x64_S128x64
  cq' := Facts₀.shapeCasts_S128x64_S1x128x64
  cl := Facts₀.shapeCasts_S1x128x1_S128x1
  cl' := Facts₀.shapeCasts_S128x1_S1x128x1
  pq := Facts₀.h_S1x128x64
  pl := Facts₀.h_S1x128x1
theorem geo_far : Geo 512 32 where
  wQK := Facts₀.dot_S512x64_S32x64_S512x32_1_1_0_0_n_n_wf
  wL := Facts₀.dot_S512x32_S32x1_S512x1_1_0_0_1_n_n_wf
  wPV := Facts₀.dot_S512x32_S32x64_S512x64_1_0_0_1_n_n_wf
  cq := Facts₀.shapeCasts_S1x512x64_S512x64
  cq' := Facts₀.shapeCasts_S512x64_S1x512x64
  cl := Facts₀.shapeCasts_S1x512x1_S512x1
  cl' := Facts₀.shapeCasts_S512x1_S1x512x1
  pq := Facts₀.h_S1x512x64
  pl := Facts₀.h_S1x512x1
theorem geo_part : Geo 32 512 where
  wQK := Facts₀.dot_S32x64_S512x64_S32x512_1_1_0_0_n_n_wf
  wL := Facts₀.dot_S32x512_S512x1_S32x1_1_0_0_1_n_n_wf
  wPV := Facts₀.dot_S32x512_S512x64_S32x64_1_0_0_1_n_n_wf
  cq := Facts₀.shapeCasts_S1x32x64_S32x64
  cq' := Facts₀.shapeCasts_S32x64_S1x32x64
  cl := Facts₀.shapeCasts_S1x32x1_S32x1
  cl' := Facts₀.shapeCasts_S32x1_S1x32x1
  pq := Facts₀.h_S1x32x64
  pl := Facts₀.h_S1x32x1

/-- Eight heads' columns lie in the rows. -/
theorem slHead (nc : ℕ) (h : Fin 8) : (sh2 nc 512).Slices ![0, 64 * h.val] (sh2 nc 64) := by
  refine ⟨rfl, fun a => ?_⟩
  fin_cases a
  · show 0 + nc ≤ nc; omega
  · show 64 * h.val + 64 ≤ 512; omega

theorem geoK_384 : GeoK 384 := ⟨Facts₀.shapeCasts_S1x384x512_S384x512, Facts₀.h_S1x384x512, slHead _⟩
theorem geoK_32 : GeoK 32 := ⟨Facts₀.shapeCasts_S1x32x512_S32x512, Facts₀.h_S1x32x512, slHead _⟩
theorem geoK_128 : GeoK 128 := ⟨Facts₀.shapeCasts_S1x128x512_S128x512, Facts₀.h_S1x128x512, slHead _⟩
theorem geoI_own : GeoI 256 384 := ⟨Facts₀.iota_S256x384_d0_w32, Facts₀.iota_S256x384_d1_w32⟩
theorem geoI_glob : GeoI 256 32 := ⟨Facts₀.iota_S256x32_d0_w32, Facts₀.iota_S256x32_d1_w32⟩
theorem geoI_rest : GeoI 32 128 := ⟨Facts₀.iota_S32x128_d0_w32, Facts₀.iota_S32x128_d1_w32⟩
theorem geoI_halo : GeoI 128 128 := ⟨Facts₀.iota_S128x128_d0_w32, Facts₀.iota_S128x128_d1_w32⟩

/-- A rectangle of whole columns of one batch of a `bf16` buffer of 512 rows is stored exactly. -/
theorem packed512 (x : Fin 2) (h : Fin 8) :
    (rc (B := 512) (C := 512) x 0 (64 * h.val) 512 64 (by omega) (hcol h)).PackedRows (EltTy.packing .bf16) := by
  revert x h; simp only [Rect.packedRows_iff_at]; decide
theorem packedW (x : Fin 2) :
    (rc (B := 512) (C := 512) x 0 0 512 512 (by omega) (by omega)).PackedRows (EltTy.packing .bf16) := by
  revert x; simp only [Rect.packedRows_iff_at]; decide
theorem packedO (x : Fin 2) :
    (rc (B := 512) (C := 768) x 0 0 512 768 (by omega) (by omega)).PackedRows (EltTy.packing .bf16) := by
  revert x; simp only [Rect.packedRows_iff_at]; decide

/-! ## Blocks -/

section Block
variable {nr nc nk : ℕ}

/-- One head of a first block. -/
def headInit (g : Geo nr nc) (gk : GeoK nc) (bias : Option (FVec F (sh2 nr nc) .f32)) (k v : FVec F (sh2 nc 512) .bf16)
    (b : Fin 2) (r0 : ℕ) (hr : r0 + nr ≤ 512) (h : Fin 8) (K : P F) : P F :=
  ldc mQ b r0 (64 * h.val) nr 64 hr (hcol h) g.pq fun q =>
  ldc mL b r0 h.val nr 1 hr (hone h) g.pl fun _ =>
  stc mL b r0 h.val nr 1 hr (hone h) g.pl (initL g gk bias k h q) <|
  ldc mA b r0 (64 * h.val) nr 64 hr (hcol h) g.pq fun _ =>
  stc mA b r0 (64 * h.val) nr 64 hr (hcol h) g.pq (initA g gk bias k v h q) K

/-- One head of a later block. -/
def headInc (g : Geo nr nc) (gk : GeoK nc) (bias : Option (FVec F (sh2 nr nc) .f32)) (k v : FVec F (sh2 nc 512) .bf16)
    (b : Fin 2) (r0 : ℕ) (hr : r0 + nr ≤ 512) (h : Fin 8) (K : P F) : P F :=
  ldc mQ b r0 (64 * h.val) nr 64 hr (hcol h) g.pq fun q =>
  ldc mL b r0 h.val nr 1 hr (hone h) g.pl fun l =>
  ldc mL b r0 h.val nr 1 hr (hone h) g.pl fun _ =>
  stc mL b r0 h.val nr 1 hr (hone h) g.pl (incL g gk bias k h q l) <|
  ldc mA b r0 (64 * h.val) nr 64 hr (hcol h) g.pq fun a =>
  ldc mA b r0 (64 * h.val) nr 64 hr (hcol h) g.pq fun _ =>
  stc mA b r0 (64 * h.val) nr 64 hr (hcol h) g.pq (incA g gk bias k v h q a) K

/-- The key and value rows of a batch, then its heads. -/
def blk (gk : GeoK nc) (mk mv : Memref sig .tc .vmem (sh3 2 nk 512) .bf16) (c0 : ℕ) (hc : c0 + nc ≤ nk)
    (head : FVec F (sh2 nc 512) .bf16 → FVec F (sh2 nc 512) .bf16 → Fin 2 → Fin 8 → P F → P F) (K : P F) : P F :=
  each2 (fun b K =>
    ldc mk b c0 0 nc 512 hc (by omega) gk.pk fun k =>
    ldc mv b c0 0 nc 512 hc (by omega) gk.pk fun v =>
    each8 (fun h K => head (shapeCast (sh2 nc 512) k gk.ck) (shapeCast (sh2 nc 512) v gk.ck) b h K) K) K

/-- A first block. -/
def blkInit (g : Geo nr nc) (gk : GeoK nc) (bias : Option (FVec F (sh2 nr nc) .f32))
    (mk mv : Memref sig .tc .vmem (sh3 2 nk 512) .bf16) (r0 c0 : ℕ) (hr : r0 + nr ≤ 512) (hc : c0 + nc ≤ nk) (K : P F) : P F :=
  blk gk mk mv c0 hc (fun k v b h K => headInit g gk bias k v b r0 hr h K) K

/-- A later block. -/
def blkInc (g : Geo nr nc) (gk : GeoK nc) (bias : Option (FVec F (sh2 nr nc) .f32))
    (mk mv : Memref sig .tc .vmem (sh3 2 nk 512) .bf16) (r0 c0 : ℕ) (hr : r0 + nr ≤ 512) (hc : c0 + nc ≤ nk) (K : P F) : P F :=
  blk gk mk mv c0 hc (fun k v b h K => headInc g gk bias k v b r0 hr h K) K

end Block

/-! ## Biases -/

/-- A device's place on the ring, as the kernel's word. -/
def meW (d : Dev nD) : BitVec 32 := Scalar.remsi (Scalar.divsi (Dev.word d) 1#32) 4#32
/-- The place on the left. -/
def leftW (d : Dev nD) : BitVec 32 := Scalar.remsi (Scalar.subi (Scalar.addi (meW d) 4#32) 1#32) 4#32
/-- The place on the right. -/
def rightW (d : Dev nD) : BitVec 32 := Scalar.remsi (Scalar.addi (meW d) 1#32) 4#32

/-- The bias of a block of own keys. -/
def ownBias {nr nc : ℕ} (gi : GeoI nr nc) (d : Dev nD) (r0 c0 : BitVec 32) : FVec F (sh2 nr nc) .f32 :=
  biasOf (maskFull (rowIx gi (Scalar.muli (meW d) 512#32) r0) (colIx gi (Scalar.muli (meW d) 512#32) c0))
/-- The bias of the left neighbour's keys. -/
def leftBias (d : Dev nD) : FVec F (sh2 128 128) .f32 :=
  biasOf (maskWin (rowIx geoI_halo (Scalar.muli (meW d) 512#32) 0#32)
    (colIx geoI_halo (Scalar.addi (Scalar.muli (leftW d) 512#32) 384#32) 0#32))
/-- The bias of the right neighbour's keys. -/
def rightBias (d : Dev nD) : FVec F (sh2 128 128) .f32 :=
  biasOf (maskWin (rowIx geoI_halo (Scalar.muli (meW d) 512#32) 384#32)
    (colIx geoI_halo (Scalar.muli (rightW d) 512#32) 0#32))

/-! ## Semaphores -/

/-- The DMA semaphore of number `n` in the kernel's pool: 4–5 the local copies', 6–19 the sends', 20–32 the
    receives', 33–35 the receives' of the row sums. -/
abbrev ds (n : Fin 36) : DmaSem sig := n
/-- The barrier's semaphore. -/
abbrev bar : Sem sig := sig.barrier 0 rfl
/-- The closing barrier's semaphore. -/
abbrev bar2 : Sem sig := (1 : Fin 2)

/-- The send semaphore of the first copy to the device after device `j`'s place (`j` below three). -/
abbrev sG (j : Fin 3) (i : Fin 3) : Fin 36 := ⟨10 + 3 * j.val + i.val, by omega⟩
/-- The receive semaphore of the row products of the device after place `j`. -/
abbrev rA (j : Fin 3) : Fin 36 := ⟨27 + 2 * j.val, by omega⟩
/-- The receive semaphore of the row sums of the device after place `j`. -/
abbrev rL (j : Fin 3) : Fin 36 := ⟨33 + j.val, by omega⟩

/-! ## Slices sent and received -/

/-- Rows `y..y+b` of both batches of a buffer of `C` columns. -/
abbrev rows {B C : ℕ} (y b : ℕ) (hy : y + b ≤ B) : Rect (sh3 2 B C) :=
  Rect.unit (s := sh3 2 B C) ![0, y, 0] (sh3 2 b C).size (inb3 (by omega) hy (by omega))
abbrev tailOf (m : Memref sig .tc .vmem S2x512x512 .bf16) : Memref sig .tc .vmem S2x128x512 .bf16 :=
  m.slice (rows 384 128 (by omega)) (fun _ => rfl)
abbrev headsOf (m : Memref sig .tc .vmem S2x512x512 .bf16) : Memref sig .tc .vmem S2x128x512 .bf16 :=
  m.slice (rows 0 128 (by omega)) (fun _ => rfl)
abbrev topOf (m : Memref sig .tc .vmem S2x512x512 .bf16) : Memref sig .tc .vmem S2x32x512 .bf16 :=
  m.slice (rows 0 32 (by omega)) (fun _ => rfl)

theorem inb4 {A B C D x y z u a b c d : ℕ} (hx : x + a ≤ A) (hy : y + b ≤ B) (hz : z + c ≤ C) (hu : u + d ≤ D) :
    ∀ i, (![x, y, z, u] : Fin 4 → ℕ) i + (⟨4, ![a, b, c, d]⟩ : Shape).size i ≤ (⟨4, ![A, B, C, D]⟩ : Shape).size i := by
  intro i; fin_cases i <;> assumption

/-- Slab `j` of the received row products. -/
abbrev rcA (j : Fin 3) : Rect S3x2x32x512 :=
  Rect.unit (s := S3x2x32x512) ![j.val, 0, 0, 0] S1x2x32x512.size (inb4 (by omega) (by omega) (by omega) (by omega))
/-- Slab `j` of the received row sums. -/
abbrev rcL (j : Fin 3) : Rect S3x2x32x8 :=
  Rect.unit (s := S3x2x32x8) ![j.val, 0, 0, 0] S1x2x32x8.size (inb4 (by omega) (by omega) (by omega) (by omega))
abbrev slabA (j : Fin 3) : Memref sig .tc .vmem S2x32x512 .f32 :=
  (mRa.slice (rcA j) (fun _ => rfl)).squeeze S2x32x512 Facts₀.squeezes_S1x2x32x512_S2x32x512
abbrev slabL (j : Fin 3) : Memref sig .tc .vmem S2x32x8 .f32 :=
  (mRl.slice (rcL j) (fun _ => rfl)).squeeze S2x32x8 Facts₀.squeezes_S1x2x32x8_S2x32x8

theorem wx {s : Shape} {e : EltTy} (b : Ref sig .tc) : (Memref.whole b).view.WordExact := (Memref.isWhole_whole b).wordExact
theorem wxTail (m : Memref sig .tc .vmem S2x512x512 .bf16) (h : m.IsWhole) : (tailOf m).view.WordExact :=
  h.wordExact_slice rfl _ Facts₀.wordsbf16_S2x512x512_S2x128x512_0_384_0
theorem wxHeads (m : Memref sig .tc .vmem S2x512x512 .bf16) (h : m.IsWhole) : (headsOf m).view.WordExact :=
  h.wordExact_slice rfl _ Facts₀.wordsbf16_S2x512x512_S2x128x512_0_0_0
theorem wxTop (m : Memref sig .tc .vmem S2x512x512 .bf16) (h : m.IsWhole) : (topOf m).view.WordExact :=
  h.wordExact_slice rfl _ Facts₀.wordsbf16_S2x512x512_S2x32x512_0_0_0
theorem wxA (j : Fin 3) : (slabA j).view.WordExact := (View.wordExact_bits rfl).reshape _ _
theorem wxL (j : Fin 3) : (slabL j).view.WordExact := (View.wordExact_bits rfl).reshape _ _

/-! ## The phases -/

/-- A copy to another device's buffer, with its two semaphores. -/
abbrev send {s : Shape} {e : EltTy} (src dst : Memref sig .tc .vmem s e) (d : Dev nD) (ss rs : Fin 36)
    (hs : src.view.WordExact) (hd : dst.view.WordExact) (K : P F) : P F :=
  .op (.enqueueDma src (.remote (Dev.tc d) dst (.dma (ds ss))) (.dma (ds rs)) hs hd ⟨⟨rfl, Or.inl rfl⟩, trivial⟩) fun _ => K
/-- A wait for a copy's bytes on a semaphore. -/
abbrev waitD {s : Shape} {e : EltTy} {sp sp' : Space} (n : Fin 36) (src : Memref sig .tc sp s e) (dst : Memref sig .tc sp' s e)
    (hs : src.view.WordExact) (hd : dst.view.WordExact) (K : P F) : P F :=
  .op (.waitDma2 (ds n) src dst hs hd) fun _ => K
/-- A signal of one to a device's semaphore. -/
abbrev sigW (d : Dev nD) (s : Sem sig) (K : P F) : P F := .op (.semSignal (d, .tc) s (1#32).toInt) fun _ => K
/-- Signals of one to each device. -/
def sigAll (s : Sem sig) (K : P F) : P F := sigW 0 s (sigW 1 s (sigW 2 s (sigW 3 s K)))
/-- A wait for all four devices' signals. -/
abbrev waitAll (s : Sem sig) (K : P F) : P F := .op (.semWait s (4#32).toInt) fun _ => K

/-- The scaled query weights. -/
def wqV (w : Vec F S768x512 .bf16) : FVec F S768x512 .bf16 :=
  mulf (shapeCast S768x512 w Facts₀.shapeCasts_S768x512_S768x512) (broadcast S768x512 (Scalar.ofBits .bf16 0x3E00#16))
/-- A batch's queries. -/
def qV (w : FVec F S768x512 .bf16) (x : Vec F S1x512x768 .bf16) : FVec F S1x512x512 .bf16 :=
  shapeCast S1x512x512 (truncf .bf16 (matmul dot_S512x768_S768x512_S512x512_1_0_0_1_n_n none
    (shapeCast S512x768 x Facts₀.shapeCasts_S1x512x768_S512x768) w (constant S512x512 .f32 0x00000000#32)) Facts₀.bitsLt_bf16_f32)
    Facts₀.shapeCasts_S512x512_S1x512x512
/-- A batch's keys or values, narrowed. -/
def narrowV (x : Vec F S1x512x512 .f32) : FVec F S1x512x512 .bf16 :=
  shapeCast S1x512x512 (truncf .bf16 (shapeCast S512x512 x Facts₀.shapeCasts_S1x512x512_S512x512) Facts₀.bitsLt_bf16_f32)
    Facts₀.shapeCasts_S512x512_S1x512x512
/-- The reciprocals of a batch's row sums. -/
def linvV (l : Vec F S1x512x8 .f32) : FVec F S512x8 .f32 :=
  divf (broadcast S512x8 (Scalar.ofBits .f32 0x3F800000#32)) (shapeCast S512x8 l Facts₀.shapeCasts_S1x512x8_S512x8)

theorem slOne (h : Fin 8) : S512x8.Slices ![0, h.val] S512x1 := by
  refine ⟨rfl, fun a => ?_⟩
  fin_cases a
  · show 0 + 512 ≤ 512; omega
  · show h.val + 1 ≤ 8; omega

/-- A head's context: its products over its row sums. -/
def ctxV (li : FVec F S512x8 .f32) (h : Fin 8) (a : Vec F S1x512x64 .f32) : FVec F S1x512x64 .bf16 :=
  shapeCast S1x512x64 (truncf .bf16 (mulf (shapeCast S512x64 a Facts₀.shapeCasts_S1x512x64_S512x64)
    (broadcastTo S512x64 (extractStridedSlice S512x1 ![0, h.val] li (slOne h)) Facts₀.broadcasts_S512x1_S512x64)) Facts₀.bitsLt_bf16_f32)
    Facts₀.shapeCasts_S512x64_S1x512x64
/-- A batch of the output. -/
def outV (wo : FVec F S512x768 .bf16) (q : Vec F S1x512x512 .bf16) : FVec F S1x512x768 .bf16 :=
  shapeCast S1x512x768 (truncf .bf16 (matmul dot_S512x512_S512x768_S512x768_1_0_0_1_n_n none
    (shapeCast S512x512 q Facts₀.shapeCasts_S1x512x512_S512x512) wo (constant S512x768 .f32 0x00000000#32)) Facts₀.bitsLt_bf16_f32)
    Facts₀.shapeCasts_S512x768_S1x512x768

/-- Store a batch of a narrow buffer. -/
abbrev stq {C : ℕ} (m : Memref sig .tc .vmem (sh3 2 512 C) .bf16) (hm : m.IsWhole) (x : Fin 2) (z c : ℕ) (hz : z + c ≤ C)
    (hp : 0 < (sh3 1 512 c).numel) (hk : (rc (B := 512) (C := C) x 0 z 512 c (by omega) hz).PackedRows (EltTy.packing .bf16))
    (w : Vec F (sh3 1 512 c) .bf16) (k : P F) : P F :=
  .op (.store m (rc x 0 z 512 c (by omega) hz) w Finset.univ
    (View.stores_vmem hp (hm.storeExact_slice rfl _ hk) (fun _ => rfl)) (.inl rfl)) fun _ => k

/-- The local copies, started. -/
def copies (K : P F) : P F :=
  .op (.enqueueDma mK (.here mKf) (.dma (ds 4)) (Memref.isWhole_whole _).wordExact (Memref.isWhole_whole _).wordExact ⟨Or.inl rfl, trivial⟩) fun _ =>
  .op (.enqueueDma mV (.here mVf) (.dma (ds 5)) (Memref.isWhole_whole _).wordExact (Memref.isWhole_whole _).wordExact ⟨Or.inl rfl, trivial⟩) fun _ => K
/-- The queries. -/
def queries (K : P F) : P F :=
  .op (.load mWq (Rect.unit (s := S768x512) ![0, 0] S768x512.size Facts₀.inb_S768x512_S768x512_0_0).toLoadRect (View.loadsAt_vmem Facts₀.h_S768x512)) fun w =>
  each2 (fun b K =>
    ldc mX b 0 0 512 768 (by omega) (by omega) Facts₀.h_S1x512x768 fun x =>
    ldc mQ b 0 0 512 512 (by omega) (by omega) Facts₀.h_S1x512x512 fun _ =>
    stq mQ (Memref.isWhole_whole _) b 0 512 (by omega) Facts₀.h_S1x512x512 (packedW b) (qV (wqV w) x) K) K
/-- The keys and values, narrowed. -/
def narrow (K : P F) : P F :=
  each2 (fun b K =>
    ldc mKf b 0 0 512 512 (by omega) (by omega) Facts₀.h_S1x512x512 fun x =>
    ldc mKo b 0 0 512 512 (by omega) (by omega) Facts₀.h_S1x512x512 fun _ =>
    stq mKo (Memref.isWhole_whole _) b 0 512 (by omega) Facts₀.h_S1x512x512 (packedW b) (narrowV x) <|
    ldc mVf b 0 0 512 512 (by omega) (by omega) Facts₀.h_S1x512x512 fun x =>
    ldc mVo b 0 0 512 512 (by omega) (by omega) Facts₀.h_S1x512x512 fun _ =>
    stq mVo (Memref.isWhole_whole _) b 0 512 (by omega) Facts₀.h_S1x512x512 (packedW b) (narrowV x) K) K
/-- The halos' sends: the last rows to the right, the first to the left. -/
def halos (d : Dev nD) (K : P F) : P F :=
  send (tailOf mKo) mHlk (d + 1) 6 20 (wxTail _ (Memref.isWhole_whole _)) (Memref.isWhole_whole _).wordExact <|
  send (tailOf mVo) mHlv (d + 1) 7 21 (wxTail _ (Memref.isWhole_whole _)) (Memref.isWhole_whole _).wordExact <|
  send (headsOf mKo) mHrk (d + 3) 8 22 (wxHeads _ (Memref.isWhole_whole _)) (Memref.isWhole_whole _).wordExact <|
  send (headsOf mVo) mHrv (d + 3) 9 23 (wxHeads _ (Memref.isWhole_whole _)) (Memref.isWhole_whole _).wordExact K
/-- Device 0's first rows of keys, values and queries, to the other three. -/
def globals (K : P F) : P F :=
  each3 (fun j K =>
    send (topOf mKo) mGk j.succ (sG j 0) 24 (wxTop _ (Memref.isWhole_whole _)) (Memref.isWhole_whole _).wordExact <|
    send (topOf mVo) mGv j.succ (sG j 1) 25 (wxTop _ (Memref.isWhole_whole _)) (Memref.isWhole_whole _).wordExact K) <|
  each3 (fun j K =>
    send (topOf mQ) mGq j.succ (sG j 2) 26 (wxTop _ (Memref.isWhole_whole _)) (Memref.isWhole_whole _).wordExact K) K
/-- The own blocks. -/
def ownBlocks (d : Dev nD) (K : P F) : P F :=
  blkInit geo_own geoK_384 (some (ownBias geoI_own d 0#32 0#32)) mKo mVo 0 0 (by omega) (by omega) <|
  blkInit geo_own geoK_384 (some (ownBias geoI_own d 256#32 128#32)) mKo mVo 256 128 (by omega) (by omega) <|
  blkInc geo_glob geoK_32 (some (ownBias geoI_glob d 256#32 0#32)) mKo mVo 256 0 (by omega) (by omega) <|
  blkInc geo_rest geoK_128 (some (ownBias geoI_rest d 0#32 384#32)) mKo mVo 0 384 (by omega) (by omega) K
/-- Another device's share of device 0's first rows: the heads. -/
def partialHeads (K : P F) : P F :=
  each2 (fun b K => each8 (fun h K =>
    ldc mGq b 0 (64 * h.val) 32 64 (by omega) (hcol h) geo_part.pq fun q =>
    ldc mKo b 0 (64 * h.val) 512 64 (by omega) (hcol h) geo_far.pq fun k =>
    ldc mPl b 0 h.val 32 1 (by omega) (hone h) geo_part.pl fun _ =>
    stc mPl b 0 h.val 32 1 (by omega) (hone h) geo_part.pl
      (shapeCast (sh3 1 32 1) (lsumV geo_part (wV geo_part none (shapeCast (sh2 32 64) q geo_part.cq) (shapeCast (sh2 512 64) k geo_far.cq))) geo_part.cl') <|
    ldc mVo b 0 (64 * h.val) 512 64 (by omega) (hcol h) geo_far.pq fun v =>
    ldc mPa b 0 (64 * h.val) 32 64 (by omega) (hcol h) geo_part.pq fun _ =>
    stc mPa b 0 (64 * h.val) 32 64 (by omega) (hcol h) geo_part.pq
      (shapeCast (sh3 1 32 64) (pvV geo_part (wV geo_part none (shapeCast (sh2 32 64) q geo_part.cq) (shapeCast (sh2 512 64) k geo_far.cq))
        (shapeCast (sh2 512 64) v geo_far.cq)) geo_part.cq') K) K) K
/-- Another device's share of device 0's first rows, sent to it. -/
def partials (j : Fin 3) (K : P F) : P F :=
  waitD 26 (topOf mQ) mGq (wxTop _ (Memref.isWhole_whole _)) (Memref.isWhole_whole _).wordExact <|
  partialHeads <|
  send mPa (slabA j) 0 10 (rA j) (Memref.isWhole_whole _).wordExact (wxA j) <|
  send mPl (slabL j) 0 19 (rL j) (Memref.isWhole_whole _).wordExact (wxL j) K
/-- The halos' waits and blocks. -/
def haloBlocks (d : Dev nD) (K : P F) : P F :=
  waitD 20 (tailOf mKo) mHlk (wxTail _ (Memref.isWhole_whole _)) (Memref.isWhole_whole _).wordExact <|
  waitD 21 (tailOf mVo) mHlv (wxTail _ (Memref.isWhole_whole _)) (Memref.isWhole_whole _).wordExact <|
  waitD 22 (headsOf mKo) mHrk (wxHeads _ (Memref.isWhole_whole _)) (Memref.isWhole_whole _).wordExact <|
  waitD 23 (headsOf mVo) mHrv (wxHeads _ (Memref.isWhole_whole _)) (Memref.isWhole_whole _).wordExact <|
  blkInc geo_halo geoK_128 (some (leftBias d)) mHlk mHlv 0 0 (by omega) (by omega) <|
  blkInc geo_halo geoK_128 (some (rightBias d)) mHrk mHrv 384 0 (by omega) (by omega) K
/-- The block of device 0's first keys, on another device. -/
def farBlock (K : P F) : P F :=
  waitD 24 (topOf mKo) mGk (wxTop _ (Memref.isWhole_whole _)) (Memref.isWhole_whole _).wordExact <|
  waitD 25 (topOf mVo) mGv (wxTop _ (Memref.isWhole_whole _)) (Memref.isWhole_whole _).wordExact <|
  blkInc geo_far geoK_32 none mGk mGv 0 0 (by omega) (by omega) K

/-- Slab `j`, batch `b` of the received row products, as loaded. -/
abbrev rcA1 (j : Fin 3) (b : Fin 2) : Rect S3x2x32x512 :=
  Rect.unit (s := S3x2x32x512) ![j.val, b.val, 0, 0] S1x1x32x512.size (inb4 (by omega) (by omega) (by omega) (by omega))
/-- Slab `j`, batch `b` of the received row sums, as loaded. -/
abbrev rcL1 (j : Fin 3) (b : Fin 2) : Rect S3x2x32x8 :=
  Rect.unit (s := S3x2x32x8) ![j.val, b.val, 0, 0] S1x1x32x8.size (inb4 (by omega) (by omega) (by omega) (by omega))

def addA (a : Vec F S1x32x512 .f32) (r : Vec F S1x1x32x512 .f32) : FVec F S1x32x512 .f32 :=
  shapeCast S1x32x512 (addf (shapeCast S32x512 a Facts₀.shapeCasts_S1x32x512_S32x512)
    (shapeCast S32x512 r Facts₀.shapeCasts_S1x1x32x512_S32x512)) Facts₀.shapeCasts_S32x512_S1x32x512
def addL (a : Vec F S1x32x8 .f32) (r : Vec F S1x1x32x8 .f32) : FVec F S1x32x8 .f32 :=
  shapeCast S1x32x8 (addf (shapeCast S32x8 a Facts₀.shapeCasts_S1x32x8_S32x8)
    (shapeCast S32x8 r Facts₀.shapeCasts_S1x1x32x8_S32x8)) Facts₀.shapeCasts_S32x8_S1x32x8

/-- One device's share added. -/
def addShare (j : Fin 3) (K : P F) : P F :=
  each2 (fun b K =>
    ldc mA b 0 0 32 512 (by omega) (by omega) Facts₀.h_S1x32x512 fun a =>
    .op (.load mRa (rcA1 j b).toLoadRect (View.loadsAt_vmem Facts₀.h_S1x1x32x512)) fun r =>
    ldc mA b 0 0 32 512 (by omega) (by omega) Facts₀.h_S1x32x512 fun _ =>
    stc mA b 0 0 32 512 (by omega) (by omega) Facts₀.h_S1x32x512 (addA a r) <|
    ldc mL b 0 0 32 8 (by omega) (by omega) Facts₀.h_S1x32x8 fun a =>
    .op (.load mRl (rcL1 j b).toLoadRect (View.loadsAt_vmem Facts₀.h_S1x1x32x8)) fun r =>
    ldc mL b 0 0 32 8 (by omega) (by omega) Facts₀.h_S1x32x8 fun _ =>
    stc mL b 0 0 32 8 (by omega) (by omega) Facts₀.h_S1x32x8 (addL a r) K) K
/-- The other devices' shares added. -/
def addShares (K : P F) : P F :=
  each3 addShare K
/-- The other devices' shares of device 0's first rows, waited for and added. -/
def gather (K : P F) : P F :=
  each3 (fun j K =>
    waitD (rA j) mPa (slabA j) (Memref.isWhole_whole _).wordExact (wxA j) <|
    waitD (rL j) mPl (slabL j) (Memref.isWhole_whole _).wordExact (wxL j) K) <|
  addShares K
/-- The halos' sends waited for. -/
def sendWaits (K : P F) : P F :=
  waitD 6 mHlk (tailOf mKo) (Memref.isWhole_whole _).wordExact (wxTail _ (Memref.isWhole_whole _)) <|
  waitD 7 mHlv (tailOf mVo) (Memref.isWhole_whole _).wordExact (wxTail _ (Memref.isWhole_whole _)) <|
  waitD 8 mHrk (headsOf mKo) (Memref.isWhole_whole _).wordExact (wxHeads _ (Memref.isWhole_whole _)) <|
  waitD 9 mHrv (headsOf mVo) (Memref.isWhole_whole _).wordExact (wxHeads _ (Memref.isWhole_whole _)) K
/-- Device 0's sends waited for. -/
def globalWaits (K : P F) : P F :=
  each3 (fun j K =>
    waitD (sG j 0) mGk (topOf mKo) (Memref.isWhole_whole _).wordExact (wxTop _ (Memref.isWhole_whole _)) <|
    waitD (sG j 1) mGv (topOf mVo) (Memref.isWhole_whole _).wordExact (wxTop _ (Memref.isWhole_whole _)) <|
    waitD (sG j 2) mGq (topOf mQ) (Memref.isWhole_whole _).wordExact (wxTop _ (Memref.isWhole_whole _)) K) K
/-- Another device's sends waited for. -/
def partialWaits (j : Fin 3) (K : P F) : P F :=
  waitD 10 (slabA j) mPa (wxA j) (Memref.isWhole_whole _).wordExact <|
  waitD 19 (slabL j) mPl (wxL j) (Memref.isWhole_whole _).wordExact K
/-- The context and the output. -/
def output (K : P F) : P F :=
  .op (.load mWo (Rect.unit (s := S512x768) ![0, 0] S512x768.size Facts₀.inb_S512x768_S512x768_0_0).toLoadRect (View.loadsAt_vmem Facts₀.h_S512x768)) fun wo =>
  each2 (fun b K =>
    ldc mL b 0 0 512 8 (by omega) (by omega) Facts₀.h_S1x512x8 fun l =>
    each8 (fun h K =>
      ldc mA b 0 (64 * h.val) 512 64 (by omega) (hcol h) Facts₀.h_S1x512x64 fun a =>
      ldc mQ b 0 (64 * h.val) 512 64 (by omega) (hcol h) Facts₀.h_S1x512x64 fun _ =>
      stq mQ (Memref.isWhole_whole _) b (64 * h.val) 64 (hcol h) Facts₀.h_S1x512x64 (packed512 b h) (ctxV (linvV l) h a) K) K) <|
  each2 (fun b K =>
    ldc mQ b 0 0 512 512 (by omega) (by omega) Facts₀.h_S1x512x512 fun q =>
    ldc mOut b 0 0 512 768 (by omega) (by omega) Facts₀.h_S1x512x768 fun _ =>
    stq mOut (Memref.isWhole_whole _) b 0 768 (by omega) Facts₀.h_S1x512x768 (packedO b)
      (outV (shapeCast S512x768 wo Facts₀.shapeCasts_S512x768_S512x768) q) K) K

/-- Device 0's body. -/
def body0 : P F :=
  copies <| sigAll bar <| queries <| waitAll bar <|
  waitD 4 mK mKf (Memref.isWhole_whole _).wordExact (Memref.isWhole_whole _).wordExact <|
  waitD 5 mV mVf (Memref.isWhole_whole _).wordExact (Memref.isWhole_whole _).wordExact <|
  narrow <| halos 0 <| globals <| ownBlocks 0 <| haloBlocks 0 <| gather <| sendWaits <| globalWaits <| output <|
  sigAll bar2 <| waitAll bar2 <| .ret ⟨⟩
/-- The body of the device after place `j`. -/
def bodyS (j : Fin 3) : P F :=
  copies <| sigAll bar <| queries <| waitAll bar <|
  waitD 4 mK mKf (Memref.isWhole_whole _).wordExact (Memref.isWhole_whole _).wordExact <|
  waitD 5 mV mVf (Memref.isWhole_whole _).wordExact (Memref.isWhole_whole _).wordExact <|
  narrow <| halos j.succ <| ownBlocks j.succ <| partials j <| haloBlocks j.succ <| farBlock <| sendWaits <| partialWaits j <| output <|
  sigAll bar2 <| waitAll bar2 <| .ret ⟨⟩
/-- The body past its reading of the device. -/
def bodyK (d : Dev nD) : P F := Fin.cases body0 bodyS d

/-- The body written with its loops. -/
def body : P F := .op .deviceId bodyK

/-- The body with its loops is the printed body. -/
theorem body_eq : (Gen.bodyAt0 Gen.t0_0 : P F) = body := by
  refine congrArg (Prog.op _) (funext fun d => ?_)
  fin_cases d <;> chain_rfl

end Cert.KernelIdeal
-- ==== Proof.Tile.lean ====
/-
  Contents of a buffer under writes: `sub` reads a rectangle, `upd` writes one, and `tile` is what a
  family of disjoint rectangles leaves when those of order below `n` have been written.
-/
module

public import Idealize.ShloMosaic.Lib.Memref
public import Mathlib.Logic.Equiv.Fin.Basic

@[expose] public section

noncomputable section

namespace Cert.KernelIdeal

open Idealize.ShloMosaic

variable {s : Shape} {E : Type}

/-- What a rectangle holds. -/
def sub (r : Rect s) (g : s.Idx → E) : r.shape.Idx → E := fun x => g (r.emb x)

open Classical in
/-- A rectangle rewritten. -/
def upd (r : Rect s) (g : s.Idx → E) (w : r.shape.Idx → E) : s.Idx → E :=
  fun i => if h : ∃ x, r.emb x = i then w h.choose else g i

theorem upd_emb (r : Rect s) (g : s.Idx → E) (w : r.shape.Idx → E) (x : r.shape.Idx) : upd r g w (r.emb x) = w x := by
  have h : ∃ y, r.emb y = r.emb x := ⟨x, rfl⟩
  unfold upd; rw [dif_pos h]; exact congrArg w (r.emb.injective h.choose_spec)

theorem upd_off (r : Rect s) (g : s.Idx → E) (w : r.shape.Idx → E) {i : s.Idx} (h : ∀ x, r.emb x ≠ i) : upd r g w i = g i := by
  unfold upd; exact dif_neg (not_exists.mpr h)

section Tile
variable {ι : Type} (ord : ι → ℕ) (R : ι → Rect s) (W : ∀ k, (R k).shape.Idx → E)

open Classical in
/-- The rectangles of order below `n` written over `A`. -/
def tile (A : s.Idx → E) (n : ℕ) : s.Idx → E := fun i =>
  if h : ∃ p : (Σ j, (R j).shape.Idx), ord p.1 < n ∧ (R p.1).emb p.2 = i then W h.choose.1 h.choose.2 else A i

/-- The rectangles of a family share no index. -/
def Apart : Prop := ∀ k k' x x', (R k).emb x = (R k').emb x' → k = k'

variable {ord R W}

theorem tile_zero (A : s.Idx → E) : tile ord R W A 0 = A := by
  funext i; unfold tile; exact dif_neg fun ⟨_, h, _⟩ => absurd h (Nat.not_lt_zero _)

theorem tile_emb (hR : Apart R) (A : s.Idx → E) {n : ℕ} {k : ι} (hk : ord k < n) (x : (R k).shape.Idx) :
    tile ord R W A n ((R k).emb x) = W k x := by
  have h : ∃ p : (Σ j, (R j).shape.Idx), ord p.1 < n ∧ (R p.1).emb p.2 = (R k).emb x := ⟨⟨k, x⟩, hk, rfl⟩
  unfold tile; rw [dif_pos h]
  have hs := h.choose_spec.2
  have hk' : h.choose.1 = k := hR _ _ _ _ hs
  generalize h.choose = p at hs hk'
  obtain ⟨k', x'⟩ := p
  cases hk'
  exact congrArg (W _) ((R _).emb.injective hs)

theorem tile_off (A : s.Idx → E) {n : ℕ} {i : s.Idx} (h : ∀ k x, ord k < n → (R k).emb x ≠ i) :
    tile ord R W A n i = A i := by
  unfold tile; exact dif_neg fun ⟨p, hp, hi⟩ => h p.1 p.2 hp hi

/-- A rectangle not yet written holds what it held. -/
theorem sub_tile (hR : Apart R) (A : s.Idx → E) {n : ℕ} {k : ι} (hk : n ≤ ord k) : sub (R k) (tile ord R W A n) = sub (R k) A := by
  funext x
  exact tile_off A fun k' x' h e => by
    have := hR _ _ _ _ e; subst this; omega

/-- Writing the next rectangle. -/
theorem upd_tile (hR : Apart R) (ho : Function.Injective ord) (A : s.Idx → E) (k : ι) :
    upd (R k) (tile ord R W A (ord k)) (W k) = tile ord R W A (ord k + 1) := by
  funext i
  by_cases h : ∃ x, (R k).emb x = i
  · obtain ⟨x, rfl⟩ := h
    rw [upd_emb, tile_emb hR A (Nat.lt_succ_self _)]
  · have h' := not_exists.mp h
    rw [upd_off _ _ _ h']
    by_cases g : ∃ p : (Σ j, (R j).shape.Idx), ord p.1 < ord k ∧ (R p.1).emb p.2 = i
    · obtain ⟨⟨k', x'⟩, hk, rfl⟩ := g
      rw [tile_emb hR A hk, tile_emb hR A (Nat.lt_succ_of_lt hk)]
    · rw [tile_off A fun k' x' hk e => g ⟨⟨k', x'⟩, hk, e⟩, tile_off A fun k' x' hk e => ?_]
      rcases Nat.lt_succ_iff_lt_or_eq.mp hk with hlt | heq
      · exact g ⟨⟨k', x'⟩, hlt, e⟩
      · have := ho heq; subst this; exact h' x' e

/-- Two starts that agree off the family leave the same contents. -/
theorem tile_congr (hR : Apart R) {A B : s.Idx → E} {n : ℕ} (h : ∀ i, (∀ k x, ord k < n → (R k).emb x ≠ i) → A i = B i) :
    tile ord R W A n = tile ord R W B n := by
  funext i
  by_cases g : ∃ p : (Σ j, (R j).shape.Idx), ord p.1 < n ∧ (R p.1).emb p.2 = i
  · obtain ⟨⟨k', x'⟩, hk, rfl⟩ := g
    rw [tile_emb hR A hk, tile_emb hR B hk]
  · have : ∀ k x, ord k < n → (R k).emb x ≠ i := fun k x hk e => g ⟨⟨k, x⟩, hk, e⟩
    rw [tile_off A this, tile_off B this, h i this]

end Tile

end Cert.KernelIdeal
-- ==== Proof.Steps.lean ====
/-
  Running the memory operations of the body: loads and stores through a buffer owned at known contents,
  the loops over heads and batches, and the blocks.
-/
module

public import proofs.«01_k».proof.Proof.Roll
public import proofs.«01_k».proof.Proof.Tile
public import Idealize.ShloMosaic.Lib.Pipeline.Launch
public import Idealize.ShloMosaic.Lib.Pipeline.Kit
public import Idealize.ShloMosaic.Lib.Tactic

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- The ghost state: the pipeline's and the devices' rounds, a duty named by the device that pays it. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- No variants. -/
abbrev 𝒱₀ : Variants := Variants.none

/-- Program `K` run on device `c` ends in `Q`. -/
abbrev WP (c : Dev nD) (K : P F) (Q : PUnit.{1} → sProp 𝕄) : sProp 𝕄 :=
  wp frame (wpE defs₀ 𝒱₀ (c : Thread nD τ) none) Set.univ K Q

/-- Device `c` owns a buffer at contents `g`. -/
abbrev own' (c : Dev nD) {sp : Space} {s : Shape} {e : EltTy} (m : Memref sig .tc sp s e) (q : PosShare TreeShare)
    (g : s.Idx → Elt F e) : sProp 𝕄 := owns (c : Thread nD τ) m q g

section Ops
variable {cs : CoreSpace} {s : Shape} {e : EltTy}

/-- A load of a rectangle reads what the rectangle holds. -/
theorem wp_ld {Q : PUnit.{1} → sProp 𝕄} (c : Dev nD) (m : Memref sig .tc cs s e) (r : Rect s) (q : PosShare TreeShare) (g : s.Idx → Elt F e)
    {hl : m.view.LoadsAt r.toLoadRect} (k : (r.shape.Idx → Elt F e) → P F) :
    own' c m q g ⊢ iprop((own' c m q g -∗ WP c (k (sub r g)) Q) -∗ WP c (.op (.load m r.toLoadRect hl) k) Q) := by
  unfold own' owns
  iintro ⟨%f, %hf, H⟩ HK
  have L := wp_load_rect (defs := defs₀ (F := F)) (Q := Q) 𝒱₀ (c : Thread nD τ) none (Γ := .empty) Set.univ (m := m) (r := r) (hl := hl) (k := k)
    (S := m.view.set) (q := q) (f := f) (View.set_slice_subset _ _)
  iapply L $$ H
  iintro H
  have : (m.access r).read (Elt F) f = sub r g := by subst hf; rfl
  rw [this]
  iapply HK
  iexists f
  isplitr
  · ipureintro; exact hf
  · iexact H

/-- A store of a rectangle rewrites it. -/
theorem wp_st {Q : PUnit.{1} → sProp 𝕄} (c : Dev nD) (m : Memref sig .tc cs s e) (r : Rect s) (g : s.Idx → Elt F e) (w : r.shape.Idx → Elt F e)
    {hx : (m.access r).Stores Finset.univ} {hm : (Finset.univ : Finset r.shape.Idx) = Finset.univ ∨ ∀ a, r.stride a = 1}
    (k : PUnit.{1} → P F) :
    own' c m fullShare g ⊢ iprop((own' c m fullShare (upd r g w) -∗ WP c (k ⟨⟩) Q) -∗ WP c (.op (.store m r w Finset.univ hx hm) k) Q) := by
  unfold own' owns
  iintro ⟨%f, %hf, H⟩ HK
  have L := wp_store (defs := defs₀ (F := F)) (Q := Q) 𝒱₀ (c : Thread nD τ) none (Γ := .empty) Set.univ (m := m) (r := r) (w := w) (Mk := Finset.univ) (hx := hx)
    (hm := hm) (k := k) (S := m.view.set) (f := f) (View.set_slice_subset _ _)
  iapply L $$ H
  iintro H
  iapply HK
  iexists _
  isplitr
  swap
  · iexact H
  · ipureintro
    funext i
    by_cases h : ∃ x, r.emb x = i
    · obtain ⟨x, rfl⟩ := h
      rw [upd_emb]; exact View.read_slice_write_emb r f w (Finset.mem_univ x)
    · have h' := not_exists.mp h
      rw [upd_off _ _ _ h', ← hf]
      exact View.read_slice_write_of_not_mem r f w _ fun hi => by
        obtain ⟨x, -, hx⟩ := Finset.mem_map.mp hi; exact h' x hx

end Ops

section Loops
variable (c : Dev nD)

/-- A loop over the heads: a statement that each head advances by one is advanced by eight. -/
theorem wp_each8 {Q : PUnit.{1} → sProp 𝕄} (f : Fin 8 → P F → P F) (I : ℕ → sProp 𝕄) (n : ℕ)
    (step : ∀ (h : Fin 8) (K : P F), I (n + h.val) ⊢ iprop((I (n + h.val + 1) -∗ WP c K Q) -∗ WP c (f h K) Q)) (K : P F) :
    I n ⊢ iprop((I (n + 8) -∗ WP c K Q) -∗ WP c (each8 f K) Q) := by
  unfold each8
  iintro H HK
  iapply (step 0 _) $$ H; iintro H
  iapply (step 1 _) $$ H; iintro H
  iapply (step 2 _) $$ H; iintro H
  iapply (step 3 _) $$ H; iintro H
  iapply (step 4 _) $$ H; iintro H
  iapply (step 5 _) $$ H; iintro H
  iapply (step 6 _) $$ H; iintro H
  iapply (step 7 _) $$ H; iintro H
  iapply HK; iexact H

/-- A loop over the batches, in strides of `w`. -/
theorem wp_each2 {Q : PUnit.{1} → sProp 𝕄} (f : Fin 2 → P F → P F) (I : ℕ → sProp 𝕄) (w : ℕ)
    (step : ∀ (b : Fin 2) (K : P F), I (w * b.val) ⊢ iprop((I (w * b.val + w) -∗ WP c K Q) -∗ WP c (f b K) Q)) (K : P F) :
    I 0 ⊢ iprop((I (2 * w) -∗ WP c K Q) -∗ WP c (each2 f K) Q) := by
  unfold each2
  have h0 (K : P F) : I 0 ⊢ iprop((I w -∗ WP c K Q) -∗ WP c (f 0 K) Q) := by
    have := step 0 K
    simpa using this
  have h1 (K : P F) : I w ⊢ iprop((I (2 * w) -∗ WP c K Q) -∗ WP c (f 1 K) Q) := by
    have := step 1 K
    simpa [two_mul] using this
  iintro H HK
  iapply (h0 _) $$ H; iintro H
  iapply (h1 _) $$ H; iintro H
  iapply HK; iexact H

end Loops

/-! ## The boxes of a block -/

/-- A head's columns of one batch's rows `r0..r0+nr`. -/
abbrev boxA {B nr : ℕ} (r0 : ℕ) (hr : r0 + nr ≤ B) (p : Fin 2 × Fin 8) : Rect (sh3 2 B 512) :=
  rc p.1 r0 (64 * p.2.val) nr 64 hr (hcol p.2)
/-- A head's column of sums. -/
abbrev boxL {B nr : ℕ} (r0 : ℕ) (hr : r0 + nr ≤ B) (p : Fin 2 × Fin 8) : Rect (sh3 2 B 8) :=
  rc p.1 r0 p.2.val nr 1 hr (hone p.2)
/-- One batch's rows, whole. -/
abbrev boxB {B C nr : ℕ} (r0 : ℕ) (hr : r0 + nr ≤ B) (b : Fin 2) : Rect (sh3 2 B C) :=
  rc b r0 0 nr C hr (by omega)

/-- The order the heads are run in. -/
def ord8 (p : Fin 2 × Fin 8) : ℕ := 8 * p.1.val + p.2.val
/-- The order the batches are run in. -/
def ord2 (b : Fin 2) : ℕ := b.val

theorem ord8_inj : Function.Injective ord8 := by
  rintro ⟨a, b⟩ ⟨c, d⟩ h
  have : 8 * a.val + b.val = 8 * c.val + d.val := h
  have h1 : a.val = c.val := by omega
  have h2 : b.val = d.val := by omega
  rw [Fin.ext h1, Fin.ext h2]
theorem ord2_inj : Function.Injective ord2 := fun _ _ h => Fin.ext h

/-- The coordinates of a rectangle's index in its buffer. -/
theorem rc_emb {B C : ℕ} {x : Fin 2} {y z b c : ℕ} {hy : y + b ≤ B} {hz : z + c ≤ C} (j : (rc x y z b c hy hz).shape.Idx) :
    (((rc x y z b c hy hz).emb j) 0).val = x.val ∧ (((rc x y z b c hy hz).emb j) 1).val = y + (j 1).val ∧ (j 1).val < b
      ∧ (((rc x y z b c hy hz).emb j) 2).val = z + (j 2).val ∧ (j 2).val < c := by
  have h0 : (j 0).val < 1 := (j 0).isLt
  have h1 : (j 1).val < b := (j 1).isLt
  have h2 : (j 2).val < c := (j 2).isLt
  refine ⟨?_, ?_, h1, ?_, h2⟩
  · show x.val + 1 * (j 0).val = x.val; omega
  · show y + 1 * (j 1).val = _; omega
  · show z + 1 * (j 2).val = _; omega

theorem apartA {B nr : ℕ} (r0 : ℕ) (hr : r0 + nr ≤ B) : Apart (boxA (B := B) r0 hr) := by
  rintro ⟨b, h⟩ ⟨b', h'⟩ x x' e
  obtain ⟨a0, a1, a2, a3, a4⟩ := rc_emb x
  obtain ⟨c0, c1, c2, c3, c4⟩ := rc_emb x'
  have e0 := congrArg Fin.val (congrFun e 0)
  have e2 := congrArg Fin.val (congrFun e 2)
  have hb : b.val = b'.val := a0.symm.trans (e0.trans c0)
  have hh : 64 * h.val + (x 2).val = 64 * h'.val + (x' 2).val := a3.symm.trans (e2.trans c3)
  have hh' : h.val = h'.val := by omega
  rw [Fin.ext hb, Fin.ext hh']
theorem apartL {B nr : ℕ} (r0 : ℕ) (hr : r0 + nr ≤ B) : Apart (boxL (B := B) r0 hr) := by
  rintro ⟨b, h⟩ ⟨b', h'⟩ x x' e
  obtain ⟨a0, a1, a2, a3, a4⟩ := rc_emb x
  obtain ⟨c0, c1, c2, c3, c4⟩ := rc_emb x'
  have e0 := congrArg Fin.val (congrFun e 0)
  have e2 := congrArg Fin.val (congrFun e 2)
  have hb : b.val = b'.val := a0.symm.trans (e0.trans c0)
  have hh : h.val + (x 2).val = h'.val + (x' 2).val := a3.symm.trans (e2.trans c3)
  have hh' : h.val = h'.val := by omega
  rw [Fin.ext hb, Fin.ext hh']
theorem apartB {B C nr : ℕ} (r0 : ℕ) (hr : r0 + nr ≤ B) : Apart (boxB (B := B) (C := C) r0 hr) := by
  intro b b' x x' e
  have e0 := congrArg Fin.val (congrFun e 0)
  exact Fin.ext ((rc_emb x).1.symm.trans (e0.trans (rc_emb x').1))

/-! ## Blocks -/

section Block
variable {nr nc nk : ℕ}

/-- A batch's key or value rows `c0..c0+nc`. -/
def keyRows (gk : GeoK nc) (g : Vec F (sh3 2 nk 512) .bf16) (c0 : ℕ) (hc : c0 + nc ≤ nk) (b : Fin 2) : FVec F (sh2 nc 512) .bf16 :=
  shapeCast (sh2 nc 512) (sub (rc b c0 0 nc 512 hc (by omega)) g) gk.ck

/-- What a first block writes into the products. -/
def wInitA (g : Geo nr nc) (gk : GeoK nc) (bias : Option (FVec F (sh2 nr nc) .f32)) (gQ : Vec F (sh3 2 512 512) .bf16)
    (gK gV : Vec F (sh3 2 nk 512) .bf16) (r0 c0 : ℕ) (hr : r0 + nr ≤ 512) (hc : c0 + nc ≤ nk) (p : Fin 2 × Fin 8) :
    (boxA (B := 512) r0 hr p).shape.Idx → Elt F .f32 :=
  initA g gk bias (keyRows gk gK c0 hc p.1) (keyRows gk gV c0 hc p.1) p.2 (sub (boxA (B := 512) r0 hr p) gQ)
/-- What a first block writes into the sums. -/
def wInitL (g : Geo nr nc) (gk : GeoK nc) (bias : Option (FVec F (sh2 nr nc) .f32)) (gQ : Vec F (sh3 2 512 512) .bf16)
    (gK : Vec F (sh3 2 nk 512) .bf16) (r0 c0 : ℕ) (hr : r0 + nr ≤ 512) (hc : c0 + nc ≤ nk) (p : Fin 2 × Fin 8) :
    (boxL (B := 512) r0 hr p).shape.Idx → Elt F .f32 :=
  initL g gk bias (keyRows gk gK c0 hc p.1) p.2 (sub (boxA (B := 512) r0 hr p) gQ)
/-- What a later block writes into the products. -/
def wIncA (g : Geo nr nc) (gk : GeoK nc) (bias : Option (FVec F (sh2 nr nc) .f32)) (gQ : Vec F (sh3 2 512 512) .bf16)
    (gK gV : Vec F (sh3 2 nk 512) .bf16) (r0 c0 : ℕ) (hr : r0 + nr ≤ 512) (hc : c0 + nc ≤ nk) (A : Vec F (sh3 2 512 512) .f32)
    (p : Fin 2 × Fin 8) : (boxA (B := 512) r0 hr p).shape.Idx → Elt F .f32 :=
  incA g gk bias (keyRows gk gK c0 hc p.1) (keyRows gk gV c0 hc p.1) p.2 (sub (boxA (B := 512) r0 hr p) gQ) (sub (boxA (B := 512) r0 hr p) A)
/-- What a later block writes into the sums. -/
def wIncL (g : Geo nr nc) (gk : GeoK nc) (bias : Option (FVec F (sh2 nr nc) .f32)) (gQ : Vec F (sh3 2 512 512) .bf16)
    (gK : Vec F (sh3 2 nk 512) .bf16) (r0 c0 : ℕ) (hr : r0 + nr ≤ 512) (hc : c0 + nc ≤ nk) (L : Vec F (sh3 2 512 8) .f32)
    (p : Fin 2 × Fin 8) : (boxL (B := 512) r0 hr p).shape.Idx → Elt F .f32 :=
  incL g gk bias (keyRows gk gK c0 hc p.1) p.2 (sub (boxA (B := 512) r0 hr p) gQ) (sub (boxL (B := 512) r0 hr p) L)

/-- The products after a first block. -/
def blkInitA (g : Geo nr nc) (gk : GeoK nc) (bias : Option (FVec F (sh2 nr nc) .f32)) (gQ : Vec F (sh3 2 512 512) .bf16)
    (gK gV : Vec F (sh3 2 nk 512) .bf16) (r0 c0 : ℕ) (hr : r0 + nr ≤ 512) (hc : c0 + nc ≤ nk) (A : Vec F (sh3 2 512 512) .f32) :
    Vec F (sh3 2 512 512) .f32 := tile ord8 (boxA (B := 512) r0 hr) (wInitA g gk bias gQ gK gV r0 c0 hr hc) A 16
/-- The sums after a first block. -/
def blkInitL (g : Geo nr nc) (gk : GeoK nc) (bias : Option (FVec F (sh2 nr nc) .f32)) (gQ : Vec F (sh3 2 512 512) .bf16)
    (gK : Vec F (sh3 2 nk 512) .bf16) (r0 c0 : ℕ) (hr : r0 + nr ≤ 512) (hc : c0 + nc ≤ nk) (L : Vec F (sh3 2 512 8) .f32) :
    Vec F (sh3 2 512 8) .f32 := tile ord8 (boxL (B := 512) r0 hr) (wInitL g gk bias gQ gK r0 c0 hr hc) L 16
/-- The products after a later block. -/
def blkIncA (g : Geo nr nc) (gk : GeoK nc) (bias : Option (FVec F (sh2 nr nc) .f32)) (gQ : Vec F (sh3 2 512 512) .bf16)
    (gK gV : Vec F (sh3 2 nk 512) .bf16) (r0 c0 : ℕ) (hr : r0 + nr ≤ 512) (hc : c0 + nc ≤ nk) (A : Vec F (sh3 2 512 512) .f32) :
    Vec F (sh3 2 512 512) .f32 := tile ord8 (boxA (B := 512) r0 hr) (wIncA g gk bias gQ gK gV r0 c0 hr hc A) A 16
/-- The sums after a later block. -/
def blkIncL (g : Geo nr nc) (gk : GeoK nc) (bias : Option (FVec F (sh2 nr nc) .f32)) (gQ : Vec F (sh3 2 512 512) .bf16)
    (gK : Vec F (sh3 2 nk 512) .bf16) (r0 c0 : ℕ) (hr : r0 + nr ≤ 512) (hc : c0 + nc ≤ nk) (L : Vec F (sh3 2 512 8) .f32) :
    Vec F (sh3 2 512 8) .f32 := tile ord8 (boxL (B := 512) r0 hr) (wIncL g gk bias gQ gK r0 c0 hr hc L) L 16

/-- One head of a first block: its boxes of the sums and the products rewritten. -/
theorem wp_headInit {Q : PUnit.{1} → sProp 𝕄} (c : Dev nD) (g : Geo nr nc) (gk : GeoK nc) (bias : Option (FVec F (sh2 nr nc) .f32))
    (k v : FVec F (sh2 nc 512) .bf16) (b : Fin 2) (r0 : ℕ) (hr : r0 + nr ≤ 512) (h : Fin 8) (q : PosShare TreeShare)
    (gQ : Vec F (sh3 2 512 512) .bf16) (A : Vec F (sh3 2 512 512) .f32) (L : Vec F (sh3 2 512 8) .f32) (K : P F) :
    iprop(own' c mQ q gQ ∗ own' c mA fullShare A ∗ own' c mL fullShare L)
      ⊢ iprop(((own' c mQ q gQ ∗ own' c mA fullShare (upd (boxA (B := 512) r0 hr (b, h)) A (initA g gk bias k v h (sub (boxA (B := 512) r0 hr (b, h)) gQ)))
          ∗ own' c mL fullShare (upd (boxL (B := 512) r0 hr (b, h)) L (initL g gk bias k h (sub (boxA (B := 512) r0 hr (b, h)) gQ)))) -∗ WP c K Q)
        -∗ WP c (headInit g gk bias k v b r0 hr h K) Q) := by
  unfold headInit
  iintro ⟨HQ, HA, HL⟩ HK
  iapply (wp_ld c mQ _ q gQ _) $$ HQ; iintro HQ
  iapply (wp_ld c mL _ fullShare L _) $$ HL; iintro HL
  iapply (wp_st c mL _ L _ _) $$ HL; iintro HL
  iapply (wp_ld c mA _ fullShare A _) $$ HA; iintro HA
  iapply (wp_st c mA _ A _ _) $$ HA; iintro HA
  iapply HK
  isplitl [HQ]; · iexact HQ
  isplitl [HA]; · iexact HA
  iexact HL

/-- One head of a later block. -/
theorem wp_headInc {Q : PUnit.{1} → sProp 𝕄} (c : Dev nD) (g : Geo nr nc) (gk : GeoK nc) (bias : Option (FVec F (sh2 nr nc) .f32))
    (k v : FVec F (sh2 nc 512) .bf16) (b : Fin 2) (r0 : ℕ) (hr : r0 + nr ≤ 512) (h : Fin 8) (q : PosShare TreeShare)
    (gQ : Vec F (sh3 2 512 512) .bf16) (A : Vec F (sh3 2 512 512) .f32) (L : Vec F (sh3 2 512 8) .f32) (K : P F) :
    iprop(own' c mQ q gQ ∗ own' c mA fullShare A ∗ own' c mL fullShare L)
      ⊢ iprop(((own' c mQ q gQ ∗ own' c mA fullShare (upd (boxA (B := 512) r0 hr (b, h)) A (incA g gk bias k v h (sub (boxA (B := 512) r0 hr (b, h)) gQ) (sub (boxA (B := 512) r0 hr (b, h)) A)))
          ∗ own' c mL fullShare (upd (boxL (B := 512) r0 hr (b, h)) L (incL g gk bias k h (sub (boxA (B := 512) r0 hr (b, h)) gQ) (sub (boxL (B := 512) r0 hr (b, h)) L)))) -∗ WP c K Q)
        -∗ WP c (headInc g gk bias k v b r0 hr h K) Q) := by
  unfold headInc
  iintro ⟨HQ, HA, HL⟩ HK
  iapply (wp_ld c mQ _ q gQ _) $$ HQ; iintro HQ
  iapply (wp_ld c mL _ fullShare L _) $$ HL; iintro HL
  iapply (wp_ld c mL _ fullShare L _) $$ HL; iintro HL
  iapply (wp_st c mL _ L _ _) $$ HL; iintro HL
  iapply (wp_ld c mA _ fullShare A _) $$ HA; iintro HA
  iapply (wp_ld c mA _ fullShare A _) $$ HA; iintro HA
  iapply (wp_st c mA _ A _ _) $$ HA; iintro HA
  iapply HK
  isplitl [HQ]; · iexact HQ
  isplitl [HA]; · iexact HA
  iexact HL

/-- What a block holds while it runs. -/
def blkSt (c : Dev nD) (mk mv : Memref sig .tc .vmem (sh3 2 nk 512) .bf16) (q qk qv : PosShare TreeShare)
    (gQ : Vec F (sh3 2 512 512) .bf16) (gK gV : Vec F (sh3 2 nk 512) .bf16) (A : Vec F (sh3 2 512 512) .f32) (L : Vec F (sh3 2 512 8) .f32) : sProp 𝕄 :=
  iprop(own' c mQ q gQ ∗ own' c mk qk gK ∗ own' c mv qv gV ∗ own' c mA fullShare A ∗ own' c mL fullShare L)

/-- A block whose heads rewrite their boxes rewrites them all. -/
theorem wp_blk {Q : PUnit.{1} → sProp 𝕄} (c : Dev nD) (gk : GeoK nc) (mk mv : Memref sig .tc .vmem (sh3 2 nk 512) .bf16)
    (q qk qv : PosShare TreeShare) (gQ : Vec F (sh3 2 512 512) .bf16) (gK gV : Vec F (sh3 2 nk 512) .bf16)
    (r0 c0 : ℕ) (hr : r0 + nr ≤ 512) (hc : c0 + nc ≤ nk)
    (head : FVec F (sh2 nc 512) .bf16 → FVec F (sh2 nc 512) .bf16 → Fin 2 → Fin 8 → P F → P F)
    (WA : ∀ p : Fin 2 × Fin 8, (boxA (B := 512) r0 hr p).shape.Idx → Elt F .f32)
    (WL : ∀ p : Fin 2 × Fin 8, (boxL (B := 512) r0 hr p).shape.Idx → Elt F .f32)
    (A : Vec F (sh3 2 512 512) .f32) (L : Vec F (sh3 2 512 8) .f32)
    (step : ∀ (p : Fin 2 × Fin 8) (K : P F),
      iprop(own' c mQ q gQ ∗ own' c mA fullShare (tile ord8 (boxA (B := 512) r0 hr) WA A (ord8 p)) ∗ own' c mL fullShare (tile ord8 (boxL (B := 512) r0 hr) WL L (ord8 p)))
        ⊢ iprop(((own' c mQ q gQ ∗ own' c mA fullShare (upd (boxA (B := 512) r0 hr p) (tile ord8 (boxA (B := 512) r0 hr) WA A (ord8 p)) (WA p))
            ∗ own' c mL fullShare (upd (boxL (B := 512) r0 hr p) (tile ord8 (boxL (B := 512) r0 hr) WL L (ord8 p)) (WL p))) -∗ WP c K Q)
          -∗ WP c (head (keyRows gk gK c0 hc p.1) (keyRows gk gV c0 hc p.1) p.1 p.2 K) Q)) (K : P F) :
    blkSt c mk mv q qk qv gQ gK gV A L
      ⊢ iprop((blkSt c mk mv q qk qv gQ gK gV (tile ord8 (boxA (B := 512) r0 hr) WA A 16) (tile ord8 (boxL (B := 512) r0 hr) WL L 16) -∗ WP c K Q)
        -∗ WP c (blk gk mk mv c0 hc head K) Q) := by
  unfold blk
  have key := wp_each2 (F := F) (Q := Q) c (fun b K =>
    ldc mk b c0 0 nc 512 hc (by omega) gk.pk fun k =>
    ldc mv b c0 0 nc 512 hc (by omega) gk.pk fun v =>
    each8 (fun h K => head (shapeCast (sh2 nc 512) k gk.ck) (shapeCast (sh2 nc 512) v gk.ck) b h K) K)
    (fun n => blkSt c mk mv q qk qv gQ gK gV (tile ord8 (boxA (B := 512) r0 hr) WA A n) (tile ord8 (boxL (B := 512) r0 hr) WL L n)) 8
    (by
      intro b K
      conv_lhs => unfold blkSt
      iintro ⟨HQ, HK, HV, HA, HL⟩ HC
      iapply (wp_ld c mk _ qk gK _) $$ HK; iintro HK
      iapply (wp_ld c mv _ qv gV _) $$ HV; iintro HV
      iapply (wp_each8 c _ (fun n => iprop(own' c mQ q gQ ∗ own' c mA fullShare (tile ord8 (boxA (B := 512) r0 hr) WA A n)
        ∗ own' c mL fullShare (tile ord8 (boxL (B := 512) r0 hr) WL L n))) (8 * b.val) (by
          intro h K
          have := step (b, h) K
          rw [upd_tile (apartA r0 hr) ord8_inj, upd_tile (apartL r0 hr) ord8_inj] at this
          exact this) _) $$ [HQ HA HL]
      · isplitl [HQ]; · iexact HQ
        isplitl [HA]; · iexact HA
        iexact HL
      iintro ⟨HQ, HA, HL⟩
      iapply HC
      unfold blkSt
      isplitl [HQ]; · iexact HQ
      isplitl [HK]; · iexact HK
      isplitl [HV]; · iexact HV
      isplitl [HA]; · iexact HA
      iexact HL) K
  rw [tile_zero, tile_zero] at key
  exact key

/-- A first block. -/
theorem wp_blkInit {Q : PUnit.{1} → sProp 𝕄} (c : Dev nD) (g : Geo nr nc) (gk : GeoK nc) (bias : Option (FVec F (sh2 nr nc) .f32))
    (mk mv : Memref sig .tc .vmem (sh3 2 nk 512) .bf16) (q qk qv : PosShare TreeShare) (gQ : Vec F (sh3 2 512 512) .bf16)
    (gK gV : Vec F (sh3 2 nk 512) .bf16) (r0 c0 : ℕ) (hr : r0 + nr ≤ 512) (hc : c0 + nc ≤ nk)
    (A : Vec F (sh3 2 512 512) .f32) (L : Vec F (sh3 2 512 8) .f32) (K : P F) :
    blkSt c mk mv q qk qv gQ gK gV A L
      ⊢ iprop((blkSt c mk mv q qk qv gQ gK gV (blkInitA g gk bias gQ gK gV r0 c0 hr hc A) (blkInitL g gk bias gQ gK r0 c0 hr hc L) -∗ WP c K Q)
        -∗ WP c (blkInit g gk bias mk mv r0 c0 hr hc K) Q) := by
  unfold blkInit
  exact wp_blk c gk mk mv q qk qv gQ gK gV r0 c0 hr hc _ (wInitA g gk bias gQ gK gV r0 c0 hr hc) (wInitL g gk bias gQ gK r0 c0 hr hc) A L
    (fun p K => wp_headInit c g gk bias _ _ p.1 r0 hr p.2 q gQ _ _ K) K

/-- A later block. -/
theorem wp_blkInc {Q : PUnit.{1} → sProp 𝕄} (c : Dev nD) (g : Geo nr nc) (gk : GeoK nc) (bias : Option (FVec F (sh2 nr nc) .f32))
    (mk mv : Memref sig .tc .vmem (sh3 2 nk 512) .bf16) (q qk qv : PosShare TreeShare) (gQ : Vec F (sh3 2 512 512) .bf16)
    (gK gV : Vec F (sh3 2 nk 512) .bf16) (r0 c0 : ℕ) (hr : r0 + nr ≤ 512) (hc : c0 + nc ≤ nk)
    (A : Vec F (sh3 2 512 512) .f32) (L : Vec F (sh3 2 512 8) .f32) (K : P F) :
    blkSt c mk mv q qk qv gQ gK gV A L
      ⊢ iprop((blkSt c mk mv q qk qv gQ gK gV (blkIncA g gk bias gQ gK gV r0 c0 hr hc A) (blkIncL g gk bias gQ gK r0 c0 hr hc L) -∗ WP c K Q)
        -∗ WP c (blkInc g gk bias mk mv r0 c0 hr hc K) Q) := by
  unfold blkInc
  refine wp_blk c gk mk mv q qk qv gQ gK gV r0 c0 hr hc _ (wIncA g gk bias gQ gK gV r0 c0 hr hc A) (wIncL g gk bias gQ gK r0 c0 hr hc L) A L
    (fun p K => ?_) K
  have := wp_headInc (Q := Q) c g gk bias (keyRows gk gK c0 hc p.1) (keyRows gk gV c0 hc p.1) p.1 r0 hr p.2 q gQ
    (tile ord8 (boxA (B := 512) r0 hr) (wIncA g gk bias gQ gK gV r0 c0 hr hc A) A (ord8 p))
    (tile ord8 (boxL (B := 512) r0 hr) (wIncL g gk bias gQ gK r0 c0 hr hc L) L (ord8 p)) K
  rw [sub_tile (apartA r0 hr) A le_rfl, sub_tile (apartL r0 hr) L le_rfl] at this
  exact this

end Block

end Cert.KernelIdeal
-- ==== Proof.Phases.lean ====
/-
  What the buffers hold after each phase of the body, and each phase's run.
-/
module

public import proofs.«01_k».proof.Proof.Steps
public import Idealize.ShloMosaic.Lib.Pointwise.Index
public import Idealize.ShloMosaic.Lib.ValueLayout

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## Coverings -/

theorem tile_cover {s : Shape} {E ι : Type} {ord : ι → ℕ} {R : ι → Rect s} {W : ∀ k, (R k).shape.Idx → E} (hR : Apart R)
    {n : ℕ} (h : ∀ i, ∃ k x, ord k < n ∧ (R k).emb x = i) (A B : s.Idx → E) : tile ord R W A n = tile ord R W B n :=
  tile_congr hR fun i hi => by obtain ⟨k, x, hk, e⟩ := h i; exact absurd e (hi k x hk)

/-- An index whose coordinates lie in a rectangle is one of its. -/
theorem rc_mem {B C : ℕ} {x : Fin 2} {y z b c : ℕ} {hy : y + b ≤ B} {hz : z + c ≤ C} (i : (sh3 2 B C).Idx)
    (h0 : (i 0).val = x.val) (h1 : y ≤ (i 1).val) (h1' : (i 1).val < y + b) (h2 : z ≤ (i 2).val) (h2' : (i 2).val < z + c) :
    ∃ j, (rc x y z b c hy hz).emb j = i := by
  refine ⟨(ix3 (n0 := 1) (n1 := b) (n2 := c) 0 ⟨(i 1).val - y, by omega⟩ ⟨(i 2).val - z, by omega⟩ : (sh3 1 b c).Idx), ?_⟩
  funext a
  apply Fin.ext
  match a with
  | ⟨0, _⟩ => show x.val + 1 * 0 = (i 0).val; omega
  | ⟨1, _⟩ => show y + 1 * ((i 1).val - y) = (i 1).val; omega
  | ⟨2, _⟩ => show z + 1 * ((i 2).val - z) = (i 2).val; omega

theorem coverB {B C : ℕ} (hr : 0 + B ≤ B) (i : (sh3 2 B C).Idx) : ∃ k x, ord2 k < 2 ∧ (boxB (C := C) 0 hr k).emb x = i := by
  have h1 : (i 1).val < B := (i 1).isLt
  have h2 : (i 2).val < C := (i 2).isLt
  obtain ⟨j, hj⟩ := rc_mem (x := (⟨(i 0).val, (i 0).isLt⟩ : Fin 2)) (y := 0) (z := 0) (b := B) (c := C) (hy := hr) (hz := by omega) i rfl
    (by omega) (by omega) (by omega) (by omega)
  exact ⟨_, j, Fin.isLt _, hj⟩

/-- The heads' boxes of rows `r0..r0+nr` hold every index of these rows. -/
theorem coverA {B nr r0 : ℕ} (hr : r0 + nr ≤ B) (i : (sh3 2 B 512).Idx) (h : r0 ≤ (i 1).val) (h' : (i 1).val < r0 + nr) :
    ∃ k x, ord8 k < 16 ∧ (boxA r0 hr k).emb x = i := by
  have h2 : (i 2).val < 512 := (i 2).isLt
  have h0 : (i 0).val < 2 := (i 0).isLt
  obtain ⟨j, hj⟩ := rc_mem (x := (⟨(i 0).val, h0⟩ : Fin 2)) (y := r0) (z := 64 * ((i 2).val / 64)) (b := nr) (c := 64) (hy := hr) (hz := by omega) i rfl
    (by omega) (by omega) (by omega) (by omega)
  refine ⟨(⟨(i 0).val, h0⟩, ⟨(i 2).val / 64, by omega⟩), j, ?_, hj⟩
  show 8 * (i 0).val + (i 2).val / 64 < 16; omega
theorem coverL {B nr r0 : ℕ} (hr : r0 + nr ≤ B) (i : (sh3 2 B 8).Idx) (h : r0 ≤ (i 1).val) (h' : (i 1).val < r0 + nr) :
    ∃ k x, ord8 k < 16 ∧ (boxL r0 hr k).emb x = i := by
  have h2 : (i 2).val < 8 := (i 2).isLt
  have h0 : (i 0).val < 2 := (i 0).isLt
  obtain ⟨j, hj⟩ := rc_mem (x := (⟨(i 0).val, h0⟩ : Fin 2)) (y := r0) (z := (i 2).val) (b := nr) (c := 1) (hy := hr) (hz := by omega) i rfl
    (by omega) (by omega) (by omega) (by omega)
  refine ⟨(⟨(i 0).val, h0⟩, ⟨(i 2).val, h2⟩), j, ?_, hj⟩
  show 8 * (i 0).val + (i 2).val < 16; omega

/-! ## Contents -/

/-- A buffer of zeros, where nothing is left of it. -/
def zf (s : Shape) : Vec F s .f32 := constant s .f32 0x00000000#32
def zb (s : Shape) : Vec F s .bf16 := constant s .bf16 0x0000#16

/-- The query weights and the output weights, as loaded whole. -/
abbrev rWq : Rect S768x512 := Rect.unit (s := S768x512) ![0, 0] S768x512.size Facts₀.inb_S768x512_S768x512_0_0
abbrev rWo : Rect S512x768 := Rect.unit (s := S512x768) ![0, 0] S512x768.size Facts₀.inb_S512x768_S512x768_0_0

/-- The queries' batches. -/
def wQ (gWq : Vec F S768x512 .bf16) (gX : Vec F S2x512x768 .bf16) (b : Fin 2) :
    (boxB (B := 512) (C := 512) (nr := 512) 0 (by omega) b).shape.Idx → Elt F .bf16 :=
  qV (wqV (sub rWq gWq)) (sub (boxB (B := 512) (C := 768) (nr := 512) 0 (by omega) b) gX)
/-- The queries. -/
def qC (gWq : Vec F S768x512 .bf16) (gX : Vec F S2x512x768 .bf16) : Vec F (sh3 2 512 512) .bf16 :=
  tile ord2 (boxB (B := 512) (C := 512) (nr := 512) 0 (by omega)) (wQ gWq gX) (zb _) 2
/-- The keys' or the values' batches, narrowed. -/
def wN (g : Vec F (sh3 2 512 512) .f32) (b : Fin 2) : (boxB (B := 512) (C := 512) (nr := 512) 0 (by omega) b).shape.Idx → Elt F .bf16 :=
  narrowV (sub (boxB (B := 512) (C := 512) (nr := 512) 0 (by omega) b) g)
/-- The keys or the values, narrowed. -/
def nC (g : Vec F (sh3 2 512 512) .f32) : Vec F (sh3 2 512 512) .bf16 :=
  tile ord2 (boxB (B := 512) (C := 512) (nr := 512) 0 (by omega)) (wN g) (zb _) 2

section Own
variable (d : Dev nD) (gQ gK gV : Vec F (sh3 2 512 512) .bf16)
/-- The products after the own blocks, over what the buffer held. -/
def ownA0 (A : Vec F (sh3 2 512 512) .f32) : Vec F (sh3 2 512 512) .f32 :=
  blkInitA geo_own geoK_384 (some (ownBias geoI_own d 256#32 128#32)) gQ gK gV 256 128 (by omega) (by omega) <|
  blkInitA geo_own geoK_384 (some (ownBias geoI_own d 0#32 0#32)) gQ gK gV 0 0 (by omega) (by omega) A
/-- The sums after the first own blocks. -/
def ownL0 (L : Vec F (sh3 2 512 8) .f32) : Vec F (sh3 2 512 8) .f32 :=
  blkInitL geo_own geoK_384 (some (ownBias geoI_own d 256#32 128#32)) gQ gK 256 128 (by omega) (by omega) <|
  blkInitL geo_own geoK_384 (some (ownBias geoI_own d 0#32 0#32)) gQ gK 0 0 (by omega) (by omega) L
/-- The products after the own blocks. -/
def ownA : Vec F (sh3 2 512 512) .f32 :=
  blkIncA geo_rest geoK_128 (some (ownBias geoI_rest d 0#32 384#32)) gQ gK gV 0 384 (by omega) (by omega) <|
  blkIncA geo_glob geoK_32 (some (ownBias geoI_glob d 256#32 0#32)) gQ gK gV 256 0 (by omega) (by omega) <|
  ownA0 d gQ gK gV (zf _)
/-- The sums after the own blocks. -/
def ownL : Vec F (sh3 2 512 8) .f32 :=
  blkIncL geo_rest geoK_128 (some (ownBias geoI_rest d 0#32 384#32)) gQ gK 0 384 (by omega) (by omega) <|
  blkIncL geo_glob geoK_32 (some (ownBias geoI_glob d 256#32 0#32)) gQ gK 256 0 (by omega) (by omega) <|
  ownL0 d gQ gK (zf _)

theorem ownA0_eq (A B : Vec F (sh3 2 512 512) .f32) : ownA0 d gQ gK gV A = ownA0 d gQ gK gV B := by
  unfold ownA0 blkInitA
  refine tile_congr (apartA _ _) fun i hi => ?_
  have h1 : (i 1).val < 512 := (i 1).isLt
  have h : (i 1).val < 0 + 256 := by
    by_contra hc
    obtain ⟨k, x, hk, e⟩ := coverA (nr := 256) (r0 := 256) (by omega) i (by omega) (by omega)
    exact hi k x hk e
  obtain ⟨k, x, hk, e⟩ := coverA (nr := 256) (r0 := 0) (by omega) i (by omega) h
  rw [← e]
  rw [tile_emb (apartA _ _) _ hk, tile_emb (apartA _ _) _ hk]
theorem ownL0_eq (A B : Vec F (sh3 2 512 8) .f32) : ownL0 d gQ gK A = ownL0 d gQ gK B := by
  unfold ownL0 blkInitL
  refine tile_congr (apartL _ _) fun i hi => ?_
  have h1 : (i 1).val < 512 := (i 1).isLt
  have h : (i 1).val < 0 + 256 := by
    by_contra hc
    obtain ⟨k, x, hk, e⟩ := coverL (nr := 256) (r0 := 256) (by omega) i (by omega) (by omega)
    exact hi k x hk e
  obtain ⟨k, x, hk, e⟩ := coverL (nr := 256) (r0 := 0) (by omega) i (by omega) h
  rw [← e]
  rw [tile_emb (apartL _ _) _ hk, tile_emb (apartL _ _) _ hk]
end Own

section Part
variable (gQ : Vec F (sh3 2 32 512) .bf16) (gK gV : Vec F (sh3 2 512 512) .bf16)
/-- The exponentials of device 0's first rows against another device's keys, for a head of a batch. -/
def wPart (p : Fin 2 × Fin 8) : FVec F (sh2 32 512) .bf16 :=
  wV geo_part none (shapeCast (sh2 32 64) (sub (boxA (B := 32) (nr := 32) 0 (by omega) p) gQ) geo_part.cq)
    (shapeCast (sh2 512 64) (sub (boxA (B := 512) (nr := 512) 0 (by omega) p) gK) geo_far.cq)
def wPA (p : Fin 2 × Fin 8) : (boxA (B := 32) (nr := 32) 0 (by omega) p).shape.Idx → Elt F .f32 :=
  shapeCast (sh3 1 32 64) (pvV geo_part (wPart gQ gK p)
    (shapeCast (sh2 512 64) (sub (boxA (B := 512) (nr := 512) 0 (by omega) p) gV) geo_far.cq)) geo_part.cq'
def wPL (p : Fin 2 × Fin 8) : (boxL (B := 32) (nr := 32) 0 (by omega) p).shape.Idx → Elt F .f32 :=
  shapeCast (sh3 1 32 1) (lsumV geo_part (wPart gQ gK p)) geo_part.cl'
/-- Another device's products for device 0's first rows. -/
def paC : Vec F (sh3 2 32 512) .f32 := tile ord8 (boxA (B := 32) (nr := 32) 0 (by omega)) (wPA gQ gK gV) (zf _) 16
/-- Another device's sums for device 0's first rows. -/
def plC : Vec F (sh3 2 32 8) .f32 := tile ord8 (boxL (B := 32) (nr := 32) 0 (by omega)) (wPL gQ gK) (zf _) 16
end Part

section Halo
variable (d : Dev nD) (gQ : Vec F (sh3 2 512 512) .bf16) (gLk gLv gRk gRv : Vec F (sh3 2 128 512) .bf16)
/-- The products after the halo blocks. -/
def haloA (A : Vec F (sh3 2 512 512) .f32) : Vec F (sh3 2 512 512) .f32 :=
  blkIncA geo_halo geoK_128 (some (rightBias d)) gQ gRk gRv 384 0 (by omega) (by omega) <|
  blkIncA geo_halo geoK_128 (some (leftBias d)) gQ gLk gLv 0 0 (by omega) (by omega) A
/-- The sums after the halo blocks. -/
def haloL (L : Vec F (sh3 2 512 8) .f32) : Vec F (sh3 2 512 8) .f32 :=
  blkIncL geo_halo geoK_128 (some (rightBias d)) gQ gRk 384 0 (by omega) (by omega) <|
  blkIncL geo_halo geoK_128 (some (leftBias d)) gQ gLk 0 0 (by omega) (by omega) L
end Halo

/-- The products after the block of device 0's first keys. -/
def farA (gQ : Vec F (sh3 2 512 512) .bf16) (gK gV : Vec F (sh3 2 32 512) .bf16) (A : Vec F (sh3 2 512 512) .f32) : Vec F (sh3 2 512 512) .f32 :=
  blkIncA geo_far geoK_32 none gQ gK gV 0 0 (by omega) (by omega) A
/-- The sums after the block of device 0's first keys. -/
def farL (gQ : Vec F (sh3 2 512 512) .bf16) (gK : Vec F (sh3 2 32 512) .bf16) (L : Vec F (sh3 2 512 8) .f32) : Vec F (sh3 2 512 8) .f32 :=
  blkIncL geo_far geoK_32 none gQ gK 0 0 (by omega) (by omega) L

/-- A batch of a device's share, as loaded. -/
def slA (j : Fin 3) (g : Vec F (sh3 2 32 512) .f32) (b : Fin 2) : (rcA1 j b).shape.Idx → Elt F .f32 :=
  fun x => g (ix3 (n0 := 2) (n1 := 32) (n2 := 512) b (x 2) (x 3))
def slL (j : Fin 3) (g : Vec F (sh3 2 32 8) .f32) (b : Fin 2) : (rcL1 j b).shape.Idx → Elt F .f32 :=
  fun x => g (ix3 (n0 := 2) (n1 := 32) (n2 := 8) b (x 2) (x 3))
def wSA (j : Fin 3) (g : Vec F (sh3 2 32 512) .f32) (A : Vec F (sh3 2 512 512) .f32) (b : Fin 2) :
    (boxB (B := 512) (C := 512) (nr := 32) 0 (by omega) b).shape.Idx → Elt F .f32 :=
  addA (sub (boxB (B := 512) (C := 512) (nr := 32) 0 (by omega) b) A) (slA j g b)
def wSL (j : Fin 3) (g : Vec F (sh3 2 32 8) .f32) (L : Vec F (sh3 2 512 8) .f32) (b : Fin 2) :
    (boxB (B := 512) (C := 8) (nr := 32) 0 (by omega) b).shape.Idx → Elt F .f32 :=
  addL (sub (boxB (B := 512) (C := 8) (nr := 32) 0 (by omega) b) L) (slL j g b)
/-- The products with a device's share added. -/
def shareA (j : Fin 3) (g : Vec F (sh3 2 32 512) .f32) (A : Vec F (sh3 2 512 512) .f32) : Vec F (sh3 2 512 512) .f32 :=
  tile ord2 (boxB (B := 512) (C := 512) (nr := 32) 0 (by omega)) (wSA j g A) A 2
/-- The sums with a device's share added. -/
def shareL (j : Fin 3) (g : Vec F (sh3 2 32 8) .f32) (L : Vec F (sh3 2 512 8) .f32) : Vec F (sh3 2 512 8) .f32 :=
  tile ord2 (boxB (B := 512) (C := 8) (nr := 32) 0 (by omega)) (wSL j g L) L 2

def wC (A : Vec F (sh3 2 512 512) .f32) (L : Vec F (sh3 2 512 8) .f32) (p : Fin 2 × Fin 8) :
    (boxA (B := 512) (nr := 512) 0 (by omega) p).shape.Idx → Elt F .bf16 :=
  ctxV (linvV (sub (boxB (B := 512) (C := 8) (nr := 512) 0 (by omega) p.1) L)) p.2 (sub (boxA (B := 512) (nr := 512) 0 (by omega) p) A)
/-- The context. -/
def ctxC (A : Vec F (sh3 2 512 512) .f32) (L : Vec F (sh3 2 512 8) .f32) : Vec F (sh3 2 512 512) .bf16 :=
  tile ord8 (boxA (B := 512) (nr := 512) 0 (by omega)) (wC A L) (zb _) 16
def wO (gWo : Vec F S512x768 .bf16) (g : Vec F (sh3 2 512 512) .bf16) (b : Fin 2) :
    (boxB (B := 512) (C := 768) (nr := 512) 0 (by omega) b).shape.Idx → Elt F .bf16 :=
  outV (shapeCast S512x768 (sub rWo gWo) Facts₀.shapeCasts_S512x768_S512x768) (sub (boxB (B := 512) (C := 512) (nr := 512) 0 (by omega) b) g)
/-- The output. -/
def outC (gWo : Vec F S512x768 .bf16) (g : Vec F (sh3 2 512 512) .bf16) : Vec F (sh3 2 512 768) .bf16 :=
  tile ord2 (boxB (B := 512) (C := 768) (nr := 512) 0 (by omega)) (wO gWo g) (zb _) 2

/-! ## Runs -/

/-- The queries computed. -/
theorem wp_queries {Q : PUnit.{1} → sProp 𝕄} (c : Dev nD) (q1 q2 : PosShare TreeShare) (gWq : Vec F S768x512 .bf16)
    (gX : Vec F S2x512x768 .bf16) (A : Vec F (sh3 2 512 512) .bf16) (K : P F) :
    iprop(own' c mWq q1 gWq ∗ own' c mX q2 gX ∗ own' c mQ fullShare A)
      ⊢ iprop(((own' c mWq q1 gWq ∗ own' c mX q2 gX ∗ own' c mQ fullShare (qC gWq gX)) -∗ WP c K Q) -∗ WP c (queries K) Q) := by
  unfold queries
  iintro ⟨HW, HX, HQ⟩ HC
  iapply (wp_ld c mWq rWq q1 gWq _) $$ HW; iintro HW
  iapply (wp_each2 c _ (fun n => iprop(own' c mX q2 gX ∗ own' c mQ fullShare (tile ord2 (boxB (B := 512) (C := 512) (nr := 512) 0 (by omega)) (wQ gWq gX) A n))) 1
    (by
      intro b K
      rw [Nat.one_mul]
      iintro ⟨HX, HQ⟩ HC
      iapply (wp_ld c mX _ q2 gX _) $$ HX; iintro HX
      iapply (wp_ld c mQ _ fullShare _ _) $$ HQ; iintro HQ
      iapply (wp_st c mQ _ _ _ _) $$ HQ; iintro HQ
      iapply HC
      isplitl [HX]; · iexact HX
      have := upd_tile (apartB (B := 512) (C := 512) (nr := 512) 0 (by omega)) ord2_inj (W := wQ gWq gX) A b
      unfold ord2 at this
      unfold ord2
      rw [← this]
      iexact HQ) _) $$ [HX HQ]
  · rw [tile_zero]
    isplitl [HX]; · iexact HX
    iexact HQ
  iintro ⟨HX, HQ⟩
  iapply HC
  isplitl [HW]; · iexact HW
  isplitl [HX]; · iexact HX
  unfold qC
  rw [tile_cover (apartB _ _) (coverB _) (zb _) A]
  iexact HQ

/-- The keys and the values narrowed. -/
theorem wp_narrow {Q : PUnit.{1} → sProp 𝕄} (c : Dev nD) (q1 q2 : PosShare TreeShare) (gK gV : Vec F (sh3 2 512 512) .f32)
    (A B : Vec F (sh3 2 512 512) .bf16) (K : P F) :
    iprop(own' c mKf q1 gK ∗ own' c mVf q2 gV ∗ own' c mKo fullShare A ∗ own' c mVo fullShare B)
      ⊢ iprop(((own' c mKf q1 gK ∗ own' c mVf q2 gV ∗ own' c mKo fullShare (nC gK) ∗ own' c mVo fullShare (nC gV)) -∗ WP c K Q) -∗ WP c (narrow K) Q) := by
  unfold narrow
  iintro ⟨HK, HV, HA, HB⟩ HC
  iapply (wp_each2 c _ (fun n => iprop(own' c mKf q1 gK ∗ own' c mVf q2 gV
      ∗ own' c mKo fullShare (tile ord2 (boxB (B := 512) (C := 512) (nr := 512) 0 (by omega)) (wN gK) A n)
      ∗ own' c mVo fullShare (tile ord2 (boxB (B := 512) (C := 512) (nr := 512) 0 (by omega)) (wN gV) B n))) 1
    (by
      intro b K
      rw [Nat.one_mul]
      iintro ⟨HK, HV, HA, HB⟩ HC
      iapply (wp_ld c mKf _ q1 gK _) $$ HK; iintro HK
      iapply (wp_ld c mKo _ fullShare _ _) $$ HA; iintro HA
      iapply (wp_st c mKo _ _ _ _) $$ HA; iintro HA
      iapply (wp_ld c mVf _ q2 gV _) $$ HV; iintro HV
      iapply (wp_ld c mVo _ fullShare _ _) $$ HB; iintro HB
      iapply (wp_st c mVo _ _ _ _) $$ HB; iintro HB
      iapply HC
      have h1 := upd_tile (apartB (B := 512) (C := 512) (nr := 512) 0 (by omega)) ord2_inj (W := wN gK) A b
      have h2 := upd_tile (apartB (B := 512) (C := 512) (nr := 512) 0 (by omega)) ord2_inj (W := wN gV) B b
      unfold ord2 at h1 h2
      unfold ord2
      rw [← h1, ← h2]
      isplitl [HK]; · iexact HK
      isplitl [HV]; · iexact HV
      isplitl [HA]; · iexact HA
      iexact HB) _) $$ [HK HV HA HB]
  · rw [tile_zero, tile_zero]
    isplitl [HK]; · iexact HK
    isplitl [HV]; · iexact HV
    isplitl [HA]; · iexact HA
    iexact HB
  iintro ⟨HK, HV, HA, HB⟩
  iapply HC
  isplitl [HK]; · iexact HK
  isplitl [HV]; · iexact HV
  unfold nC
  rw [tile_cover (apartB _ _) (coverB _) (zb _) A, tile_cover (apartB _ _) (coverB _) (zb _) B]
  isplitl [HA]; · iexact HA
  iexact HB

/-- The own blocks. -/
theorem wp_ownBlocks {Q : PUnit.{1} → sProp 𝕄} (c d : Dev nD) (q qk qv : PosShare TreeShare) (gQ gK gV : Vec F (sh3 2 512 512) .bf16)
    (A : Vec F (sh3 2 512 512) .f32) (L : Vec F (sh3 2 512 8) .f32) (K : P F) :
    blkSt c mKo mVo q qk qv gQ gK gV A L
      ⊢ iprop((blkSt c mKo mVo q qk qv gQ gK gV (ownA d gQ gK gV) (ownL d gQ gK) -∗ WP c K Q) -∗ WP c (ownBlocks d K) Q) := by
  unfold ownBlocks
  iintro H HC
  iapply (wp_blkInit c geo_own geoK_384 _ mKo mVo q qk qv gQ gK gV 0 0 _ _ _ _ _) $$ H; iintro H
  iapply (wp_blkInit c geo_own geoK_384 _ mKo mVo q qk qv gQ gK gV 256 128 _ _ _ _ _) $$ H; iintro H
  iapply (wp_blkInc c geo_glob geoK_32 _ mKo mVo q qk qv gQ gK gV 256 0 _ _ _ _ _) $$ H; iintro H
  iapply (wp_blkInc c geo_rest geoK_128 _ mKo mVo q qk qv gQ gK gV 0 384 _ _ _ _ _) $$ H; iintro H
  iapply HC
  unfold ownA ownL
  rw [ownA0_eq d gQ gK gV (zf _) A, ownL0_eq d gQ gK (zf _) L]
  unfold ownA0 ownL0
  iexact H

/-- The halo blocks. -/
theorem wp_haloL {Q : PUnit.{1} → sProp 𝕄} (c d : Dev nD) (q : PosShare TreeShare) (gQ : Vec F (sh3 2 512 512) .bf16)
    (gLk gLv gRk gRv : Vec F (sh3 2 128 512) .bf16)
    (A : Vec F (sh3 2 512 512) .f32) (L : Vec F (sh3 2 512 8) .f32) (K : P F) :
    iprop(own' c mQ q gQ ∗ own' c mHlk fullShare gLk ∗ own' c mHlv fullShare gLv ∗ own' c mHrk fullShare gRk ∗ own' c mHrv fullShare gRv
        ∗ own' c mA fullShare A ∗ own' c mL fullShare L)
      ⊢ iprop(((own' c mQ q gQ ∗ own' c mHlk fullShare gLk ∗ own' c mHlv fullShare gLv ∗ own' c mHrk fullShare gRk ∗ own' c mHrv fullShare gRv
        ∗ own' c mA fullShare (haloA d gQ gLk gLv gRk gRv A) ∗ own' c mL fullShare (haloL d gQ gLk gRk L)) -∗ WP c K Q)
        -∗ WP c (blkInc geo_halo geoK_128 (some (leftBias d)) mHlk mHlv 0 0 (by omega) (by omega) <|
            blkInc geo_halo geoK_128 (some (rightBias d)) mHrk mHrv 384 0 (by omega) (by omega) K) Q) := by
  iintro ⟨HQ, H1, H2, H3, H4, HA, HL⟩ HC
  have b1 := wp_blkInc (Q := Q) c geo_halo geoK_128 (some (leftBias d)) mHlk mHlv q fullShare fullShare gQ gLk gLv 0 0 (by omega) (by omega) A L
    (blkInc geo_halo geoK_128 (some (rightBias d)) mHrk mHrv 384 0 (by omega) (by omega) K)
  have b2 := wp_blkInc (Q := Q) c geo_halo geoK_128 (some (rightBias d)) mHrk mHrv q fullShare fullShare gQ gRk gRv 384 0 (by omega) (by omega)
    (blkIncA geo_halo geoK_128 (some (leftBias d)) gQ gLk gLv 0 0 (by omega) (by omega) A)
    (blkIncL geo_halo geoK_128 (some (leftBias d)) gQ gLk 0 0 (by omega) (by omega) L) K
  unfold blkSt at b1 b2
  iapply b1 $$ [HQ H1 H2 HA HL]
  · isplitl [HQ]; · iexact HQ
    isplitl [H1]; · iexact H1
    isplitl [H2]; · iexact H2
    isplitl [HA]; · iexact HA
    iexact HL
  iintro ⟨HQ, H1, H2, HA, HL⟩
  iapply b2 $$ [HQ H3 H4 HA HL]
  · isplitl [HQ]; · iexact HQ
    isplitl [H3]; · iexact H3
    isplitl [H4]; · iexact H4
    isplitl [HA]; · iexact HA
    iexact HL
  iintro ⟨HQ, H3, H4, HA, HL⟩
  iapply HC
  unfold haloA haloL
  isplitl [HQ]; · iexact HQ
  isplitl [H1]; · iexact H1
  isplitl [H2]; · iexact H2
  isplitl [H3]; · iexact H3
  isplitl [H4]; · iexact H4
  isplitl [HA]; · iexact HA
  iexact HL

/-- Device 0's first rows against the own keys. -/
theorem wp_partialHeads {Q : PUnit.{1} → sProp 𝕄} (c : Dev nD) (q qk qv : PosShare TreeShare) (gQ : Vec F (sh3 2 32 512) .bf16)
    (gK gV : Vec F (sh3 2 512 512) .bf16) (A : Vec F (sh3 2 32 512) .f32) (L : Vec F (sh3 2 32 8) .f32) (K : P F) :
    iprop(own' c mGq q gQ ∗ own' c mKo qk gK ∗ own' c mVo qv gV ∗ own' c mPa fullShare A ∗ own' c mPl fullShare L)
      ⊢ iprop(((own' c mGq q gQ ∗ own' c mKo qk gK ∗ own' c mVo qv gV ∗ own' c mPa fullShare (paC gQ gK gV) ∗ own' c mPl fullShare (plC gQ gK)) -∗ WP c K Q)
        -∗ WP c (partialHeads K) Q) := by
  unfold partialHeads
  iintro ⟨HQ, HK, HV, HA, HL⟩ HC
  iapply (wp_each2 c _ (fun n => iprop(own' c mGq q gQ ∗ own' c mKo qk gK ∗ own' c mVo qv gV
      ∗ own' c mPa fullShare (tile ord8 (boxA (B := 32) (nr := 32) 0 (by omega)) (wPA gQ gK gV) A n)
      ∗ own' c mPl fullShare (tile ord8 (boxL (B := 32) (nr := 32) 0 (by omega)) (wPL gQ gK) L n))) 8
    (by
      intro b K
      refine wp_each8 c _ (fun n => iprop(own' c mGq q gQ ∗ own' c mKo qk gK ∗ own' c mVo qv gV
        ∗ own' c mPa fullShare (tile ord8 (boxA (B := 32) (nr := 32) 0 (by omega)) (wPA gQ gK gV) A n)
        ∗ own' c mPl fullShare (tile ord8 (boxL (B := 32) (nr := 32) 0 (by omega)) (wPL gQ gK) L n))) (8 * b.val) (fun h K => ?_) K
      have h1 := upd_tile (apartA (B := 32) (nr := 32) 0 (by omega)) ord8_inj (W := wPA gQ gK gV) A (b, h)
      have h2 := upd_tile (apartL (B := 32) (nr := 32) 0 (by omega)) ord8_inj (W := wPL gQ gK) L (b, h)
      change _ = tile ord8 _ _ _ (8 * b.val + h.val + 1) at h1 h2
      rw [← h1, ← h2]
      iintro ⟨HQ, HK, HV, HA, HL⟩ HC
      iapply (wp_ld c mGq _ q gQ _) $$ HQ; iintro HQ
      iapply (wp_ld c mKo _ qk gK _) $$ HK; iintro HK
      iapply (wp_ld c mPl _ fullShare _ _) $$ HL; iintro HL
      iapply (wp_st c mPl _ _ _ _) $$ HL; iintro HL
      iapply (wp_ld c mVo _ qv gV _) $$ HV; iintro HV
      iapply (wp_ld c mPa _ fullShare _ _) $$ HA; iintro HA
      iapply (wp_st c mPa _ _ _ _) $$ HA; iintro HA
      iapply HC
      isplitl [HQ]; · iexact HQ
      isplitl [HK]; · iexact HK
      isplitl [HV]; · iexact HV
      isplitl [HA]; · iexact HA
      iexact HL) _) $$ [HQ HK HV HA HL]
  · rw [tile_zero, tile_zero]
    isplitl [HQ]; · iexact HQ
    isplitl [HK]; · iexact HK
    isplitl [HV]; · iexact HV
    isplitl [HA]; · iexact HA
    iexact HL
  iintro ⟨HQ, HK, HV, HA, HL⟩
  iapply HC
  isplitl [HQ]; · iexact HQ
  isplitl [HK]; · iexact HK
  isplitl [HV]; · iexact HV
  unfold paC plC
  rw [tile_cover (apartA _ _) (fun i => coverA (by omega) i (by omega) (by have : (i 1).val < 32 := (i 1).isLt; omega)) (zf _) A,
    tile_cover (apartL _ _) (fun i => coverL (by omega) i (by omega) (by have : (i 1).val < 32 := (i 1).isLt; omega)) (zf _) L]
  isplitl [HA]; · iexact HA
  iexact HL

theorem slabA_emb (j : Fin 3) (b : Fin 2) (x : (rcA1 j b).shape.Idx) :
    (rcA1 j b).emb x = (slabA j).view.emb (ix3 (n0 := 2) (n1 := 32) (n2 := 512) b (x 2) (x 3)) := by
  have h := ValueIdx.reshapeEquiv_ix3_1abc (a := 2) (b := 32) (c := 512) Facts₀.squeezes_S1x2x32x512_S2x32x512.numel_eq b (x 2) (x 3)
  refine Eq.trans ?_ (congrArg (rcA j).emb h).symm
  have h0 : (x 0).val < 1 := (x 0).isLt
  have h1 : (x 1).val < 1 := (x 1).isLt
  funext a
  apply Fin.ext
  match a with
  | ⟨0, _⟩ => show j.val + 1 * (x 0).val = j.val + 1 * 0; omega
  | ⟨1, _⟩ => show b.val + 1 * (x 1).val = 0 + 1 * b.val; omega
  | ⟨2, _⟩ => rfl
  | ⟨3, _⟩ => rfl
/-- A load of a batch of a slab held by itself. -/
theorem wp_ld_slabA {Q : PUnit.{1} → sProp 𝕄} (c : Dev nD) (j : Fin 3) (b : Fin 2) (q : PosShare TreeShare) (g : Vec F (sh3 2 32 512) .f32)
    {hl : mRa.view.LoadsAt (rcA1 j b).toLoadRect} (k : ((rcA1 j b).shape.Idx → Elt F .f32) → P F) :
    own' c (slabA j) q g ⊢ iprop((own' c (slabA j) q g -∗ WP c (k (slA j g b)) Q) -∗ WP c (.op (.load mRa (rcA1 j b).toLoadRect hl) k) Q) := by
  unfold own' owns
  iintro ⟨%f, %hf, H⟩ HK
  have L := wp_load_rect (defs := defs₀ (F := F)) (Q := Q) 𝒱₀ (c : Thread nD τ) none (Γ := .empty) Set.univ (m := mRa) (r := rcA1 j b) (hl := hl) (k := k)
    (S := (slabA j).view.set) (q := q) (f := f) (by
      intro i hi
      obtain ⟨x, -, hx⟩ := Finset.mem_map.mp hi
      exact Finset.mem_map.mpr ⟨_, Finset.mem_univ _, (slabA_emb j b x).symm.trans hx⟩)
  iapply L $$ H
  iintro H
  have : (mRa.access (rcA1 j b)).read (Elt F) f = slA j g b := by
    subst hf
    funext x
    exact congrArg f (slabA_emb j b x)
  rw [this]
  iapply HK
  iexists f
  isplitr
  · ipureintro; exact hf
  · iexact H

theorem slabL_emb (j : Fin 3) (b : Fin 2) (x : (rcL1 j b).shape.Idx) :
    (rcL1 j b).emb x = (slabL j).view.emb (ix3 (n0 := 2) (n1 := 32) (n2 := 8) b (x 2) (x 3)) := by
  have h := ValueIdx.reshapeEquiv_ix3_1abc (a := 2) (b := 32) (c := 8) Facts₀.squeezes_S1x2x32x8_S2x32x8.numel_eq b (x 2) (x 3)
  refine Eq.trans ?_ (congrArg (rcL j).emb h).symm
  have h0 : (x 0).val < 1 := (x 0).isLt
  have h1 : (x 1).val < 1 := (x 1).isLt
  funext a
  apply Fin.ext
  match a with
  | ⟨0, _⟩ => show j.val + 1 * (x 0).val = j.val + 1 * 0; omega
  | ⟨1, _⟩ => show b.val + 1 * (x 1).val = 0 + 1 * b.val; omega
  | ⟨2, _⟩ => rfl
  | ⟨3, _⟩ => rfl
/-- A load of a batch of a slab held by itself. -/
theorem wp_ld_slabL {Q : PUnit.{1} → sProp 𝕄} (c : Dev nD) (j : Fin 3) (b : Fin 2) (q : PosShare TreeShare) (g : Vec F (sh3 2 32 8) .f32)
    {hl : mRl.view.LoadsAt (rcL1 j b).toLoadRect} (k : ((rcL1 j b).shape.Idx → Elt F .f32) → P F) :
    own' c (slabL j) q g ⊢ iprop((own' c (slabL j) q g -∗ WP c (k (slL j g b)) Q) -∗ WP c (.op (.load mRl (rcL1 j b).toLoadRect hl) k) Q) := by
  unfold own' owns
  iintro ⟨%f, %hf, H⟩ HK
  have L := wp_load_rect (defs := defs₀ (F := F)) (Q := Q) 𝒱₀ (c : Thread nD τ) none (Γ := .empty) Set.univ (m := mRl) (r := rcL1 j b) (hl := hl) (k := k)
    (S := (slabL j).view.set) (q := q) (f := f) (by
      intro i hi
      obtain ⟨x, -, hx⟩ := Finset.mem_map.mp hi
      exact Finset.mem_map.mpr ⟨_, Finset.mem_univ _, (slabL_emb j b x).symm.trans hx⟩)
  iapply L $$ H
  iintro H
  have : (mRl.access (rcL1 j b)).read (Elt F) f = slL j g b := by
    subst hf
    funext x
    exact congrArg f (slabL_emb j b x)
  rw [this]
  iapply HK
  iexists f
  isplitr
  · ipureintro; exact hf
  · iexact H

/-- A device's share added. -/
theorem wp_addShare {Q : PUnit.{1} → sProp 𝕄} (c : Dev nD) (j : Fin 3) (q1 q2 : PosShare TreeShare) (gA : Vec F (sh3 2 32 512) .f32) (gL : Vec F (sh3 2 32 8) .f32)
    (A : Vec F (sh3 2 512 512) .f32) (L : Vec F (sh3 2 512 8) .f32) (K : P F) :
    iprop(own' c (slabA j) q1 gA ∗ own' c (slabL j) q2 gL ∗ own' c mA fullShare A ∗ own' c mL fullShare L)
      ⊢ iprop(((own' c (slabA j) q1 gA ∗ own' c (slabL j) q2 gL ∗ own' c mA fullShare (shareA j gA A) ∗ own' c mL fullShare (shareL j gL L)) -∗ WP c K Q)
        -∗ WP c (addShare j K) Q) := by
  unfold addShare
  iintro ⟨HRA, HRL, HA, HL⟩ HC
  iapply (wp_each2 c _ (fun n => iprop(own' c (slabA j) q1 gA ∗ own' c (slabL j) q2 gL
      ∗ own' c mA fullShare (tile ord2 (boxB (B := 512) (C := 512) (nr := 32) 0 (by omega)) (wSA j gA A) A n)
      ∗ own' c mL fullShare (tile ord2 (boxB (B := 512) (C := 8) (nr := 32) 0 (by omega)) (wSL j gL L) L n))) 1
    (by
      intro b K
      rw [Nat.one_mul]
      iintro ⟨HRA, HRL, HA, HL⟩ HC
      iapply (wp_ld c mA _ fullShare _ _) $$ HA; iintro HA
      iapply (wp_ld_slabA c j b q1 gA _) $$ HRA; iintro HRA
      iapply (wp_ld c mA _ fullShare _ _) $$ HA; iintro HA
      iapply (wp_st c mA _ _ _ _) $$ HA; iintro HA
      iapply (wp_ld c mL _ fullShare _ _) $$ HL; iintro HL
      iapply (wp_ld_slabL c j b q2 gL _) $$ HRL; iintro HRL
      iapply (wp_ld c mL _ fullShare _ _) $$ HL; iintro HL
      iapply (wp_st c mL _ _ _ _) $$ HL; iintro HL
      iapply HC
      have h1 := upd_tile (apartB (B := 512) (C := 512) (nr := 32) 0 (by omega)) ord2_inj (W := wSA j gA A) A b
      have h2 := upd_tile (apartB (B := 512) (C := 8) (nr := 32) 0 (by omega)) ord2_inj (W := wSL j gL L) L b
      have e1 := sub_tile (apartB (B := 512) (C := 512) (nr := 32) 0 (by omega)) (ord := ord2) (W := wSA j gA A) A (n := ord2 b) (k := b) le_rfl
      have e2 := sub_tile (apartB (B := 512) (C := 8) (nr := 32) 0 (by omega)) (ord := ord2) (W := wSL j gL L) L (n := ord2 b) (k := b) le_rfl
      unfold ord2 at h1 h2 e1 e2
      unfold ord2
      rw [← h1, ← h2]
      unfold wSA wSL
      unfold wSA at e1
      unfold wSL at e2
      conv in (addA (sub (boxB 0 _ b) A) _) => rw [← e1]
      conv in (addL (sub (boxB 0 _ b) L) _) => rw [← e2]
      isplitl [HRA]; · iexact HRA
      isplitl [HRL]; · iexact HRL
      isplitl [HA]; · iexact HA
      iexact HL) _) $$ [HRA HRL HA HL]
  · rw [tile_zero, tile_zero]
    isplitl [HRA]; · iexact HRA
    isplitl [HRL]; · iexact HRL
    isplitl [HA]; · iexact HA
    iexact HL
  iintro ⟨HRA, HRL, HA, HL⟩
  iapply HC
  isplitl [HRA]; · iexact HRA
  isplitl [HRL]; · iexact HRL
  isplitl [HA]; · iexact HA
  iexact HL

/-- The context and the output. -/
theorem wp_output {Q : PUnit.{1} → sProp 𝕄} (c : Dev nD) (q1 : PosShare TreeShare) (gWo : Vec F S512x768 .bf16) (X : Vec F (sh3 2 512 512) .bf16)
    (A : Vec F (sh3 2 512 512) .f32) (L : Vec F (sh3 2 512 8) .f32) (O : Vec F (sh3 2 512 768) .bf16) (K : P F) :
    iprop(own' c mWo q1 gWo ∗ own' c mA fullShare A ∗ own' c mL fullShare L ∗ own' c mQ fullShare X ∗ own' c mOut fullShare O)
      ⊢ iprop(((own' c mWo q1 gWo ∗ own' c mA fullShare A ∗ own' c mL fullShare L ∗ own' c mQ fullShare (ctxC A L) ∗ own' c mOut fullShare (outC gWo (ctxC A L))) -∗ WP c K Q)
        -∗ WP c (output K) Q) := by
  unfold output
  iintro ⟨HW, HA, HL, HQ, HO⟩ HC
  iapply (wp_ld c mWo rWo q1 gWo _) $$ HW; iintro HW
  iapply (wp_each2 c _ (fun n => iprop(own' c mA fullShare A ∗ own' c mL fullShare L
      ∗ own' c mQ fullShare (tile ord8 (boxA (B := 512) (nr := 512) 0 (by omega)) (wC A L) X n))) 8
    (by
      intro b K
      iintro ⟨HA, HL, HQ⟩ HC
      iapply (wp_ld c mL _ fullShare _ _) $$ HL; iintro HL
      iapply (wp_each8 c _ (fun n => iprop(own' c mA fullShare A
        ∗ own' c mQ fullShare (tile ord8 (boxA (B := 512) (nr := 512) 0 (by omega)) (wC A L) X n))) (8 * b.val) (fun h K => by
          have h1 := upd_tile (apartA (B := 512) (nr := 512) 0 (by omega)) ord8_inj (W := wC A L) X (b, h)
          change _ = tile ord8 _ _ _ (8 * b.val + h.val + 1) at h1
          rw [← h1]
          iintro ⟨HA, HQ⟩ HC
          iapply (wp_ld c mA _ fullShare _ _) $$ HA; iintro HA
          iapply (wp_ld c mQ _ fullShare _ _) $$ HQ; iintro HQ
          iapply (wp_st c mQ _ _ _ _) $$ HQ; iintro HQ
          iapply HC
          isplitl [HA]; · iexact HA
          iexact HQ) K) $$ [HA HQ]
      · isplitl [HA]; · iexact HA
        iexact HQ
      iintro ⟨HA, HQ⟩
      iapply HC
      isplitl [HA]; · iexact HA
      isplitl [HL]; · iexact HL
      iexact HQ) _) $$ [HA HL HQ]
  · rw [tile_zero]
    isplitl [HA]; · iexact HA
    isplitl [HL]; · iexact HL
    iexact HQ
  iintro ⟨HA, HL, HQ⟩
  have hq : tile ord8 (boxA (B := 512) (nr := 512) 0 (by omega)) (wC A L) X 16 = ctxC A L := by
    unfold ctxC
    exact tile_cover (apartA _ _) (fun i => coverA (by omega) i (by omega) (by have : (i 1).val < 512 := (i 1).isLt; omega)) X (zb _)
  rw [hq]
  iapply (wp_each2 c _ (fun n => iprop(own' c mQ fullShare (ctxC A L)
      ∗ own' c mOut fullShare (tile ord2 (boxB (B := 512) (C := 768) (nr := 512) 0 (by omega)) (wO gWo (ctxC A L)) O n))) 1
    (by
      intro b K
      rw [Nat.one_mul]
      iintro ⟨HQ, HO⟩ HC
      iapply (wp_ld c mQ _ fullShare _ _) $$ HQ; iintro HQ
      iapply (wp_ld c mOut _ fullShare _ _) $$ HO; iintro HO
      iapply (wp_st c mOut _ _ _ _) $$ HO; iintro HO
      iapply HC
      have h1 := upd_tile (apartB (B := 512) (C := 768) (nr := 512) 0 (by omega)) ord2_inj (W := wO gWo (ctxC A L)) O b
      unfold ord2 at h1
      unfold ord2
      rw [← h1]
      isplitl [HQ]; · iexact HQ
      iexact HO) _) $$ [HQ HO]
  · rw [tile_zero]
    isplitl [HQ]; · iexact HQ
    iexact HO
  iintro ⟨HQ, HO⟩
  iapply HC
  isplitl [HW]; · iexact HW
  isplitl [HA]; · iexact HA
  isplitl [HL]; · iexact HL
  isplitl [HQ]; · iexact HQ
  unfold outC
  rw [tile_cover (apartB _ _) (coverB _) (zb _) O]
  iexact HO

end Cert.KernelIdeal
-- ==== Proof.Own.lean ====
/-
  Ownership: part of a buffer lent to a copy and returned; the shares' landing place in three slabs.
-/
module

public import proofs.«01_k».proof.Proof.Phases
public import Idealize.ShloMosaic.Lib.MemrefSat

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

section
variable {cs : Space} {s : Shape} {e : EltTy}

instance own'_storable (c : Dev nD) (m : Memref sig .tc cs s e) (q : PosShare TreeShare) (g : s.Idx → Elt F e) :
    BI.Storable (upEmb : UEmb _ 𝕄) (own' c m q g) := by unfold own'; infer_instance

/-- Part of a share lent: a slice of it, and on its return the share whole again. -/
theorem lend (c : Dev nD) (m : Memref sig .tc cs s e) (q : PosShare TreeShare) (r : Rect s) (hr : ∀ a, r.stride a = 1) (g : s.Idx → Elt F e) :
    own' c m q g ⊢ iprop(own' c m q.left g ∗ own' c (m.slice r hr) q.right (sub r g)
      ∗ ((own' c m q.left g ∗ own' c (m.slice r hr) q.right (sub r g)) -∗ own' c m q g)) := by
  unfold own'
  iintro H
  ihave H2 := (owns_halves (Ix := Unit) (Name := ℕ) (U := UU) (Lvl := ℕ) (c : Thread nD τ) m q g).1 $$ H
  icases H2 with ⟨Hl, Hr⟩
  ihave H3 := (owns_slice_split (Ix := Unit) (Name := ℕ) (U := UU) (Lvl := ℕ) (c : Thread nD τ) m q.right r hr g) $$ Hr
  icases H3 with ⟨Hs, ⟨%f, %hf, Hf⟩⟩
  isplitl [Hl]; · iexact Hl
  isplitl [Hs]; · iexact Hs
  iintro ⟨Hl, Hs⟩
  iapply (owns_halves (Ix := Unit) (Name := ℕ) (U := UU) (Lvl := ℕ) (c : Thread nD τ) m q g).2
  isplitl [Hl]; · iexact Hl
  have h : r.overlay (m.view.read (Elt F) f) (sub r g) = g := by
    funext i
    by_cases hi : i ∈ r.set
    · obtain ⟨x, rfl⟩ := r.exists_idx_of_mem hi
      exact Rect.overlay_emb r _ _ x
    · rw [Rect.overlay_of_not_mem r _ _ hi, hf]
  have J := owns_slice_join (Ix := Unit) (Name := ℕ) (U := UU) (Lvl := ℕ) (c : Thread nD τ) m q.right r hr (sub r g) f
  rw [h] at J
  iapply J
  isplitl [Hs]; · iexact Hs
  iexact Hf

/-- A buffer held at some contents. -/
def any (c : Dev nD) (m : Memref sig .tc cs s e) : sProp 𝕄 := iprop(∃ g, own' c m fullShare g)

instance any_storable (c : Dev nD) (m : Memref sig .tc cs s e) : BI.Storable (upEmb : UEmb _ 𝕄) (any c m : sProp 𝕄) := by unfold any; infer_instance

theorem any_eq (c : Dev nD) (m : Memref sig .tc cs s e) :
    (any c m : sProp 𝕄) ⊣⊢ iprop(∃ f : m.view.ty.Contents (Elt F), m.view.loc (c : Thread nD τ) ↦[m.view.set]{fullShare} f) := by
  unfold any own' owns
  constructor
  · iintro ⟨%g, %f, %hf, H⟩
    iexists f; iexact H
  · iintro ⟨%f, H⟩
    iexists (m.view.read (Elt F) f); iexists f
    isplitr; · ipureintro; rfl
    iexact H

theorem any_intro (c : Dev nD) (m : Memref sig .tc cs s e) (g : s.Idx → Elt F e) : own' c m fullShare g ⊢ (any c m : sProp 𝕄) := by
  unfold any; iintro H; iexists g; iexact H
end

/-! ## The slabs -/

theorem slabA_set (j : Fin 3) : (slabA j).view.set = (rcA j).set := by
  show (((View.whole cc0_scratch16).slice (rcA j)).reshape _ _).set = _
  rw [View.set_reshape, View.set_slice_whole]
theorem slabL_set (j : Fin 3) : (slabL j).view.set = (rcL j).set := by
  show (((View.whole cc0_scratch17).slice (rcL j)).reshape _ _).set = _
  rw [View.set_reshape, View.set_slice_whole]

theorem rcA_disj {j j' : Fin 3} (h : j ≠ j') : Disjoint (rcA j).set (rcA j').set :=
  Rect.disjoint_of_separated _ _ 0 (by
    have : j.val ≠ j'.val := fun e => h (Fin.ext e)
    show (1 = 0 ∨ j.val + 1 * (1 - 1) < j'.val) ∨ (1 = 0 ∨ j'.val + 1 * (1 - 1) < j.val)
    omega)
theorem rcL_disj {j j' : Fin 3} (h : j ≠ j') : Disjoint (rcL j).set (rcL j').set :=
  Rect.disjoint_of_separated _ _ 0 (by
    have : j.val ≠ j'.val := fun e => h (Fin.ext e)
    show (1 = 0 ∨ j.val + 1 * (1 - 1) < j'.val) ∨ (1 = 0 ∨ j'.val + 1 * (1 - 1) < j.val)
    omega)

theorem rcA_cover : ((rcA 0).set ∪ (rcA 1).set) ∪ (rcA 2).set = Finset.univ := by
  ext i
  have h0 : (i 0).val < 3 := (i 0).isLt
  have mem (j : Fin 3) (h : (i 0).val = j.val) : i ∈ (rcA j).set := Rect.mem_set_unit.mpr fun a => by
    match a with
    | ⟨0, _⟩ => show j.val ≤ (i 0).val ∧ (i 0).val < j.val + 1; omega
    | ⟨1, _⟩ => exact ⟨Nat.zero_le _, (Nat.zero_add 2).symm ▸ (i 1).isLt⟩
    | ⟨2, _⟩ => exact ⟨Nat.zero_le _, (Nat.zero_add 32).symm ▸ (i 2).isLt⟩
    | ⟨3, _⟩ => exact ⟨Nat.zero_le _, (Nat.zero_add 512).symm ▸ (i 3).isLt⟩
  simp only [Finset.mem_union, Finset.mem_univ, iff_true]
  rcases (by omega : (i 0).val = 0 ∨ (i 0).val = 1 ∨ (i 0).val = 2) with h | h | h
  · exact .inl (.inl (mem 0 h))
  · exact .inl (.inr (mem 1 h))
  · exact .inr (mem 2 h)
theorem rcL_cover : ((rcL 0).set ∪ (rcL 1).set) ∪ (rcL 2).set = Finset.univ := by
  ext i
  have h0 : (i 0).val < 3 := (i 0).isLt
  have mem (j : Fin 3) (h : (i 0).val = j.val) : i ∈ (rcL j).set := Rect.mem_set_unit.mpr fun a => by
    match a with
    | ⟨0, _⟩ => show j.val ≤ (i 0).val ∧ (i 0).val < j.val + 1; omega
    | ⟨1, _⟩ => exact ⟨Nat.zero_le _, (Nat.zero_add 2).symm ▸ (i 1).isLt⟩
    | ⟨2, _⟩ => exact ⟨Nat.zero_le _, (Nat.zero_add 32).symm ▸ (i 2).isLt⟩
    | ⟨3, _⟩ => exact ⟨Nat.zero_le _, (Nat.zero_add 8).symm ▸ (i 3).isLt⟩
  simp only [Finset.mem_union, Finset.mem_univ, iff_true]
  rcases (by omega : (i 0).val = 0 ∨ (i 0).val = 1 ∨ (i 0).val = 2) with h | h | h
  · exact .inl (.inl (mem 0 h))
  · exact .inl (.inr (mem 1 h))
  · exact .inr (mem 2 h)

/-- Points-tos of three parts of a buffer that are all of it. -/
theorem three_parts {ℓ : Loc nD τ sig} {S0 S1 S2 : Finset (Idx ℓ)} (h01 : Disjoint S0 S1) (h02 : Disjoint S0 S2) (h12 : Disjoint S1 S2)
    (hc : S0 ∪ S1 ∪ S2 = Finset.univ) :
    (iprop(∃ f : Buf (Elt F) ℓ, ℓ ↦{fullShare} f) : sProp 𝕄)
      ⊣⊢ iprop((∃ f : Buf (Elt F) ℓ, ℓ ↦[S0]{fullShare} f) ∗ (∃ f : Buf (Elt F) ℓ, ℓ ↦[S1]{fullShare} f) ∗ (∃ f : Buf (Elt F) ℓ, ℓ ↦[S2]{fullShare} f)) := by
  have hd : Disjoint (S0 ∪ S1) S2 := Finset.disjoint_union_left.mpr ⟨h02, h12⟩
  constructor
  · iintro ⟨%f, H⟩
    ihave H := (show (ℓ ↦{fullShare} f : sProp 𝕄) ⊢ (ℓ ↦[S0 ∪ S1 ∪ S2]{fullShare} f) from Entails.of_eq (by rw [hc])) $$ H
    ihave H := (pointsTo_union hd).1 $$ H
    icases H with ⟨H, H2⟩
    ihave H := (pointsTo_union h01).1 $$ H
    icases H with ⟨H0, H1⟩
    isplitl [H0]; · iexists f; iexact H0
    isplitl [H1]; · iexists f; iexact H1
    iexists f; iexact H2
  · iintro ⟨⟨%f, H0⟩, ⟨%g, H1⟩, ⟨%h, H2⟩⟩
    ihave H := (pointsTo_join h01) $$ [H0 H1]
    · isplitl [H0]; · iexact H0
      iexact H1
    ihave H := (pointsTo_join hd) $$ [H H2]
    · isplitl [H]; · iexact H
      iexact H2
    iexists _
    rw [← hc]
    iexact H

/-- The landing place of the products is its three slabs. -/
theorem slabsA (c : Dev nD) :
    (iprop(∃ f : Buf (Elt F) ((c : Thread nD τ).loc cc0_scratch16), ((c : Thread nD τ).loc cc0_scratch16) ↦{fullShare} f) : sProp 𝕄)
      ⊣⊢ iprop(any c (slabA 0) ∗ any c (slabA 1) ∗ any c (slabA 2)) := by
  have T := three_parts (F := F) (ℓ := (c : Thread nD τ).loc cc0_scratch16) (rcA_disj (j := 0) (j' := 1) (by decide)) (rcA_disj (j := 0) (j' := 2) (by decide))
    (rcA_disj (j := 1) (j' := 2) (by decide)) rcA_cover
  have E (j : Fin 3) : (any c (slabA j) : sProp 𝕄) = iprop(∃ f : Buf (Elt F) ((c : Thread nD τ).loc cc0_scratch16), ((c : Thread nD τ).loc cc0_scratch16) ↦[(rcA j).set]{fullShare} f) := by
    rw [← slabA_set]; exact BI.equiv_iff.mp ⟨(any_eq c (slabA j)).1, (any_eq c (slabA j)).2⟩
  rw [E, E, E]
  exact T
/-- The landing place of the sums is its three slabs. -/
theorem slabsL (c : Dev nD) :
    (iprop(∃ f : Buf (Elt F) ((c : Thread nD τ).loc cc0_scratch17), ((c : Thread nD τ).loc cc0_scratch17) ↦{fullShare} f) : sProp 𝕄)
      ⊣⊢ iprop(any c (slabL 0) ∗ any c (slabL 1) ∗ any c (slabL 2)) := by
  have T := three_parts (F := F) (ℓ := (c : Thread nD τ).loc cc0_scratch17) (rcL_disj (j := 0) (j' := 1) (by decide)) (rcL_disj (j := 0) (j' := 2) (by decide))
    (rcL_disj (j := 1) (j' := 2) (by decide)) rcL_cover
  have E (j : Fin 3) : (any c (slabL j) : sProp 𝕄) = iprop(∃ f : Buf (Elt F) ((c : Thread nD τ).loc cc0_scratch17), ((c : Thread nD τ).loc cc0_scratch17) ↦[(rcL j).set]{fullShare} f) := by
    rw [← slabL_set]; exact BI.equiv_iff.mp ⟨(any_eq c (slabL j)).1, (any_eq c (slabL j)).2⟩
  rw [E, E, E]
  exact T

end Cert.KernelIdeal
-- ==== Proof.Sched.lean ====
/-
  The protocol: what each semaphore's credits hand over, and the body's steps on the semaphores.
-/
module

public import proofs.«01_k».proof.Proof.Own

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-- Every device's inputs as the region finds them. -/
structure In (F : FTy → Type) where
  x : Dev nD → Vec F S2x512x768 .bf16
  wq : Dev nD → Vec F S768x512 .bf16
  wo : Dev nD → Vec F S512x768 .bf16
  k : Dev nD → Vec F (sh3 2 512 512) .f32
  v : Dev nD → Vec F (sh3 2 512 512) .f32

namespace In
variable (I : In F) (c : Dev nD)
/-- A device's queries, keys and values. -/
def q' : Vec F (sh3 2 512 512) .bf16 := qC (I.wq c) (I.x c)
def k' : Vec F (sh3 2 512 512) .bf16 := nC (I.k c)
def v' : Vec F (sh3 2 512 512) .bf16 := nC (I.v c)
end In

abbrev rTail : Rect (sh3 2 512 512) := rows 384 128 (by omega)
abbrev rHead : Rect (sh3 2 512 512) := rows 0 128 (by omega)
abbrev rTop : Rect (sh3 2 512 512) := rows 0 32 (by omega)

namespace In
variable (I : In F) (c : Dev nD)
/-- A device's share of device 0's first rows. -/
def pa : Vec F (sh3 2 32 512) .f32 := paC (sub rTop (I.q' 0)) (I.k' c) (I.v' c)
def pl : Vec F (sh3 2 32 8) .f32 := plC (sub rTop (I.q' 0)) (I.k' c)
end In

/-! ## Shares -/

/-- What is kept after `n` loans, and the `n`-th loan. -/
def kept : ℕ → PosShare TreeShare
  | 0 => fullShare
  | n + 1 => (kept n).left
def lent (n : ℕ) : PosShare TreeShare := (kept n).right

/-! ## Cells -/

/-- The semaphores of the protocol: the two barriers, then the DMA semaphores from number 4 on. -/
def csem (k : Fin 34) : SemLoc sig := if k.val = 0 then .reg bar else if k.val = 1 then .reg bar2 else .dma (ds ⟨k.val + 2, by omega⟩)
def kcell (p : Dev nD × Fin 34) : GSem nD τ sig := ((p.1 : Thread nD τ), csem p.2)
/-- A DMA semaphore's place among them. -/
def dk (n : Fin 36) : Fin 34 := ⟨n.val - 2, by omega⟩
theorem csem_dk (n : Fin 36) (h : 4 ≤ n.val) : csem (dk n) = .dma (ds n) := by
  have : (⟨n.val - 2 + 2, by omega⟩ : Fin 36) = n := Fin.ext (show n.val - 2 + 2 = n.val by omega)
  unfold csem dk
  rw [if_neg (show ¬ n.val - 2 = 0 by omega), if_neg (show ¬ n.val - 2 = 1 by omega), this]
theorem csem_inj : Function.Injective csem := by decide +kernel

/-- The DMA semaphores used by a device. -/
def usedD (c : Dev nD) (n : Fin 36) : Bool :=
  if c = 0 then [4, 5, 6, 7, 8, 9, 10, 11, 12, 13, 14, 15, 16, 17, 18, 20, 21, 22, 23, 27, 29, 31, 33, 34, 35].elem n.val
  else [4, 5, 6, 7, 8, 9, 10, 19, 20, 21, 22, 23, 24, 25, 26].elem n.val

/-- The credit of a copy on a DMA semaphore of a device. -/
def amtD (c : Dev nD) (n : Fin 36) : ℕ :=
  if n.val < 6 then mKf.view.dmaCredit else if n.val < 10 then mHlk.view.dmaCredit
  else if n.val = 10 then (if c = 0 then mGk.view.dmaCredit else mPa.view.dmaCredit) else if n.val < 19 then mGk.view.dmaCredit
  else if n.val = 19 then mPl.view.dmaCredit else if n.val < 24 then mHlk.view.dmaCredit else if n.val < 27 then mGk.view.dmaCredit
  else if n.val < 33 then mPa.view.dmaCredit else mPl.view.dmaCredit
theorem amtD_pos (c : Dev nD) (n : Fin 36) : 0 < amtD c n := by
  unfold amtD
  (repeat' split) <;> exact View.dmaCredit_pos _ (by decide)

/-! ## Payloads -/

section Pay
/-- The buffers for the left neighbour's last rows, for the right neighbour's first, for device 0's first, and a slab
    for a device's share, each ready to be written. -/
def hl (c : Dev nD) : sProp 𝕄 := iprop(any c mHlk ∗ any c mHlv)
def hr (c : Dev nD) : sProp 𝕄 := iprop(any c mHrk ∗ any c mHrv)
def gg (c : Dev nD) : sProp 𝕄 := iprop(any c mGk ∗ any c mGv ∗ any c mGq)
def sl (j : Fin 3) : sProp 𝕄 := iprop(any 0 (slabA j) ∗ any 0 (slabL j))

/-- What device `d` hands device `e` at the opening barrier. -/
def barPay (d e : Dev nD) : sProp 𝕄 :=
  match d.val, e.val with
  | 0, 1 => iprop(hr 0 ∗ sl 0) | 0, 2 => sl 1 | 0, 3 => iprop(hl 0 ∗ sl 2)
  | 1, 0 => iprop(hl 1 ∗ gg 1) | 1, 2 => hr 1
  | 2, 0 => gg 2 | 2, 1 => hl 2 | 2, 3 => hr 2
  | 3, 0 => iprop(hr 3 ∗ gg 3) | 3, 2 => hl 3
  | _, _ => iprop(emp)

variable (I : In F)
/-- What a DMA semaphore's credit hands its device. -/
def dmaPay (c : Dev nD) (n : Fin 36) : sProp 𝕄 :=
  match n.val with
  | 4 => iprop(own' c mKf fullShare (I.k c) ∗ own' c mK fullShare (I.k c))
  | 5 => iprop(own' c mVf fullShare (I.v c) ∗ own' c mV fullShare (I.v c))
  | 6 => own' c (tailOf mKo) (lent 0) (sub rTail (I.k' c))
  | 7 => own' c (tailOf mVo) (lent 0) (sub rTail (I.v' c))
  | 8 => own' c (headsOf mKo) (lent 1) (sub rHead (I.k' c))
  | 9 => own' c (headsOf mVo) (lent 1) (sub rHead (I.v' c))
  | 10 => if c = 0 then own' c (topOf mKo) (lent 2) (sub rTop (I.k' c)) else own' c mPa fullShare (I.pa c)
  | 11 => own' c (topOf mVo) (lent 2) (sub rTop (I.v' c))
  | 12 => own' c (topOf mQ) (lent 0) (sub rTop (I.q' c))
  | 13 => own' c (topOf mKo) (lent 3) (sub rTop (I.k' c))
  | 14 => own' c (topOf mVo) (lent 3) (sub rTop (I.v' c))
  | 15 => own' c (topOf mQ) (lent 1) (sub rTop (I.q' c))
  | 16 => own' c (topOf mKo) (lent 4) (sub rTop (I.k' c))
  | 17 => own' c (topOf mVo) (lent 4) (sub rTop (I.v' c))
  | 18 => own' c (topOf mQ) (lent 2) (sub rTop (I.q' c))
  | 19 => own' c mPl fullShare (I.pl c)
  | 20 => own' c mHlk fullShare (sub rTail (I.k' (c + 3)))
  | 21 => own' c mHlv fullShare (sub rTail (I.v' (c + 3)))
  | 22 => own' c mHrk fullShare (sub rHead (I.k' (c + 1)))
  | 23 => own' c mHrv fullShare (sub rHead (I.v' (c + 1)))
  | 24 => own' c mGk fullShare (sub rTop (I.k' 0))
  | 25 => own' c mGv fullShare (sub rTop (I.v' 0))
  | 26 => own' c mGq fullShare (sub rTop (I.q' 0))
  | 27 => own' c (slabA 0) fullShare (I.pa 1)
  | 29 => own' c (slabA 1) fullShare (I.pa 2)
  | 31 => own' c (slabA 2) fullShare (I.pa 3)
  | 33 => own' c (slabL 0) fullShare (I.pl 1)
  | 34 => own' c (slabL 1) fullShare (I.pl 2)
  | 35 => own' c (slabL 2) fullShare (I.pl 3)
  | _ => iprop(emp)
/-- What a signal of device `d` hands device `e`. -/
def regPay (s : Sem sig) (d e : Dev nD) : sProp 𝕄 := if s = bar then barPay d e else iprop(emp)

instance hl_storable (c : Dev nD) : BI.Storable (upEmb : UEmb _ 𝕄) (hl c : sProp 𝕄) := by unfold hl; infer_instance
instance hr_storable (c : Dev nD) : BI.Storable (upEmb : UEmb _ 𝕄) (hr c : sProp 𝕄) := by unfold hr; infer_instance
instance gg_storable (c : Dev nD) : BI.Storable (upEmb : UEmb _ 𝕄) (gg c : sProp 𝕄) := by unfold gg; infer_instance
instance sl_storable (j : Fin 3) : BI.Storable (upEmb : UEmb _ 𝕄) (sl j : sProp 𝕄) := by unfold sl; infer_instance
instance barPay_storable (d e : Dev nD) : BI.Storable (upEmb : UEmb _ 𝕄) (barPay d e : sProp 𝕄) := by
  unfold barPay; split <;> infer_instance
instance regPay_storable (s : Sem sig) (d e : Dev nD) : BI.Storable (upEmb : UEmb _ 𝕄) (regPay s d e : sProp 𝕄) := by
  unfold regPay; split <;> infer_instance
instance dmaPay_storable (c : Dev nD) (n : Fin 36) : BI.Storable (upEmb : UEmb _ 𝕄) (dmaPay I c n) := by
  unfold dmaPay; split <;> (try split) <;> infer_instance

/-- The protocol: one round; a barrier's duties are the four devices', a DMA semaphore's one duty is the copy's. -/
def Sd : Rounds.Schedule (GSem nD τ sig) (Dev nD) 𝕄 where
  duties g r := if r = 0 ∧ g.1.2 = .tc then (match g.2 with | .reg _ => Finset.univ | .dma n => if usedD g.1.1 n then {0} else ∅) else ∅
  unitless _ := False
  amount g _ _ := match g.2 with | .reg _ => 1 | .dma n => amtD g.1.1 n
  payload g _ d := match g.2 with | .reg s => regPay s d g.1.1 | .dma n => dmaPay I g.1.1 n
  amount_pos g _ _ _ := by
    rcases g with ⟨t, s | n⟩
    · exact Nat.one_pos
    · exact amtD_pos _ _

instance Sd_storable (g : GSem nD τ sig) (r : ℕ) (d : Dev nD) : BI.Storable (upEmb : UEmb _ 𝕄) ((Sd I).payload g r d) := by
  rcases g with ⟨t, s | n⟩
  · exact regPay_storable s d t.1
  · exact dmaPay_storable I t.1 n

variable (c : Dev nD)
theorem duties_reg (s : Sem sig) : (Sd I).duties ((c : Thread nD τ), .reg s) 0 = Finset.univ := by
  unfold Sd; dsimp only; exact if_pos ⟨rfl, rfl⟩
theorem duties_dma (n : DmaSem sig) (h : usedD c n = true) : (Sd I).duties ((c : Thread nD τ), .dma n) 0 = {0} := by
  unfold Sd; dsimp only; rw [if_pos ⟨rfl, rfl⟩, if_pos h]
theorem duties_unused (n : DmaSem sig) (h : usedD c n = false) (r : ℕ) : (Sd I).duties ((c : Thread nD τ), .dma n) r = ∅ := by
  unfold Sd; dsimp only; rw [h]; simp
theorem duties_later (g : GSem nD τ sig) : ∀ r, 1 ≤ r → (Sd I).duties g r = ∅ := fun r hr => by
  unfold Sd; dsimp only; exact if_neg fun h => by omega
theorem expect_reg (s : Sem sig) : (Sd I).expect ((c : Thread nD τ), .reg s) 0 = 4 := by
  unfold Schedule.expect Schedule.amountOf
  rw [duties_reg]; rfl
theorem expect_dma (n : DmaSem sig) (h : usedD c n = true) : (Sd I).expect ((c : Thread nD τ), .dma n) 0 = amtD c n := by
  unfold Schedule.expect Schedule.amountOf
  rw [duties_dma I c n h, Finset.sum_singleton]; rfl
theorem payload_reg (s : Sem sig) (d : Dev nD) : (Sd I).payload ((c : Thread nD τ), .reg s) 0 d = regPay s d c := rfl
theorem payload_dma (n : DmaSem sig) (d : Dev nD) : (Sd I).payload ((c : Thread nD τ), .dma n) 0 d = dmaPay I c n := rfl
theorem amount_reg (s : Sem sig) (d : Dev nD) : (Sd I).amount ((c : Thread nD τ), .reg s) 0 d = 1 := rfl
theorem amount_dma (n : DmaSem sig) (d : Dev nD) : (Sd I).amount ((c : Thread nD τ), .dma n) 0 d = amtD c n := rfl
theorem rest_reg (s : Sem sig) :
    bigSep ((Sd I).duties ((c : Thread nD τ), .reg s) 0 \ ∅) (fun d => (Sd I).payload ((c : Thread nD τ), .reg s) 0 d)
      = iprop(regPay s 0 c ∗ regPay s 1 c ∗ regPay s 2 c ∗ regPay s 3 c) := by
  rw [Finset.sdiff_empty, duties_reg, bigSep_univ_eq_bigSepL [0, 1, 2, 3] (by decide) (by decide)]; rfl
theorem rest_dma (n : DmaSem sig) (h : usedD c n = true) :
    bigSep ((Sd I).duties ((c : Thread nD τ), .dma n) 0 \ ∅) (fun d => (Sd I).payload ((c : Thread nD τ), .dma n) 0 d) = dmaPay I c n := by
  rw [Finset.sdiff_empty, duties_dma I c n h, bigSep_singleton]; rfl
end Pay

/-! ## Levels, debts, tokens -/

/-- The place of a cell in the waiting order. -/
def lvS (s : SemLoc sig) : ℕ := match s with
  | .reg s => if s = bar then 1 else 4
  | .dma n => if n.val < 20 then 0 else if n.val < 27 then 2 else 3
def lv (g : GSem nD τ sig) (_ : Unit) : ℕ := lvS g.2
def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The credit of one payment to a cell. -/
def amt (p : Dev nD × Fin 34) : ℕ := match csem p.2 with | .reg _ => 1 | .dma n => amtD p.1 n

/-- What is owed to a list of cells. -/
def oweL : List (Dev nD × Fin 34) → CellTallies nD τ sig Unit
  | [] => 0
  | p :: l => oweL l + tallyAt (kcell p) () (amt p)

theorem oweL_cons (p : Dev nD × Fin 34) (l : List (Dev nD × Fin 34)) : oweL (p :: l) = oweL l + tallyAt (kcell p) () (amt p) := rfl
theorem oweL_pos {l : List (Dev nD × Fin 34)} {g : GSem nD τ sig} {u : Unit} (h : 0 < oweL l g u) : ∃ p ∈ l, g = kcell p := by
  induction l with
  | nil => exact absurd h (Nat.lt_irrefl 0)
  | cons p l ih =>
    unfold oweL at h
    rw [Pi.add_apply, Finsupp.add_apply, tallyAt_apply] at h
    by_cases e : g = kcell p ∧ u = ()
    · exact ⟨p, List.mem_cons_self, e.1⟩
    · rw [if_neg e, Nat.add_zero] at h
      obtain ⟨p', hp, e⟩ := ih h
      exact ⟨p', List.mem_cons_of_mem _ hp, e⟩

/-- A wait is allowed below everything owed. -/
theorem mayWait (c : Dev nD) (sm : SemLoc sig) (l : List (Dev nD × Fin 34)) (h : l.all (fun p => lvS sm < lvS (csem p.2)) = true) :
    (levAts L lv : sProp 𝕄) ⊢ MayWait (c : Thread nD τ) sm () (oweL l) :=
  MayOwe.of_cut (L := L) (lev := lv) (lvS sm) (fun p hp => by rw [Finset.mem_singleton.mp hp, L_tc]; exact Finset.mem_singleton_self _)
    (fun g u hg => by obtain ⟨p, _, rfl⟩ := oweL_pos hg; exact Finset.mem_singleton_self _)
    (fun p hp => by rw [Finset.mem_singleton.mp hp]; exact le_rfl)
    (fun g u hg => by
      obtain ⟨p, hp, rfl⟩ := oweL_pos hg
      exact of_decide_eq_true (List.all_eq_true.mp h p hp))

/-- The duty of device `c`'s payment to a cell. -/
def dty (c : Dev nD) (k : Fin 34) : Dev nD := if k.val < 2 then c else 0
/-- Tokens of device `c`'s payments to a list of cells. -/
def toks (c : Dev nD) : List (Dev nD × Fin 34) → sProp 𝕄
  | [] => iprop(emp)
  | p :: l => iprop(dutyTok ER (kcell p) 0 (dty c p.2) ∗ toks c l)

theorem toks_cons (c : Dev nD) (p : Dev nD × Fin 34) (l : List (Dev nD × Fin 34)) :
    (toks c (p :: l) : sProp 𝕄) = iprop(dutyTok ER (kcell p) 0 (dty c p.2) ∗ toks c l) := rfl
theorem bigSep_ins {k : Fin 34} {s : Finset (Fin 34)} (h : k ∉ s) {Φ : Fin 34 → sProp 𝕄} : bigSep (insert k s) Φ = iprop(Φ k ∗ bigSep s Φ) :=
  bigSep_insert h
theorem bigSep_ers {k : Fin 34} {s : Finset (Fin 34)} (h : k ∈ s) {Φ : Fin 34 → sProp 𝕄} : bigSep s Φ = iprop(Φ k ∗ bigSep (s.erase k) Φ) :=
  bigSep_erase h
theorem bigSep_sep' (s : Finset (Fin 34)) (Φ Ψ : Fin 34 → sProp 𝕄) : bigSep s (fun k => iprop(Φ k ∗ Ψ k)) = iprop(bigSep s Φ ∗ bigSep s Ψ) :=
  bigSep_sep s Φ Ψ
theorem bigSep_split (s : Finset (Fin 34)) (Φ : Fin 34 → sProp 𝕄) :
    bigSep Finset.univ Φ = iprop(bigSep s Φ ∗ bigSep (Finset.univ \ s) Φ) := by
  conv_lhs => rw [← Finset.union_sdiff_of_subset (Finset.subset_univ s)]
  exact bigSep_union Finset.disjoint_sdiff

/-! ## The state of a device on the semaphores -/

section State
variable (I : In F) (N : Dev nD × Fin 34 → ℕ)

/-- Every cell's invariant, and that it is in its first round. -/
def recs : sProp 𝕄 :=
  iprop((bigSep Finset.univ fun p : Dev nD × Fin 34 => cellInv ER (Sd I) (N p) (kcell p)) ∗ bigSep Finset.univ fun p : Dev nD × Fin 34 => reached ER (kcell p) 0)
instance recs_persistent : BI.Persistent (recs I N) := by unfold recs; infer_instance

theorem recs_inv (p : Dev nD × Fin 34) : recs I N ⊢ cellInv ER (Sd I) (N p) (kcell p) := by
  have H : (bigSep Finset.univ fun p : Dev nD × Fin 34 => cellInv ER (Sd I) (N p) (kcell p)) ⊢ cellInv ER (Sd I) (N p) (kcell p) :=
    bigSep_elim (Finset.mem_univ p)
  unfold recs; exact sep_elim_left.trans H
theorem recs_reached (p : Dev nD × Fin 34) : recs I N ⊢ reached ER (kcell p) 0 := by
  have H : (bigSep Finset.univ fun p : Dev nD × Fin 34 => (reached ER (kcell p) 0 : sProp 𝕄)) ⊢ reached ER (kcell p) 0 :=
    bigSep_elim (Finset.mem_univ p)
  unfold recs; exact sep_elim_right.trans H

/-- What a wait on a cell takes. -/
def ex (c : Dev nD) (k : Fin 34) : ℕ := match csem k with | .reg _ => 4 | .dma n => amtD c n

/-- A device's part of the protocol: debts `ld` with their tokens, tokens `lt` of its own cells, cells `S` open, credit for `C`. -/
def St (c : Dev nD) (ld lt : List (Dev nD × Fin 34)) (S C : Finset (Fin 34)) : sProp 𝕄 :=
  iprop(recs I N ∗ levAts L lv ∗ (∃ W, owes (c : Thread nD τ) (oweL ld) W) ∗ toks c ld ∗ toks c lt
    ∗ (bigSep S fun k => atPos ER (kcell (c, k)) 0 ∅ 0) ∗ (bigSep (Finset.univ \ S) fun k => semVal (kcell (c, k)) 0)
    ∗ bigSep C fun k => cred (tallyAt (kcell (c, k)) () (ex c k)))

variable {ld lt : List (Dev nD × Fin 34)} {S C : Finset (Fin 34)}

/-- A signal of a barrier. -/
theorem wp_sigS (c d : Dev nD) (k : Fin 34) (s : Sem sig) (hk : csem k = .reg s) (hd : dty c k = c) {Q : PUnit.{1} → sProp 𝕄} (K : P F) :
    iprop(St I N c ((d, k) :: ld) lt S C ∗ regPay s c d) ⊢ iprop((St I N c ld lt S C -∗ WP c K Q) -∗ WP c (sigW d s K) Q) := by
  have hc : kcell (d, k) = ((d : Thread nD τ), .reg s) := by unfold kcell; rw [hk]
  have ha : amt (d, k) = 1 := by unfold amt; rw [hk]
  change _ ⊢ iprop((_ -∗ _) -∗ WP c (.op (.semSignal (d : Thread nD τ) s 1) fun _ => K) Q)
  unfold St
  rw [toks_cons, oweL_cons]
  rw [ha, hd, hc]
  have hI := recs_inv I N (d, k)
  have hE := recs_reached I N (d, k)
  rw [hc] at hI hE
  iintro ⟨⟨#HR, #HL, ⟨%W, HO⟩, Ht, Hlt, HS, HZ, HC⟩, Hp⟩ HK
  icases Ht with ⟨Ht, Hts⟩
  ihave HI := hI $$ HR
  ihave HE := hE $$ HR
  iapply (Rounds.wp_signal 𝒱₀ ER (Sd I) (c : Thread nD τ) none (dst := (d : Thread nD τ)) (κ := N (d, k)) (r := 0)
      (d := c) (by rw [duties_reg]; exact Finset.mem_univ _) (k' := 1) (amount_reg I d s c) () (oweL ld) rfl) $$ [HI HO Ht Hp HE]
  · isplitl [HI]; · iexact HI
    isplitl [HO]; · iexact HO
    isplitl [Ht]; · iexact Ht
    isplitl [Hp]; · iapply (Entails.of_eq (payload_reg I d s c).symm); iexact Hp
    iexact HE
  iintro HO
  iapply HK
  isplitr; · iexact HR
  isplitr; · iexact HL
  isplitl [HO]; · iexists W; iexact HO
  isplitl [Hts]; · iexact Hts
  isplitl [Hlt]; · iexact Hlt
  isplitl [HS]; · iexact HS
  isplitl [HZ]; · iexact HZ
  iexact HC

/-- A copy to a device. -/
theorem wp_sendS {s : Shape} {e : EltTy} (c d : Dev nD) (src dst : Memref sig .tc .vmem s e) (ss rs : Fin 36)
    (hs : src.view.WordExact) (hd : dst.view.WordExact) (q : PosShare TreeShare) (g g' : s.Idx → Elt F e)
    (h1 : 4 ≤ ss.val) (h2 : 4 ≤ rs.val) (hu1 : usedD c ss = true) (hu2 : usedD d rs = true)
    (ha1 : amtD c ss = dst.view.dmaCredit) (ha2 : amtD d rs = dst.view.dmaCredit)
    (hp1 : own' c src q g ⊢ dmaPay I c ss) (hp2 : own' d dst fullShare g ⊢ dmaPay I d rs) (hC : dk ss ∉ C) {Q : PUnit.{1} → sProp 𝕄} (K : P F) :
    iprop(St I N c ((d, dk rs) :: ld) ((c, dk ss) :: lt) S C ∗ own' c src q g ∗ own' d dst fullShare g')
      ⊢ iprop((St I N c ld lt S (insert (dk ss) C) -∗ WP c K Q) -∗ WP c (send src dst d ss rs hs hd K) Q) := by
  have e1 := csem_dk ss h1
  have e2 := csem_dk rs h2
  have hc1 : kcell (c, dk ss) = ((c : Thread nD τ), .dma (ds ss)) := by unfold kcell; rw [e1]
  have hc2 : kcell (d, dk rs) = ((d : Thread nD τ), .dma (ds rs)) := by unfold kcell; rw [e2]
  have a2 : amt (d, dk rs) = dst.view.dmaCredit := by unfold amt; rw [e2]; exact ha2
  have x1 : ex c (dk ss) = dst.view.dmaCredit := by unfold ex; rw [e1]; exact ha1
  have d1 : dty c (dk ss) = 0 := if_neg (show ¬ ss.val - 2 < 2 by omega)
  have d2 : dty c (dk rs) = 0 := if_neg (show ¬ rs.val - 2 < 2 by omega)
  unfold St
  rw [bigSep_ins hC]
  rw [toks_cons, toks_cons, oweL_cons]
  rw [a2, d1, d2, x1, hc1, hc2]
  have hI1 := recs_inv I N (c, dk ss)
  have hE1 := recs_reached I N (c, dk ss)
  have hI2 := recs_inv I N (d, dk rs)
  have hE2 := recs_reached I N (d, dk rs)
  rw [hc1] at hI1 hE1
  rw [hc2] at hI2 hE2
  unfold own' owns
  iintro ⟨⟨#HR, #HL, ⟨%W, HO⟩, Ht, Hlt, HS, HZ, HC⟩, Hs, Hd⟩ HK
  icases Ht with ⟨Ht, Hts⟩
  icases Hlt with ⟨Hlt, Hlts⟩
  ihave HI1 := hI1 $$ HR
  ihave HE1 := hE1 $$ HR
  ihave HI2 := hI2 $$ HR
  ihave HE2 := hE2 $$ HR
  icases Hs with ⟨%fs, %hfs, Hs⟩
  icases Hd with ⟨%fd, %hfd, Hd⟩
  have hq1 : (src.view.loc (c : Thread nD τ) ↦[src.view.set]{q} fs : sProp 𝕄) ⊢ dmaPay I c ss := by
    refine BI.Entails.trans ?_ hp1
    subst hfs; unfold own'
    exact owns_intro (Ix := Unit) (Name := ℕ) (U := UU) (Lvl := ℕ) (c : Thread nD τ) src q fs
  have hq2 : (dst.view.loc (d : Thread nD τ) ↦[dst.view.set]{fullShare} (dst.view.write (Elt F) fd (src.view.read (Elt F) fs) Finset.univ) : sProp 𝕄) ⊢ dmaPay I d rs := by
    refine BI.Entails.trans ?_ hp2
    subst hfs; unfold own'
    have := owns_intro (Ix := Unit) (Name := ℕ) (U := UU) (Lvl := ℕ) (d : Thread nD τ) dst fullShare (dst.view.write (Elt F) fd (src.view.read (Elt F) fs) Finset.univ)
    rw [View.read_write_univ] at this
    exact this
  iapply (Rounds.wp_send_pointsTo 𝒱₀ ER (Sd I) (c : Thread nD τ) none (c' := (d : Thread nD τ)) (src := src) (dst := dst) (sS := .dma (ds ss)) (sem := .dma (ds rs)) (κ₁ := N (c, dk ss)) (κ₂ := N (d, dk rs))
    (r₁ := 0) (r₂ := 0) (d₁ := 0) (d₂ := 0) (fs := fs) (fd := fd) (q := q)
    (by rw [duties_dma I c ss hu1]; exact Finset.mem_singleton_self _) (by rw [duties_dma I d rs hu2]; exact Finset.mem_singleton_self _)
    () () dst.view.dmaCredit rfl ((amount_dma I c (ds ss) 0).trans ha1) ((amount_dma I d (ds rs) 0).trans ha2) (oweL ld) rfl (W := W)
    (by rw [payload_dma]; exact hq1) (by rw [payload_dma]; exact hq2)) $$ [HI1 HI2 Hs Hd HO Hlt HE1 Ht HE2]
  · isplitl [HI1]; · iexact HI1
    isplitl [HI2]; · iexact HI2
    isplitl [Hs]; · iexact Hs
    isplitl [Hd]; · iexact Hd
    isplitl [HO]; · iexact HO
    isplitl [Hlt]; · iexact Hlt
    isplitl [HE1]; · iexact HE1
    isplitl [Ht]; · iexact Ht
    iexact HE2
  iintro ⟨Hc, HO⟩
  iapply HK
  isplitr; · iexact HR
  isplitr; · iexact HL
  isplitl [HO]; · iexists W; iexact HO
  isplitl [Hts]; · iexact Hts
  isplitl [Hlts]; · iexact Hlts
  isplitl [HS]; · iexact HS
  isplitl [HZ]; · iexact HZ
  isplitl [Hc]; · iexact Hc
  iexact HC

/-- A copy on the device itself. -/
theorem wp_copyS {s : Shape} {e : EltTy} {sp sp' : Space} (c : Dev nD) (src : Memref sig .tc sp s e) (dst : Memref sig .tc sp' s e) (n : Fin 36)
    (hs : src.view.WordExact) (hd : dst.view.WordExact) (q : PosShare TreeShare) (g g' : s.Idx → Elt F e)
    (h1 : 4 ≤ n.val) (hu1 : usedD c n = true) (ha1 : amtD c n = dst.view.dmaCredit)
    (hp : iprop(own' c dst fullShare g ∗ own' c src q g) ⊢ dmaPay I c n) (hC : dk n ∉ C) {Q : PUnit.{1} → sProp 𝕄} (K : P F) : ∀ ht,
    iprop(St I N c ld ((c, dk n) :: lt) S C ∗ own' c src q g ∗ own' c dst fullShare g')
      ⊢ iprop((St I N c ld lt S (insert (dk n) C) -∗ WP c K Q)
        -∗ WP c (.op (.enqueueDma src (.here dst) (.dma (ds n)) hs hd ht) fun _ => K) Q) := by
  intro ht
  have e1 := csem_dk n h1
  have hc1 : kcell (c, dk n) = ((c : Thread nD τ), .dma (ds n)) := by unfold kcell; rw [e1]
  have x1 : ex c (dk n) = dst.view.dmaCredit := by unfold ex; rw [e1]; exact ha1
  have d1 : dty c (dk n) = 0 := if_neg (show ¬ n.val - 2 < 2 by omega)
  unfold St
  rw [bigSep_ins hC]
  rw [toks_cons]
  rw [d1, x1, hc1]
  have hI1 := recs_inv I N (c, dk n)
  have hE1 := recs_reached I N (c, dk n)
  rw [hc1] at hI1 hE1
  unfold own' owns
  iintro ⟨⟨#HR, #HL, HO, Ht, Hlt, HS, HZ, HC⟩, Hs, Hd⟩ HK
  icases Hlt with ⟨Hlt, Hlts⟩
  ihave HI1 := hI1 $$ HR
  ihave HE1 := hE1 $$ HR
  icases Hs with ⟨%fs, %hfs, Hs⟩
  icases Hd with ⟨%fd, %hfd, Hd⟩
  have hq : iprop((dst.view.loc (c : Thread nD τ) ↦[dst.view.set]{fullShare} (dst.view.write (Elt F) fd (src.view.read (Elt F) fs) Finset.univ))
      ∗ (src.view.loc (c : Thread nD τ) ↦[src.view.set]{q} fs) : sProp 𝕄) ⊢ dmaPay I c n := by
    refine BI.Entails.trans ?_ hp
    subst hfs; unfold own'
    have := owns_intro (Ix := Unit) (Name := ℕ) (U := UU) (Lvl := ℕ) (c : Thread nD τ) dst fullShare (dst.view.write (Elt F) fd (src.view.read (Elt F) fs) Finset.univ)
    rw [View.read_write_univ] at this
    exact BI.sep_mono this (owns_intro (Ix := Unit) (Name := ℕ) (U := UU) (Lvl := ℕ) (c : Thread nD τ) src q fs)
  iapply (Rounds.wp_copy_pointsTo 𝒱₀ ER (Sd I) (c : Thread nD τ) none (src := src) (dst := dst) (sem := .dma (ds n)) (κ := N (c, dk n))
    (r := 0) (d := 0) (fs := fs) (fd := fd) (q := q)
    (by rw [duties_dma I c n hu1]; exact Finset.mem_singleton_self _)
    () dst.view.dmaCredit rfl ((amount_dma I c (ds n) 0).trans ha1) (by rw [payload_dma]; exact hq)) $$ [HI1 Hs Hd Hlt HE1]
  · isplitl [HI1]; · iexact HI1
    isplitl [Hs]; · iexact Hs
    isplitl [Hd]; · iexact Hd
    isplitl [Hlt]; · iexact Hlt
    iexact HE1
  iintro Hc
  iapply HK
  isplitr; · iexact HR
  isplitr; · iexact HL
  isplitl [HO]; · iexact HO
  isplitl [Ht]; · iexact Ht
  isplitl [Hlts]; · iexact Hlts
  isplitl [HS]; · iexact HS
  isplitl [HZ]; · iexact HZ
  isplitl [Hc]; · iexact Hc
  iexact HC

theorem sdiff_erase_eq {k : Fin 34} (hS : k ∈ S) : (Finset.univ \ S.erase k : Finset (Fin 34)) = insert k (Finset.univ \ S) := by
  ext x; simp only [Finset.mem_sdiff, Finset.mem_univ, true_and, Finset.mem_erase, Finset.mem_insert, not_and_or, not_not, ne_eq]
theorem not_mem_sdiff {k : Fin 34} (hS : k ∈ S) : k ∉ (Finset.univ \ S : Finset (Fin 34)) := by
  simp only [Finset.mem_sdiff, Finset.mem_univ, true_and, not_not]; exact hS

/-- A wait on a cell, which closes it. -/
theorem wp_waitG (c : Dev nD) (k : Fin 34) {w : TpuEff nD τ sig (Elt F) Λ₀ .tc PUnit} {n : ℕ}
    (hw : ∀ K : PUnit → sProp 𝕄, wpE defs₀ 𝒱₀ (c : Thread nD τ) none Set.univ w K = waitSpec (c : Thread nD τ) Set.univ (csem k) n K)
    (hn : ex c k = n) (he : (Sd I).expect (kcell (c, k)) 0 = n) (hS : k ∈ S) (hC : k ∈ C)
    (hl : ld.all (fun p => lvS (csem k) < lvS (csem p.2)) = true) {Q : PUnit.{1} → sProp 𝕄} (K : P F) :
    St I N c ld lt S C
      ⊢ iprop(((St I N c ld lt (S.erase k) (C.erase k) ∗ bigSep ((Sd I).duties (kcell (c, k)) 0 \ ∅) (fun d => (Sd I).payload (kcell (c, k)) 0 d)) -∗ WP c K Q)
        -∗ WP c (.op w fun _ => K) Q) := by
  unfold St
  rw [bigSep_ers hS, bigSep_ers hC, hn]
  iintro ⟨#HR, #HL, ⟨%W, HO⟩, Ht, Hlt, HS, HZ, HC⟩ HK
  icases HS with ⟨Hat, HS⟩
  icases HC with ⟨Hc, HC⟩
  ihave HI1 := (recs_inv I N (c, k)) $$ HR
  ihave HI2 := (recs_inv I N (c, k)) $$ HR
  iapply (Rounds.wp_wait_rest_token 𝒱₀ ER (Sd I) (c : Thread nD τ) none (sm := csem k) (κ := N (c, k))
      hw (Set.mem_univ _) () (O := oweL ld) (W := W) (R := 0) (m := 0) (T := ∅) ((Nat.zero_add n).trans he.symm)) $$ [HI1 Hc HO Hat]
  · isplitl [HI1]; · iexact HI1
    isplitl [Hc]; · iexact Hc
    isplitl [HO]; · iexact HO
    isplitr; · iapply (mayWait c (csem k) ld hl); iexact HL
    iexact Hat
  iintro ⟨HO, Hat, -, Hpay⟩
  imod (Rounds.cell_close ER (Sd I) (Set.mem_univ (N (c, k))) (fun h => h) (R := 0 + 1) (duties_later I (kcell (c, k)))) $$ [HI2 Hat] with Hz
  · isplitl [HI2]; · iexact HI2
    iexact Hat
  iapply HK
  isplitr [Hpay]
  · isplitr; · iexact HR
    isplitr; · iexact HL
    isplitl [HO]; · iexists _; iexact HO
    isplitl [Ht]; · iexact Ht
    isplitl [Hlt]; · iexact Hlt
    isplitl [HS]; · iexact HS
    isplitl [Hz HZ]
    · rw [sdiff_erase_eq hS, bigSep_ins (not_mem_sdiff hS)]
      isplitl [Hz]; · iexact Hz
      iexact HZ
    iexact HC
  iexact Hpay

/-- A wait for a copy. -/
theorem wp_waitS {sp sp' : Space} {s : Shape} {e : EltTy} (c : Dev nD) (n : Fin 36) (src : Memref sig .tc sp' s e) (dst : Memref sig .tc sp s e)
    (hs : src.view.WordExact) (hd : dst.view.WordExact) (h1 : 4 ≤ n.val) (hu1 : usedD c n = true) (ha1 : amtD c n = dst.view.dmaCredit)
    {R : sProp 𝕄} (hR : dmaPay I c n = R) (hS : dk n ∈ S) (hC : dk n ∈ C) (hl : ld.all (fun p => lvS (.dma (ds n)) < lvS (csem p.2)) = true) {Q : PUnit.{1} → sProp 𝕄} (K : P F) :
    St I N c ld lt S C
      ⊢ iprop(((St I N c ld lt (S.erase (dk n)) (C.erase (dk n)) ∗ R) -∗ WP c K Q) -∗ WP c (waitD n src dst hs hd K) Q) := by
  have e1 := csem_dk n h1
  have hc1 : kcell (c, dk n) = ((c : Thread nD τ), .dma (ds n)) := by unfold kcell; rw [e1]
  have H := wp_waitG (Q := Q) I N c (dk n) (ld := ld) (lt := lt) (S := S) (C := C) (n := dst.view.dmaCredit) (w := .waitDma2 (ds n) src dst hs hd)
    (by rw [e1]; exact wpE_waitDma2_eq 𝒱₀ (c : Thread nD τ) none Set.univ) (by unfold ex; rw [e1]; exact ha1)
    (by rw [hc1]; exact (expect_dma I c (ds n) hu1).trans ha1) hS hC (by rw [e1]; exact hl) K
  rw [hc1, show bigSep ((Sd I).duties ((c : Thread nD τ), .dma (ds n)) 0 \ ∅) (fun d => (Sd I).payload ((c : Thread nD τ), .dma (ds n)) 0 d) = dmaPay I c n
    from rest_dma I c (ds n) hu1] at H
  rw [hR] at H
  exact H

/-- A wait for a barrier. -/
theorem wp_waitAllS (c : Dev nD) (k : Fin 34) (s : Sem sig) (hk : csem k = .reg s)
    (hS : k ∈ S) (hC : k ∈ C) (hl : ld.all (fun p => lvS (.reg s) < lvS (csem p.2)) = true) {Q : PUnit.{1} → sProp 𝕄} (K : P F) :
    St I N c ld lt S C
      ⊢ iprop(((St I N c ld lt (S.erase k) (C.erase k) ∗ regPay s 0 c ∗ regPay s 1 c ∗ regPay s 2 c ∗ regPay s 3 c) -∗ WP c K Q) -∗ WP c (waitAll s K) Q) := by
  have hc1 : kcell (c, k) = ((c : Thread nD τ), .reg s) := by unfold kcell; rw [hk]
  have H := wp_waitG (Q := Q) I N c k (ld := ld) (lt := lt) (S := S) (C := C) (n := 4) (w := .semWait s 4)
    (by rw [hk]; exact wpE_semWait_eq 𝒱₀ (c : Thread nD τ) none Set.univ) (by unfold ex; rw [hk])
    (by rw [hc1]; exact expect_reg I c s) hS hC (by rw [hk]; exact hl) K
  rw [hc1, rest_reg I c s] at H
  exact H

/-- At the end the cells never used close, and every semaphore of the device is at zero. -/
theorem St_end (c : Dev nD) (hS : ∀ k ∈ S, ∃ n : Fin 36, csem k = .dma (ds n) ∧ usedD c n = false) :
    St I N c [] lt S C ⊢ iprop(|={Set.univ}=> ((∃ W, owes (c : Thread nD τ) 0 W) ∗ bigSep Finset.univ fun k => semVal (kcell (c, k)) 0)) := by
  have H1 : recs I N ⊢ bigSep S fun k => (cellInv ER (Sd I) (N (c, k)) (kcell (c, k)) : sProp 𝕄) :=
    bigSep_intro_persistent fun k _ => recs_inv I N (c, k)
  have H2 : iprop((bigSep S fun k => (cellInv ER (Sd I) (N (c, k)) (kcell (c, k)) : sProp 𝕄)) ∗ bigSep S fun k => atPos ER (kcell (c, k)) 0 ∅ 0)
      ⊢ iprop(|={Set.univ}=> bigSep S fun k => semVal (kcell (c, k)) 0) := by
    refine BI.Entails.trans ?_ (bigSep_fupd S fun k => semVal (kcell (c, k)) 0)
    rw [← bigSep_sep']
    refine bigSep_mono fun k hk => ?_
    obtain ⟨n, hn, hu⟩ := hS k hk
    refine Rounds.cell_close ER (Sd I) (Set.mem_univ (N (c, k))) (fun h => h) (R := 0) (fun r _ => ?_)
    unfold kcell; rw [hn]; exact duties_unused I c _ hu r
  unfold St
  iintro ⟨#HR, -, HO, -, -, HS, HZ, -⟩
  ihave HI := H1 $$ HR
  imod H2 $$ [HI HS] with HV
  · isplitl [HI]; · iexact HI
    iexact HS
  imodintro
  isplitl [HO]; · unfold oweL; iexact HO
  rw [bigSep_split S]
  isplitl [HV]; · iexact HV
  iexact HZ

end State

end Cert.KernelIdeal
-- ==== Proof.Parts.lean ====
/-
  The parts of the body that use the semaphores, each run from its start to its end.
-/
module

public import proofs.«01_k».proof.Proof.Sched

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## What the opening barrier moves -/

/-- What a device hands out beside its halo buffers. -/
def outs (c : Dev nD) : sProp 𝕄 := match c.val with
  | 0 => iprop(sl 0 ∗ sl 1 ∗ sl 2) | _ => gg c
/-- What a device is handed beside its neighbours' halo buffers. -/
def inn (c : Dev nD) : sProp 𝕄 := match c.val with
  | 0 => iprop(gg 1 ∗ gg 2 ∗ gg 3) | 1 => sl 0 | 2 => sl 1 | _ => sl 2
theorem inn_succ (j : Fin 3) : (inn j.succ : sProp 𝕄) = sl j := by fin_cases j <;> rfl
theorem outs_succ (j : Fin 3) : (outs j.succ : sProp 𝕄) = gg j.succ := by fin_cases j <;> rfl

theorem sig_split (c : Dev nD) : iprop(hl c ∗ hr c ∗ outs c) ⊢ (iprop(barPay c 0 ∗ barPay c 1 ∗ barPay c 2 ∗ barPay c 3) : sProp 𝕄) := by
  fin_cases c
  · show iprop(hl 0 ∗ hr 0 ∗ sl 0 ∗ sl 1 ∗ sl 2) ⊢ (iprop(emp ∗ (hr 0 ∗ sl 0) ∗ sl 1 ∗ (hl 0 ∗ sl 2)) : sProp 𝕄)
    iintro ⟨H1, H2, H3, H4, H5⟩
    isplitr; · iempintro
    isplitl [H2 H3]
    · isplitl [H2]; · iexact H2
      iexact H3
    isplitl [H4]; · iexact H4
    isplitl [H1]; · iexact H1
    iexact H5
  · show iprop(hl 1 ∗ hr 1 ∗ gg 1) ⊢ (iprop((hl 1 ∗ gg 1) ∗ emp ∗ hr 1 ∗ emp) : sProp 𝕄)
    iintro ⟨H1, H2, H3⟩
    isplitl [H1 H3]
    · isplitl [H1]; · iexact H1
      iexact H3
    isplitr; · iempintro
    isplitl [H2]; · iexact H2
    iempintro
  · show iprop(hl 2 ∗ hr 2 ∗ gg 2) ⊢ (iprop(gg 2 ∗ hl 2 ∗ emp ∗ hr 2) : sProp 𝕄)
    iintro ⟨H1, H2, H3⟩
    isplitl [H3]; · iexact H3
    isplitl [H1]; · iexact H1
    isplitr; · iempintro
    iexact H2
  · show iprop(hl 3 ∗ hr 3 ∗ gg 3) ⊢ (iprop((hr 3 ∗ gg 3) ∗ emp ∗ hl 3 ∗ emp) : sProp 𝕄)
    iintro ⟨H1, H2, H3⟩
    isplitl [H2 H3]
    · isplitl [H2]; · iexact H2
      iexact H3
    isplitr; · iempintro
    isplitl [H1]; · iexact H1
    iempintro

theorem wait_split (c : Dev nD) : iprop(barPay 0 c ∗ barPay 1 c ∗ barPay 2 c ∗ barPay 3 c) ⊢ (iprop(hl (c + 1) ∗ hr (c + 3) ∗ inn c) : sProp 𝕄) := by
  fin_cases c
  · show iprop(emp ∗ (hl 1 ∗ gg 1) ∗ gg 2 ∗ hr 3 ∗ gg 3) ⊢ (iprop(hl 1 ∗ hr 3 ∗ gg 1 ∗ gg 2 ∗ gg 3) : sProp 𝕄)
    iintro ⟨-, ⟨H1, H2⟩, H3, H4, H5⟩
    isplitl [H1]; · iexact H1
    isplitl [H4]; · iexact H4
    isplitl [H2]; · iexact H2
    isplitl [H3]; · iexact H3
    iexact H5
  · show iprop((hr 0 ∗ sl 0) ∗ emp ∗ hl 2 ∗ emp) ⊢ (iprop(hl 2 ∗ hr 0 ∗ sl 0) : sProp 𝕄)
    iintro ⟨⟨H1, H2⟩, -, H3, -⟩
    isplitl [H3]; · iexact H3
    isplitl [H1]; · iexact H1
    iexact H2
  · show iprop(sl 1 ∗ hr 1 ∗ emp ∗ hl 3) ⊢ (iprop(hl 3 ∗ hr 1 ∗ sl 1) : sProp 𝕄)
    iintro ⟨H1, H2, -, H3⟩
    isplitl [H3]; · iexact H3
    isplitl [H2]; · iexact H2
    iexact H1
  · show iprop((hl 0 ∗ sl 2) ∗ emp ∗ hr 2 ∗ emp) ⊢ (iprop(hl 0 ∗ hr 2 ∗ sl 2) : sProp 𝕄)
    iintro ⟨⟨H1, H2⟩, -, H3, -⟩
    isplitl [H1]; · iexact H1
    isplitl [H3]; · iexact H3
    iexact H2

theorem usedD_succ (j : Fin 3) (n : Fin 36) : usedD j.succ n = [4, 5, 6, 7, 8, 9, 10, 19, 20, 21, 22, 23, 24, 25, 26].elem n.val :=
  if_neg (Fin.succ_ne_zero j)
theorem used_all (c : Dev nD) (n : Fin 36) (h : [4, 5, 6, 7, 8, 9, 20, 21, 22, 23].elem n.val = true) : usedD c n = true := by
  revert c n; decide +kernel
theorem left_right (c : Dev nD) : c + 3 + 1 = c := by revert c; decide
theorem right_left (c : Dev nD) : c + 1 + 3 = c := by revert c; decide

/-- Signals to all, and to each device. -/
def toAll (k : Fin 34) (l : List (Dev nD × Fin 34)) : List (Dev nD × Fin 34) := (0, k) :: (1, k) :: (2, k) :: (3, k) :: l

section
variable (I : In F) (N : Dev nD × Fin 34 → ℕ)
variable {ld lt : List (Dev nD × Fin 34)} {S C : Finset (Fin 34)}

theorem wp_sigAllS (c : Dev nD) (k : Fin 34) (s : Sem sig) (hk : csem k = .reg s) (hd : dty c k = c) {Q : PUnit.{1} → sProp 𝕄} (K : P F) :
    iprop(St I N c (toAll k ld) lt S C ∗ regPay s c 0 ∗ regPay s c 1 ∗ regPay s c 2 ∗ regPay s c 3)
      ⊢ iprop((St I N c ld lt S C -∗ WP c K Q) -∗ WP c (sigAll s K) Q) := by
  unfold sigAll toAll
  iintro ⟨HS, H0, H1, H2, H3⟩ HK
  iapply (wp_sigS I N c 0 k s hk hd _) $$ [HS H0]
  · isplitl [HS]; · iexact HS
    iexact H0
  iintro HS
  iapply (wp_sigS I N c 1 k s hk hd _) $$ [HS H1]
  · isplitl [HS]; · iexact HS
    iexact H1
  iintro HS
  iapply (wp_sigS I N c 2 k s hk hd _) $$ [HS H2]
  · isplitl [HS]; · iexact HS
    iexact H2
  iintro HS
  iapply (wp_sigS I N c 3 k s hk hd _) $$ [HS H3]
  · isplitl [HS]; · iexact HS
    iexact H3
  iexact HK

/-- The cells and credits after the opening. -/
def openS (S : Finset (Fin 34)) : Finset (Fin 34) := ((S.erase 0).erase (dk 4)).erase (dk 5)
def openC (C : Finset (Fin 34)) : Finset (Fin 34) := (((insert (dk 5) (insert (dk 4) C)).erase 0).erase (dk 4)).erase (dk 5)

theorem regPay_bar (d e : Dev nD) : (regPay bar d e : sProp 𝕄) = barPay d e := if_pos rfl
theorem regPay_bar2 (d e : Dev nD) : (regPay bar2 d e : sProp 𝕄) = iprop(emp) := if_neg (by decide)

/-- The opening: the copies, the barrier, the queries, the keys and values narrowed. -/
def opening (K : P F) : P F :=
  copies <| sigAll bar <| queries <| waitAll bar <|
  waitD 4 mK mKf (Memref.isWhole_whole _).wordExact (Memref.isWhole_whole _).wordExact <|
  waitD 5 mV mVf (Memref.isWhole_whole _).wordExact (Memref.isWhole_whole _).wordExact <|
  narrow K

theorem wp_opening (c : Dev nD) (q1 q2 : PosShare TreeShare) (hC4 : dk 4 ∉ C) (hC5 : dk 5 ∉ insert (dk 4) C) (h0 : 0 ∈ C)
    (hS0 : 0 ∈ S) (hS4 : dk 4 ∈ S) (hS5 : dk 5 ∈ S) (hl1 : ld.all (fun p => lvS (.reg bar) < lvS (csem p.2)) = true)
    (hl0 : ld.all (fun p => 0 < lvS (csem p.2)) = true) {Q : PUnit.{1} → sProp 𝕄} (K : P F) :
    iprop(St I N c (toAll 0 ld) ((c, dk 4) :: (c, dk 5) :: lt) S C ∗ own' c mWq q1 (I.wq c) ∗ own' c mX q2 (I.x c)
        ∗ own' c mK fullShare (I.k c) ∗ own' c mV fullShare (I.v c) ∗ any c mKf ∗ any c mVf ∗ any c mKo ∗ any c mVo ∗ any c mQ ∗ hl c ∗ hr c ∗ outs c)
      ⊢ iprop(((St I N c ld lt (openS S) (openC C) ∗ own' c mWq q1 (I.wq c) ∗ own' c mX q2 (I.x c)
          ∗ own' c mK fullShare (I.k c) ∗ own' c mV fullShare (I.v c) ∗ any c mKf ∗ any c mVf
          ∗ own' c mKo fullShare (I.k' c) ∗ own' c mVo fullShare (I.v' c) ∗ own' c mQ fullShare (I.q' c) ∗ hl (c + 1) ∗ hr (c + 3) ∗ inn c) -∗ WP c K Q)
        -∗ WP c (opening K) Q) := by
  unfold opening copies any openS openC
  iintro ⟨HS, Hwq, Hx, Hk, Hv, ⟨%fKf, Hkf⟩, ⟨%fVf, Hvf⟩, ⟨%fKo, Hko⟩, ⟨%fVo, Hvo⟩, ⟨%fQ, HQ⟩, Hhl, Hhr, Ho⟩ HK
  iapply (wp_copyS I N c mK mKf 4 _ _ fullShare (I.k c) fKf (by decide) (used_all c 4 rfl) rfl (BI.Entails.refl _) hC4 _ _) $$ [HS Hk Hkf]
  · isplitl [HS]; · iexact HS
    isplitl [Hk]; · iexact Hk
    iexact Hkf
  iintro HS
  iapply (wp_copyS I N c mV mVf 5 _ _ fullShare (I.v c) fVf (by decide) (used_all c 5 rfl) rfl (BI.Entails.refl _) hC5 _ _) $$ [HS Hv Hvf]
  · isplitl [HS]; · iexact HS
    isplitl [Hv]; · iexact Hv
    iexact Hvf
  iintro HS
  ihave Hp := (sig_split c) $$ [Hhl Hhr Ho]
  · isplitl [Hhl]; · iexact Hhl
    isplitl [Hhr]; · iexact Hhr
    iexact Ho
  icases Hp with ⟨H0, H1, H2, H3⟩
  iapply (wp_sigAllS I N c 0 bar rfl rfl _) $$ [HS H0 H1 H2 H3]
  · rw [regPay_bar, regPay_bar, regPay_bar, regPay_bar]
    isplitl [HS]; · iexact HS
    isplitl [H0]; · iexact H0
    isplitl [H1]; · iexact H1
    isplitl [H2]; · iexact H2
    iexact H3
  iintro HS
  iapply (wp_queries c q1 q2 (I.wq c) (I.x c) fQ _) $$ [Hwq Hx HQ]
  · isplitl [Hwq]; · iexact Hwq
    isplitl [Hx]; · iexact Hx
    iexact HQ
  iintro ⟨Hwq, Hx, HQ⟩
  iapply (wp_waitAllS I N c 0 bar rfl hS0 (Finset.mem_insert_of_mem (Finset.mem_insert_of_mem h0)) hl1 _) $$ HS
  iintro ⟨HS, H0, H1, H2, H3⟩
  ihave Hp := (wait_split c) $$ [H0 H1 H2 H3]
  · rw [← regPay_bar, ← regPay_bar, ← regPay_bar, ← regPay_bar]
    isplitl [H0]; · iexact H0
    isplitl [H1]; · iexact H1
    isplitl [H2]; · iexact H2
    iexact H3
  icases Hp with ⟨Hhl, Hhr, Ho⟩
  iapply (wp_waitS I N c 4 mK mKf _ _ (by decide) (used_all c 4 rfl) rfl (R := iprop(own' c mKf fullShare (I.k c) ∗ own' c mK fullShare (I.k c))) rfl (Finset.mem_erase.mpr ⟨by decide, hS4⟩)
    (Finset.mem_erase.mpr ⟨by decide, Finset.mem_insert_of_mem (Finset.mem_insert_self _ _)⟩) hl0 _) $$ HS
  iintro ⟨HS, Hp⟩
  icases Hp with ⟨Hkf, Hk⟩
  iapply (wp_waitS I N c 5 mV mVf _ _ (by decide) (used_all c 5 rfl) rfl (R := iprop(own' c mVf fullShare (I.v c) ∗ own' c mV fullShare (I.v c))) rfl (Finset.mem_erase.mpr ⟨by decide, Finset.mem_erase.mpr ⟨by decide, hS5⟩⟩)
    (Finset.mem_erase.mpr ⟨by decide, Finset.mem_erase.mpr ⟨by decide, Finset.mem_insert_self _ _⟩⟩) hl0 _) $$ HS
  iintro ⟨HS, Hp⟩
  icases Hp with ⟨Hvf, Hv⟩
  iapply (wp_narrow c fullShare fullShare (I.k c) (I.v c) fKo fVo _) $$ [Hkf Hvf Hko Hvo]
  · isplitl [Hkf]; · iexact Hkf
    isplitl [Hvf]; · iexact Hvf
    isplitl [Hko]; · iexact Hko
    iexact Hvo
  iintro ⟨Hkf, Hvf, Hko, Hvo⟩
  iapply HK
  isplitl [HS]; · iexact HS
  isplitl [Hwq]; · iexact Hwq
  isplitl [Hx]; · iexact Hx
  isplitl [Hk]; · iexact Hk
  isplitl [Hv]; · iexact Hv
  isplitl [Hkf]; · iexists _; iexact Hkf
  isplitl [Hvf]; · iexists _; iexact Hvf
  isplitl [Hko]; · iexact Hko
  isplitl [Hvo]; · iexact Hvo
  isplitl [HQ]; · iexact HQ
  isplitl [Hhl]; · iexact Hhl
  isplitl [Hhr]; · iexact Hhr
  iexact Ho

/-! ## Loans -/

theorem lendTail (c : Dev nD) (m : Memref sig .tc .vmem S2x512x512 .bf16) (n : ℕ) (g : Vec F (sh3 2 512 512) .bf16) :
    own' c m (kept n) g ⊢ iprop(own' c m (kept (n + 1)) g ∗ own' c (tailOf m) (lent n) (sub rTail g)
      ∗ ((own' c m (kept (n + 1)) g ∗ own' c (tailOf m) (lent n) (sub rTail g)) -∗ own' c m (kept n) g)) := lend c m (kept n) rTail _ g
theorem lendHead (c : Dev nD) (m : Memref sig .tc .vmem S2x512x512 .bf16) (n : ℕ) (g : Vec F (sh3 2 512 512) .bf16) :
    own' c m (kept n) g ⊢ iprop(own' c m (kept (n + 1)) g ∗ own' c (headsOf m) (lent n) (sub rHead g)
      ∗ ((own' c m (kept (n + 1)) g ∗ own' c (headsOf m) (lent n) (sub rHead g)) -∗ own' c m (kept n) g)) := lend c m (kept n) rHead _ g
theorem lendTop (c : Dev nD) (m : Memref sig .tc .vmem S2x512x512 .bf16) (n : ℕ) (g : Vec F (sh3 2 512 512) .bf16) :
    own' c m (kept n) g ⊢ iprop(own' c m (kept (n + 1)) g ∗ own' c (topOf m) (lent n) (sub rTop g)
      ∗ ((own' c m (kept (n + 1)) g ∗ own' c (topOf m) (lent n) (sub rTop g)) -∗ own' c m (kept n) g)) := lend c m (kept n) rTop _ g

/-- Two loans: the last rows and the first. -/
theorem lendHalo (c : Dev nD) (m : Memref sig .tc .vmem S2x512x512 .bf16) (g : Vec F (sh3 2 512 512) .bf16) :
    own' c m fullShare g ⊢ iprop(own' c m (kept 2) g ∗ own' c (tailOf m) (lent 0) (sub rTail g) ∗ own' c (headsOf m) (lent 1) (sub rHead g)
      ∗ ((own' c m (kept 2) g ∗ own' c (tailOf m) (lent 0) (sub rTail g) ∗ own' c (headsOf m) (lent 1) (sub rHead g)) -∗ own' c m fullShare g)) := by
  change own' c m (kept 0) g ⊢ iprop(_ ∗ _ ∗ _ ∗ (_ -∗ own' c m (kept 0) g))
  iintro H
  ihave H := (lendTail c m 0 g) $$ H
  icases H with ⟨H, Ht, HB⟩
  ihave H := (lendHead c m 1 g) $$ H
  icases H with ⟨H, Hh, HB'⟩
  isplitl [H]; · iexact H
  isplitl [Ht]; · iexact Ht
  isplitl [Hh]; · iexact Hh
  iintro ⟨H, Ht, Hh⟩
  iapply HB
  isplitl [H Hh HB']
  · iapply HB'
    isplitl [H]; · iexact H
    iexact Hh
  iexact Ht

/-- Three loans of the first rows. -/
theorem lendTops (c : Dev nD) (m : Memref sig .tc .vmem S2x512x512 .bf16) (n : ℕ) (g : Vec F (sh3 2 512 512) .bf16) :
    own' c m (kept n) g ⊢ iprop(own' c m (kept (n + 3)) g ∗ own' c (topOf m) (lent n) (sub rTop g) ∗ own' c (topOf m) (lent (n + 1)) (sub rTop g) ∗ own' c (topOf m) (lent (n + 2)) (sub rTop g)
      ∗ ((own' c m (kept (n + 3)) g ∗ own' c (topOf m) (lent n) (sub rTop g) ∗ own' c (topOf m) (lent (n + 1)) (sub rTop g) ∗ own' c (topOf m) (lent (n + 2)) (sub rTop g))
        -∗ own' c m (kept n) g)) := by
  iintro H
  ihave H := (lendTop c m n g) $$ H
  icases H with ⟨H, H0, B0⟩
  ihave H := (lendTop c m (n + 1) g) $$ H
  icases H with ⟨H, H1, B1⟩
  ihave H := (lendTop c m (n + 2) g) $$ H
  icases H with ⟨H, H2, B2⟩
  isplitl [H]; · iexact H
  isplitl [H0]; · iexact H0
  isplitl [H1]; · iexact H1
  isplitl [H2]; · iexact H2
  iintro ⟨H, H0, H1, H2⟩
  iapply B0
  isplitl [H H1 H2 B1 B2]
  · iapply B1
    isplitl [H H2 B2]
    · iapply B2
      isplitl [H]; · iexact H
      iexact H2
    iexact H1
  iexact H0

/-! ## Halos -/

theorem wp_halos (c : Dev nD) (h6 : dk 6 ∉ C) (h7 : dk 7 ∉ insert (dk 6) C) (h8 : dk 8 ∉ insert (dk 7) (insert (dk 6) C))
    (h9 : dk 9 ∉ insert (dk 8) (insert (dk 7) (insert (dk 6) C))) {Q : PUnit.{1} → sProp 𝕄} (K : P F) :
    iprop(St I N c ((c + 1, dk 20) :: (c + 1, dk 21) :: (c + 3, dk 22) :: (c + 3, dk 23) :: ld) ((c, dk 6) :: (c, dk 7) :: (c, dk 8) :: (c, dk 9) :: lt) S C
        ∗ own' c (tailOf mKo) (lent 0) (sub rTail (I.k' c)) ∗ own' c (tailOf mVo) (lent 0) (sub rTail (I.v' c))
        ∗ own' c (headsOf mKo) (lent 1) (sub rHead (I.k' c)) ∗ own' c (headsOf mVo) (lent 1) (sub rHead (I.v' c)) ∗ hl (c + 1) ∗ hr (c + 3))
      ⊢ iprop((St I N c ld lt S (insert (dk 9) (insert (dk 8) (insert (dk 7) (insert (dk 6) C)))) -∗ WP c K Q) -∗ WP c (halos c K) Q) := by
  unfold halos hl hr any
  iintro ⟨HS, Ht, Htv, Hh, Hhv, ⟨⟨%f1, Hlk⟩, ⟨%f2, Hlv⟩⟩, ⟨⟨%f3, Hrk⟩, ⟨%f4, Hrv⟩⟩⟩ HK
  iapply (wp_sendS I N c (c + 1) (tailOf mKo) mHlk 6 20 _ _ (lent 0) (sub rTail (I.k' c)) f1 (by decide) (by decide) (used_all c 6 rfl) (used_all _ 20 rfl) rfl rfl
    (BI.Entails.refl _) (Entails.of_eq (by show _ = own' (c + 1) mHlk fullShare (sub rTail (I.k' (c + 1 + 3))); rw [right_left])) h6 _) $$ [HS Ht Hlk]
  · isplitl [HS]; · iexact HS
    isplitl [Ht]; · iexact Ht
    iexact Hlk
  iintro HS
  iapply (wp_sendS I N c (c + 1) (tailOf mVo) mHlv 7 21 _ _ (lent 0) (sub rTail (I.v' c)) f2 (by decide) (by decide) (used_all c 7 rfl) (used_all _ 21 rfl) rfl rfl
    (BI.Entails.refl _) (Entails.of_eq (by show _ = own' (c + 1) mHlv fullShare (sub rTail (I.v' (c + 1 + 3))); rw [right_left])) h7 _) $$ [HS Htv Hlv]
  · isplitl [HS]; · iexact HS
    isplitl [Htv]; · iexact Htv
    iexact Hlv
  iintro HS
  iapply (wp_sendS I N c (c + 3) (headsOf mKo) mHrk 8 22 _ _ (lent 1) (sub rHead (I.k' c)) f3 (by decide) (by decide) (used_all c 8 rfl) (used_all _ 22 rfl) rfl rfl
    (BI.Entails.refl _) (Entails.of_eq (by show _ = own' (c + 3) mHrk fullShare (sub rHead (I.k' (c + 3 + 1))); rw [left_right])) h8 _) $$ [HS Hh Hrk]
  · isplitl [HS]; · iexact HS
    isplitl [Hh]; · iexact Hh
    iexact Hrk
  iintro HS
  iapply (wp_sendS I N c (c + 3) (headsOf mVo) mHrv 9 23 _ _ (lent 1) (sub rHead (I.v' c)) f4 (by decide) (by decide) (used_all c 9 rfl) (used_all _ 23 rfl) rfl rfl
    (BI.Entails.refl _) (Entails.of_eq (by show _ = own' (c + 3) mHrv fullShare (sub rHead (I.v' (c + 3 + 1))); rw [left_right])) h9 _) $$ [HS Hhv Hrv]
  · isplitl [HS]; · iexact HS
    isplitl [Hhv]; · iexact Hhv
    iexact Hrv
  iexact HK

/-- Four waits' effect on a set of cells. -/
def less4 (a b d e : Fin 34) (S : Finset (Fin 34)) : Finset (Fin 34) := (((S.erase a).erase b).erase d).erase e

theorem wp_haloBlocks (c : Dev nD) (A : Vec F (sh3 2 512 512) .f32) (L : Vec F (sh3 2 512 8) .f32) (q : PosShare TreeShare)
    (hS : dk 20 ∈ S ∧ dk 21 ∈ S ∧ dk 22 ∈ S ∧ dk 23 ∈ S) (hC : dk 20 ∈ C ∧ dk 21 ∈ C ∧ dk 22 ∈ C ∧ dk 23 ∈ C)
    (hl : ld.all (fun p => 2 < lvS (csem p.2)) = true) {Q : PUnit.{1} → sProp 𝕄} (K : P F) :
    iprop(St I N c ld lt S C ∗ own' c mQ q (I.q' c) ∗ own' c mA fullShare A ∗ own' c mL fullShare L)
      ⊢ iprop(((St I N c ld lt (less4 (dk 20) (dk 21) (dk 22) (dk 23) S) (less4 (dk 20) (dk 21) (dk 22) (dk 23) C)
          ∗ own' c mQ q (I.q' c) ∗ any c mHlk ∗ any c mHlv ∗ any c mHrk ∗ any c mHrv
          ∗ own' c mA fullShare (haloA c (I.q' c) (sub rTail (I.k' (c + 3))) (sub rTail (I.v' (c + 3))) (sub rHead (I.k' (c + 1))) (sub rHead (I.v' (c + 1))) A)
          ∗ own' c mL fullShare (haloL c (I.q' c) (sub rTail (I.k' (c + 3))) (sub rHead (I.k' (c + 1))) L)) -∗ WP c K Q)
        -∗ WP c (haloBlocks c K) Q) := by
  unfold haloBlocks less4
  iintro ⟨HS, HQ, HA, HL⟩ HK
  iapply (wp_waitS I N c 20 _ mHlk _ _ (by decide) (used_all c 20 rfl) rfl (R := own' c mHlk fullShare (sub rTail (I.k' (c + 3)))) rfl hS.1 hC.1 hl _) $$ HS
  iintro ⟨HS, H1⟩
  iapply (wp_waitS I N c 21 _ mHlv _ _ (by decide) (used_all c 21 rfl) rfl (R := own' c mHlv fullShare (sub rTail (I.v' (c + 3)))) rfl (Finset.mem_erase.mpr ⟨by decide, hS.2.1⟩)
    (Finset.mem_erase.mpr ⟨by decide, hC.2.1⟩) hl _) $$ HS
  iintro ⟨HS, H2⟩
  iapply (wp_waitS I N c 22 _ mHrk _ _ (by decide) (used_all c 22 rfl) rfl (R := own' c mHrk fullShare (sub rHead (I.k' (c + 1)))) rfl (Finset.mem_erase.mpr ⟨by decide, Finset.mem_erase.mpr ⟨by decide, hS.2.2.1⟩⟩)
    (Finset.mem_erase.mpr ⟨by decide, Finset.mem_erase.mpr ⟨by decide, hC.2.2.1⟩⟩) hl _) $$ HS
  iintro ⟨HS, H3⟩
  iapply (wp_waitS I N c 23 _ mHrv _ _ (by decide) (used_all c 23 rfl) rfl (R := own' c mHrv fullShare (sub rHead (I.v' (c + 1)))) rfl
    (Finset.mem_erase.mpr ⟨by decide, Finset.mem_erase.mpr ⟨by decide, Finset.mem_erase.mpr ⟨by decide, hS.2.2.2⟩⟩⟩)
    (Finset.mem_erase.mpr ⟨by decide, Finset.mem_erase.mpr ⟨by decide, Finset.mem_erase.mpr ⟨by decide, hC.2.2.2⟩⟩⟩) hl _) $$ HS
  iintro ⟨HS, H4⟩
  iapply (wp_haloL c c q (I.q' c) (sub rTail (I.k' (c + 3))) (sub rTail (I.v' (c + 3))) (sub rHead (I.k' (c + 1))) (sub rHead (I.v' (c + 1))) A L _)
    $$ [HQ H1 H2 H3 H4 HA HL]
  · isplitl [HQ]; · iexact HQ
    isplitl [H1]; · iexact H1
    isplitl [H2]; · iexact H2
    isplitl [H3]; · iexact H3
    isplitl [H4]; · iexact H4
    isplitl [HA]; · iexact HA
    iexact HL
  iintro ⟨HQ, H1, H2, H3, H4, HA, HL⟩
  iapply HK
  isplitl [HS]; · iexact HS
  isplitl [HQ]; · iexact HQ
  isplitl [H1]; · iapply (any_intro c mHlk _); iexact H1
  isplitl [H2]; · iapply (any_intro c mHlv _); iexact H2
  isplitl [H3]; · iapply (any_intro c mHrk _); iexact H3
  isplitl [H4]; · iapply (any_intro c mHrv _); iexact H4
  isplitl [HA]; · iexact HA
  iexact HL

theorem wp_sendWaits (c : Dev nD)
    (hS : dk 6 ∈ S ∧ dk 7 ∈ S ∧ dk 8 ∈ S ∧ dk 9 ∈ S) (hC : dk 6 ∈ C ∧ dk 7 ∈ C ∧ dk 8 ∈ C ∧ dk 9 ∈ C)
    (hl : ld.all (fun p => 0 < lvS (csem p.2)) = true) {Q : PUnit.{1} → sProp 𝕄} (K : P F) :
    St I N c ld lt S C
      ⊢ iprop(((St I N c ld lt (less4 (dk 6) (dk 7) (dk 8) (dk 9) S) (less4 (dk 6) (dk 7) (dk 8) (dk 9) C)
          ∗ own' c (tailOf mKo) (lent 0) (sub rTail (I.k' c)) ∗ own' c (tailOf mVo) (lent 0) (sub rTail (I.v' c))
          ∗ own' c (headsOf mKo) (lent 1) (sub rHead (I.k' c)) ∗ own' c (headsOf mVo) (lent 1) (sub rHead (I.v' c))) -∗ WP c K Q)
        -∗ WP c (sendWaits K) Q) := by
  unfold sendWaits less4
  iintro HS HK
  iapply (wp_waitS I N c 6 _ (tailOf mKo) _ _ (by decide) (used_all c 6 rfl) rfl (R := own' c (tailOf mKo) (lent 0) (sub rTail (I.k' c))) rfl hS.1 hC.1 hl _) $$ HS
  iintro ⟨HS, H1⟩
  iapply (wp_waitS I N c 7 _ (tailOf mVo) _ _ (by decide) (used_all c 7 rfl) rfl (R := own' c (tailOf mVo) (lent 0) (sub rTail (I.v' c))) rfl (Finset.mem_erase.mpr ⟨by decide, hS.2.1⟩)
    (Finset.mem_erase.mpr ⟨by decide, hC.2.1⟩) hl _) $$ HS
  iintro ⟨HS, H2⟩
  iapply (wp_waitS I N c 8 _ (headsOf mKo) _ _ (by decide) (used_all c 8 rfl) rfl (R := own' c (headsOf mKo) (lent 1) (sub rHead (I.k' c))) rfl (Finset.mem_erase.mpr ⟨by decide, Finset.mem_erase.mpr ⟨by decide, hS.2.2.1⟩⟩)
    (Finset.mem_erase.mpr ⟨by decide, Finset.mem_erase.mpr ⟨by decide, hC.2.2.1⟩⟩) hl _) $$ HS
  iintro ⟨HS, H3⟩
  iapply (wp_waitS I N c 9 _ (headsOf mVo) _ _ (by decide) (used_all c 9 rfl) rfl (R := own' c (headsOf mVo) (lent 1) (sub rHead (I.v' c))) rfl
    (Finset.mem_erase.mpr ⟨by decide, Finset.mem_erase.mpr ⟨by decide, Finset.mem_erase.mpr ⟨by decide, hS.2.2.2⟩⟩⟩)
    (Finset.mem_erase.mpr ⟨by decide, Finset.mem_erase.mpr ⟨by decide, Finset.mem_erase.mpr ⟨by decide, hC.2.2.2⟩⟩⟩) hl _) $$ HS
  iintro ⟨HS, H4⟩
  iapply HK
  isplitl [HS]; · iexact HS
  isplitl [H1]; · iexact H1
  isplitl [H2]; · iexact H2
  isplitl [H3]; · iexact H3
  iexact H4

/-- The closing barrier. -/
theorem wp_closing (c : Dev nD) (hS : 1 ∈ S) (hC : 1 ∈ C) {Q : PUnit.{1} → sProp 𝕄} (K : P F) :
    St I N c (toAll 1 []) lt S C
      ⊢ iprop((St I N c [] lt (S.erase 1) (C.erase 1) -∗ WP c K Q) -∗ WP c (sigAll bar2 <| waitAll bar2 <| K) Q) := by
  iintro HS HK
  iapply (wp_sigAllS I N c 1 bar2 rfl rfl _) $$ [HS]
  · rw [regPay_bar2, regPay_bar2, regPay_bar2, regPay_bar2]
    isplitl [HS]; · iexact HS
    isplitr; · iempintro
    isplitr; · iempintro
    isplitr; · iempintro
    iempintro
  iintro HS
  iapply (wp_waitAllS I N c 1 bar2 rfl hS hC rfl _) $$ HS
  iintro ⟨HS, -, -, -, -⟩
  iapply HK
  iexact HS

end

end Cert.KernelIdeal
-- ==== Proof.Run.lean ====
/-
  The body run on device 0 and on the others.
-/
module

public import proofs.«01_k».proof.Proof.Parts

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## What each device computes -/

namespace In
variable (I : In F) (c : Dev nD)
/-- The products and sums after a device's own rows and its neighbours'. -/
def nearA : Vec F (sh3 2 512 512) .f32 :=
  haloA c (I.q' c) (sub rTail (I.k' (c + 3))) (sub rTail (I.v' (c + 3))) (sub rHead (I.k' (c + 1))) (sub rHead (I.v' (c + 1))) (ownA c (I.q' c) (I.k' c) (I.v' c))
def nearL : Vec F (sh3 2 512 8) .f32 :=
  haloL c (I.q' c) (sub rTail (I.k' (c + 3))) (sub rHead (I.k' (c + 1))) (ownL c (I.q' c) (I.k' c))
/-- The products and sums of device 0, and of another. -/
def fullA0 : Vec F (sh3 2 512 512) .f32 := shareA 2 (I.pa 3) (shareA 1 (I.pa 2) (shareA 0 (I.pa 1) (I.nearA 0)))
def fullL0 : Vec F (sh3 2 512 8) .f32 := shareL 2 (I.pl 3) (shareL 1 (I.pl 2) (shareL 0 (I.pl 1) (I.nearL 0)))
def fullAS : Vec F (sh3 2 512 512) .f32 := farA (I.q' c) (sub rTop (I.k' 0)) (sub rTop (I.v' 0)) (I.nearA c)
def fullLS : Vec F (sh3 2 512 8) .f32 := farL (I.q' c) (sub rTop (I.k' 0)) (I.nearL c)
/-- A device's output. -/
def out : Vec F (sh3 2 512 768) .bf16 :=
  if c = 0 then outC (I.wo 0) (ctxC I.fullA0 I.fullL0) else outC (I.wo c) (ctxC (I.fullAS c) (I.fullLS c))
end In

/-! ## Debts, tokens and credits at the start -/

def near (c : Dev nD) (l : List (Dev nD × Fin 34)) : List (Dev nD × Fin 34) := (c + 1, dk 20) :: (c + 1, dk 21) :: (c + 3, dk 22) :: (c + 3, dk 23) :: l
def locals (c : Dev nD) (l : List (Dev nD × Fin 34)) : List (Dev nD × Fin 34) :=
  (c, dk 4) :: (c, dk 5) :: (c, dk 6) :: (c, dk 7) :: (c, dk 8) :: (c, dk 9) :: l
def gKV (j : Fin 3) (l : List (Dev nD × Fin 34)) : List (Dev nD × Fin 34) := (j.succ, dk 24) :: (j.succ, dk 25) :: l
def gKVs (j : Fin 3) (l : List (Dev nD × Fin 34)) : List (Dev nD × Fin 34) := (0, dk (sG j 0)) :: (0, dk (sG j 1)) :: l
def debts0 : List (Dev nD × Fin 34) :=
  toAll 0 (near 0 (gKV 0 (gKV 1 (gKV 2 ((Fin.succ 0, dk 26) :: (Fin.succ 1, dk 26) :: (Fin.succ 2, dk 26) :: toAll 1 [])))))
def debtsS (j : Fin 3) : List (Dev nD × Fin 34) := toAll 0 (near j.succ ((0, dk (rA j)) :: (0, dk (rL j)) :: toAll 1 []))
def own0 : List (Dev nD × Fin 34) := locals 0 (gKVs 0 (gKVs 1 (gKVs 2 [(0, dk (sG 0 2)), (0, dk (sG 1 2)), (0, dk (sG 2 2))])))
def ownS (j : Fin 3) : List (Dev nD × Fin 34) := locals j.succ [(j.succ, dk 10), (j.succ, dk 19)]
def cred0 : Finset (Fin 34) := {0, 1, dk 20, dk 21, dk 22, dk 23, dk 27, dk 29, dk 31, dk 33, dk 34, dk 35}
def credS : Finset (Fin 34) := {0, 1, dk 20, dk 21, dk 22, dk 23, dk 24, dk 25, dk 26}

/-! ## Device 0's parts -/

section
variable (I : In F) (N : Dev nD × Fin 34 → ℕ)
variable {ld lt : List (Dev nD × Fin 34)} {S C : Finset (Fin 34)}

theorem used_sG (j i : Fin 3) : usedD 0 (sG j i) = true := by revert j i; decide
theorem used_rA (j : Fin 3) : usedD 0 (rA j) = true := by revert j; decide
theorem used_rL (j : Fin 3) : usedD 0 (rL j) = true := by revert j; decide
theorem amt_sG (j i : Fin 3) : amtD 0 (sG j i) = mGk.view.dmaCredit := by fin_cases j <;> fin_cases i <;> rfl
theorem amt_rA (j : Fin 3) : amtD 0 (rA j) = mPa.view.dmaCredit := by fin_cases j <;> rfl
theorem amt_rL (j : Fin 3) : amtD 0 (rL j) = mPl.view.dmaCredit := by fin_cases j <;> rfl
theorem pay_sG0 (j : Fin 3) : dmaPay I 0 (sG j 0) = own' 0 (topOf mKo) (lent (2 + j.val)) (sub rTop (I.k' 0)) := by fin_cases j <;> rfl
theorem pay_sG1 (j : Fin 3) : dmaPay I 0 (sG j 1) = own' 0 (topOf mVo) (lent (2 + j.val)) (sub rTop (I.v' 0)) := by fin_cases j <;> rfl
theorem pay_sG2 (j : Fin 3) : dmaPay I 0 (sG j 2) = own' 0 (topOf mQ) (lent j.val) (sub rTop (I.q' 0)) := by fin_cases j <;> rfl
theorem pay_rA (j : Fin 3) : dmaPay I 0 (rA j) = own' 0 (slabA j) fullShare (I.pa j.succ) := by fin_cases j <;> rfl
theorem pay_rL (j : Fin 3) : dmaPay I 0 (rL j) = own' 0 (slabL j) fullShare (I.pl j.succ) := by fin_cases j <;> rfl
theorem amt_10 (j : Fin 3) : amtD j.succ 10 = mPa.view.dmaCredit := by fin_cases j <;> rfl
theorem pay_10 (j : Fin 3) : dmaPay I j.succ 10 = own' j.succ mPa fullShare (I.pa j.succ) := by fin_cases j <;> rfl

theorem wp_gKV (j : Fin 3) (h0 : dk (sG j 0) ∉ C) (h1 : dk (sG j 1) ∉ insert (dk (sG j 0)) C) {Q : PUnit.{1} → sProp 𝕄} (K : P F) :
    iprop(St I N 0 (gKV j ld) (gKVs j lt) S C ∗ own' 0 (topOf mKo) (lent (2 + j.val)) (sub rTop (I.k' 0))
        ∗ own' 0 (topOf mVo) (lent (2 + j.val)) (sub rTop (I.v' 0)) ∗ any j.succ mGk ∗ any j.succ mGv)
      ⊢ iprop((St I N 0 ld lt S (insert (dk (sG j 1)) (insert (dk (sG j 0)) C)) -∗ WP 0 K Q)
        -∗ WP 0 (send (topOf mKo) mGk j.succ (sG j 0) 24 (wxTop _ (Memref.isWhole_whole _)) (Memref.isWhole_whole _).wordExact <|
            send (topOf mVo) mGv j.succ (sG j 1) 25 (wxTop _ (Memref.isWhole_whole _)) (Memref.isWhole_whole _).wordExact K) Q) := by
  unfold gKV gKVs any
  iintro ⟨HS, H1, H2, ⟨%f1, Hk⟩, ⟨%f2, Hv⟩⟩ HK
  iapply (wp_sendS I N 0 j.succ (topOf mKo) mGk (sG j 0) 24 _ _ (lent (2 + j.val)) (sub rTop (I.k' 0)) f1 (by show 4 ≤ 10 + 3 * j.val + 0; omega) (by decide)
    (used_sG j 0) (usedD_succ j 24) (amt_sG j 0) rfl (Entails.of_eq (pay_sG0 I j).symm) (BI.Entails.refl _) h0 _) $$ [HS H1 Hk]
  · isplitl [HS]; · iexact HS
    isplitl [H1]; · iexact H1
    iexact Hk
  iintro HS
  iapply (wp_sendS I N 0 j.succ (topOf mVo) mGv (sG j 1) 25 _ _ (lent (2 + j.val)) (sub rTop (I.v' 0)) f2 (by show 4 ≤ 10 + 3 * j.val + 1; omega) (by decide)
    (used_sG j 1) (usedD_succ j 25) (amt_sG j 1) rfl (Entails.of_eq (pay_sG1 I j).symm) (BI.Entails.refl _) h1 _) $$ [HS H2 Hv]
  · isplitl [HS]; · iexact HS
    isplitl [H2]; · iexact H2
    iexact Hv
  iexact HK

theorem wp_gQ (j : Fin 3) (h0 : dk (sG j 2) ∉ C) {Q : PUnit.{1} → sProp 𝕄} (K : P F) :
    iprop(St I N 0 ((j.succ, dk 26) :: ld) ((0, dk (sG j 2)) :: lt) S C ∗ own' 0 (topOf mQ) (lent j.val) (sub rTop (I.q' 0)) ∗ any j.succ mGq)
      ⊢ iprop((St I N 0 ld lt S (insert (dk (sG j 2)) C) -∗ WP 0 K Q)
        -∗ WP 0 (send (topOf mQ) mGq j.succ (sG j 2) 26 (wxTop _ (Memref.isWhole_whole _)) (Memref.isWhole_whole _).wordExact K) Q) := by
  unfold any
  iintro ⟨HS, H1, ⟨%f1, Hk⟩⟩ HK
  iapply (wp_sendS I N 0 j.succ (topOf mQ) mGq (sG j 2) 26 _ _ (lent j.val) (sub rTop (I.q' 0)) f1 (by show 4 ≤ 10 + 3 * j.val + 2; omega) (by decide)
    (used_sG j 2) (usedD_succ j 26) (amt_sG j 2) rfl (Entails.of_eq (pay_sG2 I j).symm) (BI.Entails.refl _) h0 _) $$ [HS H1 Hk]
  · isplitl [HS]; · iexact HS
    isplitl [H1]; · iexact H1
    iexact Hk
  iexact HK

theorem dk_ne {a b : Fin 36} (ha : 4 ≤ a.val) (h : a.val < b.val ∨ b.val < a.val) : dk b ≠ dk a := fun e => by
  have := congrArg Fin.val e
  simp only [dk] at this
  omega

theorem wp_gather1 (j : Fin 3) (hS : dk (rA j) ∈ S ∧ dk (rL j) ∈ S) (hC : dk (rA j) ∈ C ∧ dk (rL j) ∈ C)
    (hl : ld.all (fun p => 3 < lvS (csem p.2)) = true) {Q : PUnit.{1} → sProp 𝕄} (K : P F) :
    St I N 0 ld lt S C
      ⊢ iprop(((St I N 0 ld lt ((S.erase (dk (rA j))).erase (dk (rL j))) ((C.erase (dk (rA j))).erase (dk (rL j)))
          ∗ own' 0 (slabA j) fullShare (I.pa j.succ) ∗ own' 0 (slabL j) fullShare (I.pl j.succ)) -∗ WP 0 K Q)
        -∗ WP 0 (waitD (rA j) mPa (slabA j) (Memref.isWhole_whole _).wordExact (wxA j) <|
            waitD (rL j) mPl (slabL j) (Memref.isWhole_whole _).wordExact (wxL j) K) Q) := by
  have e1 : lvS (.dma (ds (rA j))) = 3 := by fin_cases j <;> decide
  have e2 : lvS (.dma (ds (rL j))) = 3 := by fin_cases j <;> decide
  have ne : dk (rL j) ≠ dk (rA j) := by fin_cases j <;> decide
  iintro HS HK
  iapply (wp_waitS I N 0 (rA j) mPa (slabA j) _ _ (by show 4 ≤ 27 + 2 * j.val; omega) (used_rA j) (amt_rA j) (pay_rA I j) hS.1 hC.1 (by rw [e1]; exact hl) _) $$ HS
  iintro ⟨HS, H1⟩
  iapply (wp_waitS I N 0 (rL j) mPl (slabL j) _ _ (by show 4 ≤ 33 + j.val; omega) (used_rL j) (amt_rL j) (pay_rL I j) (Finset.mem_erase.mpr ⟨ne, hS.2⟩)
    (Finset.mem_erase.mpr ⟨ne, hC.2⟩) (by rw [e2]; exact hl) _) $$ HS
  iintro ⟨HS, H2⟩
  iapply HK
  isplitl [HS]; · iexact HS
  isplitl [H1]; · iexact H1
  iexact H2

/-- Three waits' effect on a set of cells. -/
def less3 (a b d : Fin 34) (S : Finset (Fin 34)) : Finset (Fin 34) := ((S.erase a).erase b).erase d

theorem wp_gWait (j : Fin 3) (hS : dk (sG j 0) ∈ S ∧ dk (sG j 1) ∈ S ∧ dk (sG j 2) ∈ S) (hC : dk (sG j 0) ∈ C ∧ dk (sG j 1) ∈ C ∧ dk (sG j 2) ∈ C)
    (hl : ld.all (fun p => 0 < lvS (csem p.2)) = true) {Q : PUnit.{1} → sProp 𝕄} (K : P F) :
    St I N 0 ld lt S C
      ⊢ iprop(((St I N 0 ld lt (less3 (dk (sG j 0)) (dk (sG j 1)) (dk (sG j 2)) S) (less3 (dk (sG j 0)) (dk (sG j 1)) (dk (sG j 2)) C)
          ∗ own' 0 (topOf mKo) (lent (2 + j.val)) (sub rTop (I.k' 0)) ∗ own' 0 (topOf mVo) (lent (2 + j.val)) (sub rTop (I.v' 0))
          ∗ own' 0 (topOf mQ) (lent j.val) (sub rTop (I.q' 0))) -∗ WP 0 K Q)
        -∗ WP 0 (waitD (sG j 0) mGk (topOf mKo) (Memref.isWhole_whole _).wordExact (wxTop _ (Memref.isWhole_whole _)) <|
            waitD (sG j 1) mGv (topOf mVo) (Memref.isWhole_whole _).wordExact (wxTop _ (Memref.isWhole_whole _)) <|
            waitD (sG j 2) mGq (topOf mQ) (Memref.isWhole_whole _).wordExact (wxTop _ (Memref.isWhole_whole _)) K) Q) := by
  have e (i : Fin 3) : lvS (.dma (ds (sG j i))) = 0 := by fin_cases j <;> fin_cases i <;> decide
  have n1 : dk (sG j 1) ≠ dk (sG j 0) := by fin_cases j <;> decide
  have n2 : dk (sG j 2) ≠ dk (sG j 0) := by fin_cases j <;> decide
  have n3 : dk (sG j 2) ≠ dk (sG j 1) := by fin_cases j <;> decide
  unfold less3
  iintro HS HK
  iapply (wp_waitS I N 0 (sG j 0) mGk (topOf mKo) _ _ (by show 4 ≤ 10 + 3 * j.val + 0; omega) (used_sG j 0) (amt_sG j 0) (pay_sG0 I j) hS.1 hC.1
    (by rw [e]; exact hl) _) $$ HS
  iintro ⟨HS, H1⟩
  iapply (wp_waitS I N 0 (sG j 1) mGv (topOf mVo) _ _ (by show 4 ≤ 10 + 3 * j.val + 1; omega) (used_sG j 1) (amt_sG j 1) (pay_sG1 I j)
    (Finset.mem_erase.mpr ⟨n1, hS.2.1⟩) (Finset.mem_erase.mpr ⟨n1, hC.2.1⟩) (by rw [e]; exact hl) _) $$ HS
  iintro ⟨HS, H2⟩
  iapply (wp_waitS I N 0 (sG j 2) mGq (topOf mQ) _ _ (by show 4 ≤ 10 + 3 * j.val + 2; omega) (used_sG j 2) (amt_sG j 2) (pay_sG2 I j)
    (Finset.mem_erase.mpr ⟨n3, Finset.mem_erase.mpr ⟨n2, hS.2.2⟩⟩) (Finset.mem_erase.mpr ⟨n3, Finset.mem_erase.mpr ⟨n2, hC.2.2⟩⟩) (by rw [e]; exact hl) _) $$ HS
  iintro ⟨HS, H3⟩
  iapply HK
  isplitl [HS]; · iexact HS
  isplitl [H1]; · iexact H1
  isplitl [H2]; · iexact H2
  iexact H3

/-! ## Another device's parts -/

theorem wp_partials (j : Fin 3) (q qk qv : PosShare TreeShare) (h26 : dk 26 ∈ S ∧ dk 26 ∈ C) (h10 : dk 10 ∉ C.erase (dk 26)) (h19 : dk 19 ∉ insert (dk 10) (C.erase (dk 26)))
    (hl : ((0, dk (rA j)) :: (0, dk (rL j)) :: ld).all (fun p => 2 < lvS (csem p.2)) = true) {Q : PUnit.{1} → sProp 𝕄} (K : P F) :
    iprop(St I N j.succ ((0, dk (rA j)) :: (0, dk (rL j)) :: ld) ((j.succ, dk 10) :: (j.succ, dk 19) :: lt) S C
        ∗ own' j.succ mKo qk (I.k' j.succ) ∗ own' j.succ mVo qv (I.v' j.succ) ∗ any j.succ mPa ∗ any j.succ mPl ∗ sl j)
      ⊢ iprop(((St I N j.succ ld lt (S.erase (dk 26)) (insert (dk 19) (insert (dk 10) (C.erase (dk 26))))
          ∗ own' j.succ mKo qk (I.k' j.succ) ∗ own' j.succ mVo qv (I.v' j.succ) ∗ any j.succ mGq) -∗ WP j.succ K Q)
        -∗ WP j.succ (partials j K) Q) := by
  unfold partials sl any
  iintro ⟨HS, Hk, Hv, ⟨%f1, Ha⟩, ⟨%f2, Hl⟩, ⟨⟨%f3, Hsa⟩, ⟨%f4, Hsl⟩⟩⟩ HK
  iapply (wp_waitS I N j.succ 26 _ mGq _ _ (by decide) (usedD_succ j 26) rfl (R := own' j.succ mGq fullShare (sub rTop (I.q' 0))) rfl h26.1 h26.2 hl _) $$ HS
  iintro ⟨HS, Hq⟩
  iapply (wp_partialHeads j.succ fullShare qk qv (sub rTop (I.q' 0)) (I.k' j.succ) (I.v' j.succ) f1 f2 _) $$ [Hq Hk Hv Ha Hl]
  · isplitl [Hq]; · iexact Hq
    isplitl [Hk]; · iexact Hk
    isplitl [Hv]; · iexact Hv
    isplitl [Ha]; · iexact Ha
    iexact Hl
  iintro ⟨Hq, Hk, Hv, Ha, Hl⟩
  iapply (wp_sendS I N j.succ 0 mPa (slabA j) 10 (rA j) _ _ fullShare (I.pa j.succ) f3 (by decide) (by show 4 ≤ 27 + 2 * j.val; omega) (usedD_succ j 10) (used_rA j)
    (amt_10 j) (amt_rA j) (Entails.of_eq (pay_10 I j).symm) (Entails.of_eq (pay_rA I j).symm) h10 _) $$ [HS Ha Hsa]
  · isplitl [HS]; · iexact HS
    isplitl [Ha]; · iexact Ha
    iexact Hsa
  iintro HS
  iapply (wp_sendS I N j.succ 0 mPl (slabL j) 19 (rL j) _ _ fullShare (I.pl j.succ) f4 (by decide) (by show 4 ≤ 33 + j.val; omega) (usedD_succ j 19) (used_rL j)
    rfl (amt_rL j) (BI.Entails.refl _) (Entails.of_eq (pay_rL I j).symm) h19 _) $$ [HS Hl Hsl]
  · isplitl [HS]; · iexact HS
    isplitl [Hl]; · iexact Hl
    iexact Hsl
  iintro HS
  iapply HK
  isplitl [HS]; · iexact HS
  isplitl [Hk]; · iexact Hk
  isplitl [Hv]; · iexact Hv
  iexists _; iexact Hq

theorem wp_far (j : Fin 3) (q : PosShare TreeShare) (A : Vec F (sh3 2 512 512) .f32) (L : Vec F (sh3 2 512 8) .f32)
    (h24 : dk 24 ∈ S ∧ dk 24 ∈ C) (h25 : dk 25 ∈ S ∧ dk 25 ∈ C)
    (hl : ld.all (fun p => 2 < lvS (csem p.2)) = true) {Q : PUnit.{1} → sProp 𝕄} (K : P F) :
    iprop(St I N j.succ ld lt S C ∗ own' j.succ mQ q (I.q' j.succ) ∗ own' j.succ mA fullShare A ∗ own' j.succ mL fullShare L)
      ⊢ iprop(((St I N j.succ ld lt ((S.erase (dk 24)).erase (dk 25)) ((C.erase (dk 24)).erase (dk 25))
          ∗ own' j.succ mQ q (I.q' j.succ) ∗ own' j.succ mA fullShare (farA (I.q' j.succ) (sub rTop (I.k' 0)) (sub rTop (I.v' 0)) A)
          ∗ own' j.succ mL fullShare (farL (I.q' j.succ) (sub rTop (I.k' 0)) L) ∗ any j.succ mGk ∗ any j.succ mGv) -∗ WP j.succ K Q)
        -∗ WP j.succ (farBlock K) Q) := by
  unfold farBlock
  iintro ⟨HS, HQ, HA, HL⟩ HK
  iapply (wp_waitS I N j.succ 24 _ mGk _ _ (by decide) (usedD_succ j 24) rfl (R := own' j.succ mGk fullShare (sub rTop (I.k' 0))) rfl h24.1 h24.2 hl _) $$ HS
  iintro ⟨HS, H1⟩
  iapply (wp_waitS I N j.succ 25 _ mGv _ _ (by decide) (usedD_succ j 25) rfl (R := own' j.succ mGv fullShare (sub rTop (I.v' 0))) rfl
    (Finset.mem_erase.mpr ⟨by decide, h25.1⟩) (Finset.mem_erase.mpr ⟨by decide, h25.2⟩) hl _) $$ HS
  iintro ⟨HS, H2⟩
  iapply (wp_blkInc j.succ geo_far geoK_32 none mGk mGv q fullShare fullShare (I.q' j.succ) (sub rTop (I.k' 0)) (sub rTop (I.v' 0)) 0 0 _ _ _ _ _) $$ [HQ H1 H2 HA HL]
  · unfold blkSt
    isplitl [HQ]; · iexact HQ
    isplitl [H1]; · iexact H1
    isplitl [H2]; · iexact H2
    isplitl [HA]; · iexact HA
    iexact HL
  unfold blkSt
  iintro ⟨HQ, H1, H2, HA, HL⟩
  iapply HK
  isplitl [HS]; · iexact HS
  isplitl [HQ]; · iexact HQ
  isplitl [HA]; · iexact HA
  isplitl [HL]; · iexact HL
  isplitl [H1]; · iapply (any_intro j.succ mGk _); iexact H1
  iapply (any_intro j.succ mGv _); iexact H2

theorem wp_partialWaits (j : Fin 3) (h10 : dk 10 ∈ S ∧ dk 10 ∈ C) (h19 : dk 19 ∈ S ∧ dk 19 ∈ C)
    (hl : ld.all (fun p => 0 < lvS (csem p.2)) = true) {Q : PUnit.{1} → sProp 𝕄} (K : P F) :
    St I N j.succ ld lt S C
      ⊢ iprop(((St I N j.succ ld lt ((S.erase (dk 10)).erase (dk 19)) ((C.erase (dk 10)).erase (dk 19)) ∗ any j.succ mPa ∗ any j.succ mPl) -∗ WP j.succ K Q)
        -∗ WP j.succ (partialWaits j K) Q) := by
  unfold partialWaits
  iintro HS HK
  iapply (wp_waitS I N j.succ 10 _ mPa _ _ (by decide) (usedD_succ j 10) (amt_10 j) (pay_10 I j) h10.1 h10.2 hl _) $$ HS
  iintro ⟨HS, H1⟩
  iapply (wp_waitS I N j.succ 19 _ mPl _ _ (by decide) (usedD_succ j 19) rfl (R := own' j.succ mPl fullShare (I.pl j.succ)) rfl
    (Finset.mem_erase.mpr ⟨by decide, h19.1⟩) (Finset.mem_erase.mpr ⟨by decide, h19.2⟩) hl _) $$ HS
  iintro ⟨HS, H2⟩
  iapply HK
  isplitl [HS]; · iexact HS
  isplitl [H1]; · iapply (any_intro j.succ mPa _); iexact H1
  iapply (any_intro j.succ mPl _); iexact H2

end

end Cert.KernelIdeal
-- ==== Proof.Body.lean ====
/-
  The whole body on one device: from its buffers and its part of the protocol to its output.
-/
module

public import proofs.«01_k».proof.Proof.Run

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

section
variable (I : In F) (N : Dev nD × Fin 34 → ℕ)

/-- A device's buffers for arrivals, and for its shares of device 0's rows. -/
def arr (c : Dev nD) : sProp 𝕄 :=
  iprop(any c (slabA 0) ∗ any c (slabA 1) ∗ any c (slabA 2) ∗ any c (slabL 0) ∗ any c (slabL 1) ∗ any c (slabL 2))
def scratch (c : Dev nD) : sProp 𝕄 :=
  iprop(any c mKf ∗ any c mVf ∗ any c mKo ∗ any c mVo ∗ any c mQ ∗ any c mA ∗ any c mL
    ∗ hl c ∗ hr c ∗ gg c ∗ any c mPa ∗ any c mPl ∗ arr c)
/-- A device's buffers, with the output's contents given. -/
def bufs (c : Dev nD) (O : sProp 𝕄) : sProp 𝕄 :=
  iprop(own' c mX fullShare (I.x c) ∗ own' c mWq fullShare (I.wq c) ∗ own' c mWo fullShare (I.wo c) ∗ O
    ∗ own' c mK fullShare (I.k c) ∗ own' c mV fullShare (I.v c) ∗ scratch c)

/-- A device's buffers and semaphores at the end. -/
def done (c : Dev nD) : sProp 𝕄 :=
  iprop(bufs I c (own' c mOut fullShare (I.out c)) ∗ (∃ W, owes (c : Thread nD τ) 0 W) ∗ bigSep Finset.univ fun k => semVal (kcell (c, k)) 0)

/-! The cells open and the credits held, along device 0's body (`s`, `c`) and another's (`t`, `d`). -/

abbrev s1 : Finset (Fin 34) := openS Finset.univ
abbrev c1 : Finset (Fin 34) := openC cred0
abbrev near4 (C : Finset (Fin 34)) : Finset (Fin 34) := insert (dk 9) (insert (dk 8) (insert (dk 7) (insert (dk 6) C)))
abbrev kv (j : Fin 3) (C : Finset (Fin 34)) : Finset (Fin 34) := insert (dk (sG j 1)) (insert (dk (sG j 0)) C)
abbrev c2 : Finset (Fin 34) := near4 c1
abbrev c3 : Finset (Fin 34) := kv 2 (kv 1 (kv 0 c2))
abbrev c4 : Finset (Fin 34) := insert (dk (sG 2 2)) (insert (dk (sG 1 2)) (insert (dk (sG 0 2)) c3))
abbrev halo4 (S : Finset (Fin 34)) : Finset (Fin 34) := less4 (dk 20) (dk 21) (dk 22) (dk 23) S
abbrev slab2 (j : Fin 3) (S : Finset (Fin 34)) : Finset (Fin 34) := (S.erase (dk (rA j))).erase (dk (rL j))
abbrev send4 (S : Finset (Fin 34)) : Finset (Fin 34) := less4 (dk 6) (dk 7) (dk 8) (dk 9) S
abbrev glob3 (j : Fin 3) (S : Finset (Fin 34)) : Finset (Fin 34) := less3 (dk (sG j 0)) (dk (sG j 1)) (dk (sG j 2)) S
abbrev s5 : Finset (Fin 34) := halo4 s1
abbrev c5 : Finset (Fin 34) := halo4 c4
abbrev s6 : Finset (Fin 34) := slab2 2 (slab2 1 (slab2 0 s5))
abbrev c6 : Finset (Fin 34) := slab2 2 (slab2 1 (slab2 0 c5))
abbrev s7 : Finset (Fin 34) := send4 s6
abbrev c7 : Finset (Fin 34) := send4 c6
abbrev s8 : Finset (Fin 34) := glob3 2 (glob3 1 (glob3 0 s7))
abbrev c8 : Finset (Fin 34) := glob3 2 (glob3 1 (glob3 0 c7))
abbrev d1 : Finset (Fin 34) := openC credS
abbrev d2 : Finset (Fin 34) := near4 d1
abbrev t3 : Finset (Fin 34) := s1.erase (dk 26)
abbrev d3 : Finset (Fin 34) := insert (dk 19) (insert (dk 10) (d2.erase (dk 26)))
abbrev t4 : Finset (Fin 34) := halo4 t3
abbrev d4 : Finset (Fin 34) := halo4 d3
abbrev t5 : Finset (Fin 34) := (t4.erase (dk 24)).erase (dk 25)
abbrev d5 : Finset (Fin 34) := (d4.erase (dk 24)).erase (dk 25)
abbrev t6 : Finset (Fin 34) := send4 t5
abbrev d6 : Finset (Fin 34) := send4 d5
abbrev t7 : Finset (Fin 34) := (t6.erase (dk 10)).erase (dk 19)
abbrev d7 : Finset (Fin 34) := (d6.erase (dk 10)).erase (dk 19)

theorem body0_eq : (body0 : P F) = (opening <| halos 0 <| globals <| ownBlocks 0 <| haloBlocks 0 <| gather <| sendWaits <| globalWaits <| output <|
    sigAll bar2 <| waitAll bar2 <| .ret ⟨⟩) := rfl
theorem bodyS_eq (j : Fin 3) : (bodyS j : P F) = (opening <| halos j.succ <| ownBlocks j.succ <| partials j <| haloBlocks j.succ <| farBlock <| sendWaits <| partialWaits j <| output <|
    sigAll bar2 <| waitAll bar2 <| .ret ⟨⟩) := rfl

theorem wp_done (c : Dev nD) {Q : PUnit.{1} → sProp 𝕄} : iprop(|={Set.univ}=> Q ⟨⟩) ⊢ WP c (.ret ⟨⟩) Q := by
  unfold WP; rw [wp_ret]

theorem lv_open (j : Fin 3) : (near j.succ ((0, dk (rA j)) :: (0, dk (rL j)) :: toAll 1 [])).all (fun p => lvS (.reg bar) < lvS (csem p.2)) = true := by
  revert j; decide +kernel
theorem lv_open' (j : Fin 3) : (near j.succ ((0, dk (rA j)) :: (0, dk (rL j)) :: toAll 1 [])).all (fun p => 0 < lvS (csem p.2)) = true := by
  revert j; decide +kernel
theorem lv_part (j : Fin 3) : ((0, dk (rA j)) :: (0, dk (rL j)) :: toAll 1 []).all (fun p => 2 < lvS (csem p.2)) = true := by
  revert j; decide +kernel

theorem unused0 : ∀ k : Fin 34, usedD 0 ⟨k.val + 2, by omega⟩ = false → 2 ≤ k.val → ∃ n : Fin 36, csem k = .dma (ds n) ∧ usedD 0 n = false :=
  fun k h hk => ⟨_, by unfold csem; rw [if_neg (by omega), if_neg (by omega)], h⟩

theorem unusedS (j : Fin 3) : ∀ k : Fin 34, usedD j.succ ⟨k.val + 2, by omega⟩ = false → 2 ≤ k.val → ∃ n : Fin 36, csem k = .dma (ds n) ∧ usedD j.succ n = false :=
  fun k h hk => ⟨_, by unfold csem; rw [if_neg (by omega), if_neg (by omega)], h⟩

theorem part_S : dk 26 ∈ s1 ∧ dk 26 ∈ d2 := by decide +kernel
theorem part_10 : dk 10 ∉ d2.erase (dk 26) := by decide +kernel
theorem part_19 : dk 19 ∉ insert (dk 10) (d2.erase (dk 26)) := by decide +kernel

theorem run0 {Q : PUnit.{1} → sProp 𝕄} :
    iprop(St I N 0 debts0 own0 Finset.univ cred0 ∗ bufs I 0 (any 0 mOut)) ⊢ iprop((done I 0 -∗ Q ⟨⟩) -∗ WP 0 body0 Q) := by
  rw [body0_eq]
  unfold bufs scratch debts0 own0 locals arr
  iintro ⟨HS, Hx, Hwq, Hwo, Hout, Hk, Hv, Hkf, Hvf, Hko, Hvo, HQ, HA, HL, Hhl, Hhr, Hg, Hpa, Hpl, Ha0, Ha1, Ha2, Hl0, Hl1, Hl2⟩ HK
  iapply (wp_opening I N 0 (S := Finset.univ) (C := cred0) (ld := near 0 (gKV 0 (gKV 1 (gKV 2 ((Fin.succ 0, dk 26) :: (Fin.succ 1, dk 26) :: (Fin.succ 2, dk 26) :: toAll 1 []))))) fullShare fullShare (by decide +kernel) (by decide +kernel) (by decide +kernel) (by decide +kernel) (by decide +kernel) (by decide +kernel) rfl rfl _)
    $$ [HS Hwq Hx Hk Hv Hkf Hvf Hko Hvo HQ Hhl Hhr Ha0 Ha1 Ha2 Hl0 Hl1 Hl2]
  · isplitl [HS]; · iexact HS
    isplitl [Hwq]; · iexact Hwq
    isplitl [Hx]; · iexact Hx
    isplitl [Hk]; · iexact Hk
    isplitl [Hv]; · iexact Hv
    isplitl [Hkf]; · iexact Hkf
    isplitl [Hvf]; · iexact Hvf
    isplitl [Hko]; · iexact Hko
    isplitl [Hvo]; · iexact Hvo
    isplitl [HQ]; · iexact HQ
    isplitl [Hhl]; · iexact Hhl
    isplitl [Hhr]; · iexact Hhr
    iapply (show iprop(sl 0 ∗ sl 1 ∗ sl 2) ⊢ (outs 0 : sProp 𝕄) from BI.Entails.refl _)
    unfold sl
    isplitl [Ha0 Hl0]
    · isplitl [Ha0]; · iexact Ha0
      iexact Hl0
    isplitl [Ha1 Hl1]
    · isplitl [Ha1]; · iexact Ha1
      iexact Hl1
    isplitl [Ha2]; · iexact Ha2
    iexact Hl2
  iintro ⟨HS, Hwq, Hx, Hk, Hv, Hkf, Hvf, Hko, Hvo, HQ, Hhl, Hhr, Hin⟩
  ihave Hin := (show (inn 0 : sProp 𝕄) ⊢ iprop(gg 1 ∗ gg 2 ∗ gg 3) from BI.Entails.refl _) $$ Hin
  unfold gg
  icases Hin with ⟨⟨G10, G11, G12⟩, ⟨G20, G21, G22⟩, ⟨G30, G31, G32⟩⟩
  ihave Hko := (lendHalo 0 mKo (I.k' 0)) $$ Hko
  icases Hko with ⟨Hko, HkT, HkH, Bk⟩
  ihave Hvo := (lendHalo 0 mVo (I.v' 0)) $$ Hvo
  icases Hvo with ⟨Hvo, HvT, HvH, Bv⟩
  unfold near
  iapply (wp_halos I N 0 (S := s1) (C := c1) (by decide +kernel) (by decide +kernel) (by decide +kernel) (by decide +kernel) _) $$ [HS HkT HvT HkH HvH Hhl Hhr]
  · isplitl [HS]; · iexact HS
    isplitl [HkT]; · iexact HkT
    isplitl [HvT]; · iexact HvT
    isplitl [HkH]; · iexact HkH
    isplitl [HvH]; · iexact HvH
    isplitl [Hhl]; · iexact Hhl
    iexact Hhr
  iintro HS
  ihave Hko := (lendTops 0 mKo 2 (I.k' 0)) $$ Hko
  icases Hko with ⟨Hko, Hk0, Hk1, Hk2, Bk'⟩
  ihave Hvo := (lendTops 0 mVo 2 (I.v' 0)) $$ Hvo
  icases Hvo with ⟨Hvo, Hv0, Hv1, Hv2, Bv'⟩
  ihave HQ := (show own' 0 mQ fullShare (I.q' 0) ⊢ own' 0 mQ (kept 0) (I.q' 0) from BI.Entails.refl _) $$ HQ
  ihave HQ := (lendTops 0 mQ 0 (I.q' 0)) $$ HQ
  icases HQ with ⟨HQ, Hq0, Hq1, Hq2, Bq⟩
  unfold globals each3
  iapply (wp_gKV I N 0 (S := s1) (C := c2) (by decide +kernel) (by decide +kernel) _) $$ [HS Hk0 Hv0 G10 G11]
  · isplitl [HS]; · iexact HS
    isplitl [Hk0]; · iexact Hk0
    isplitl [Hv0]; · iexact Hv0
    isplitl [G10]; · iexact G10
    iexact G11
  iintro HS
  iapply (wp_gKV I N 1 (S := s1) (C := (kv 0 c2)) (by decide +kernel) (by decide +kernel) _) $$ [HS Hk1 Hv1 G20 G21]
  · isplitl [HS]; · iexact HS
    isplitl [Hk1]; · iexact Hk1
    isplitl [Hv1]; · iexact Hv1
    isplitl [G20]; · iexact G20
    iexact G21
  iintro HS
  iapply (wp_gKV I N 2 (S := s1) (C := (kv 1 (kv 0 c2))) (by decide +kernel) (by decide +kernel) _) $$ [HS Hk2 Hv2 G30 G31]
  · isplitl [HS]; · iexact HS
    isplitl [Hk2]; · iexact Hk2
    isplitl [Hv2]; · iexact Hv2
    isplitl [G30]; · iexact G30
    iexact G31
  iintro HS
  iapply (wp_gQ I N 0 (S := s1) (C := c3) (by decide +kernel) _) $$ [HS Hq0 G12]
  · isplitl [HS]; · iexact HS
    isplitl [Hq0]; · iexact Hq0
    iexact G12
  iintro HS
  iapply (wp_gQ I N 1 (S := s1) (C := (insert (dk (sG 0 2)) c3)) (by decide +kernel) _) $$ [HS Hq1 G22]
  · isplitl [HS]; · iexact HS
    isplitl [Hq1]; · iexact Hq1
    iexact G22
  iintro HS
  iapply (wp_gQ I N 2 (S := s1) (C := (insert (dk (sG 1 2)) (insert (dk (sG 0 2)) c3))) (by decide +kernel) _) $$ [HS Hq2 G32]
  · isplitl [HS]; · iexact HS
    isplitl [Hq2]; · iexact Hq2
    iexact G32
  iintro HS
  ihave HA := (show (any 0 mA : sProp 𝕄) ⊢ iprop(∃ g, own' 0 mA fullShare g) from BI.Entails.refl _) $$ HA
  icases HA with ⟨%A, HA⟩
  ihave HL := (show (any 0 mL : sProp 𝕄) ⊢ iprop(∃ g, own' 0 mL fullShare g) from BI.Entails.refl _) $$ HL
  icases HL with ⟨%L, HL⟩
  iapply (wp_ownBlocks 0 0 _ _ _ (I.q' 0) (I.k' 0) (I.v' 0) A L _) $$ [HQ Hko Hvo HA HL]
  · unfold blkSt
    isplitl [HQ]; · iexact HQ
    isplitl [Hko]; · iexact Hko
    isplitl [Hvo]; · iexact Hvo
    isplitl [HA]; · iexact HA
    iexact HL
  unfold blkSt
  iintro ⟨HQ, Hko, Hvo, HA, HL⟩
  iapply (wp_haloBlocks I N 0 (ld := toAll 1 []) (S := s1) (C := c4) _ _ _ (by decide +kernel) (by decide +kernel) rfl _) $$ [HS HQ HA HL]
  · isplitl [HS]; · iexact HS
    isplitl [HQ]; · iexact HQ
    isplitl [HA]; · iexact HA
    iexact HL
  iintro ⟨HS, HQ, Hlk, Hlv, Hrk, Hrv, HA, HL⟩
  unfold gather each3
  iapply (wp_gather1 I N 0 (ld := toAll 1 []) (S := s5) (C := c5) (by decide +kernel) (by decide +kernel) rfl _) $$ HS
  iintro ⟨HS, Ha0, Hl0⟩
  iapply (wp_gather1 I N 1 (ld := toAll 1 []) (S := (slab2 0 s5)) (C := (slab2 0 c5)) (by decide +kernel) (by decide +kernel) rfl _) $$ HS
  iintro ⟨HS, Ha1, Hl1⟩
  iapply (wp_gather1 I N 2 (ld := toAll 1 []) (S := (slab2 1 (slab2 0 s5))) (C := (slab2 1 (slab2 0 c5))) (by decide +kernel) (by decide +kernel) rfl _) $$ HS
  iintro ⟨HS, Ha2, Hl2⟩
  unfold addShares each3
  iapply (wp_addShare 0 0 _ _ _ _ _ _ _) $$ [Ha0 Hl0 HA HL]
  · isplitl [Ha0]; · iexact Ha0
    isplitl [Hl0]; · iexact Hl0
    isplitl [HA]; · iexact HA
    iexact HL
  iintro ⟨Ha0, Hl0, HA, HL⟩
  iapply (wp_addShare 0 1 _ _ _ _ _ _ _) $$ [Ha1 Hl1 HA HL]
  · isplitl [Ha1]; · iexact Ha1
    isplitl [Hl1]; · iexact Hl1
    isplitl [HA]; · iexact HA
    iexact HL
  iintro ⟨Ha1, Hl1, HA, HL⟩
  iapply (wp_addShare 0 2 _ _ _ _ _ _ _) $$ [Ha2 Hl2 HA HL]
  · isplitl [Ha2]; · iexact Ha2
    isplitl [Hl2]; · iexact Hl2
    isplitl [HA]; · iexact HA
    iexact HL
  iintro ⟨Ha2, Hl2, HA, HL⟩
  iapply (wp_sendWaits I N 0 (ld := toAll 1 []) (S := s6) (C := c6) (by decide +kernel) (by decide +kernel) rfl _) $$ HS
  iintro ⟨HS, HkT, HvT, HkH, HvH⟩
  unfold globalWaits each3
  iapply (wp_gWait I N 0 (ld := toAll 1 []) (S := s7) (C := c7) (by decide +kernel) (by decide +kernel) rfl _) $$ HS
  iintro ⟨HS, Hk0, Hv0, Hq0⟩
  iapply (wp_gWait I N 1 (ld := toAll 1 []) (S := (glob3 0 s7)) (C := (glob3 0 c7)) (by decide +kernel) (by decide +kernel) rfl _) $$ HS
  iintro ⟨HS, Hk1, Hv1, Hq1⟩
  iapply (wp_gWait I N 2 (ld := toAll 1 []) (S := (glob3 1 (glob3 0 s7))) (C := (glob3 1 (glob3 0 c7))) (by decide +kernel) (by decide +kernel) rfl _) $$ HS
  iintro ⟨HS, Hk2, Hv2, Hq2⟩
  ihave HQ := Bq $$ [HQ Hq0 Hq1 Hq2]
  · isplitl [HQ]; · iexact HQ
    isplitl [Hq0]; · iexact Hq0
    isplitl [Hq1]; · iexact Hq1
    iexact Hq2
  ihave Hko := Bk' $$ [Hko Hk0 Hk1 Hk2]
  · isplitl [Hko]; · iexact Hko
    isplitl [Hk0]; · iexact Hk0
    isplitl [Hk1]; · iexact Hk1
    iexact Hk2
  ihave Hvo := Bv' $$ [Hvo Hv0 Hv1 Hv2]
  · isplitl [Hvo]; · iexact Hvo
    isplitl [Hv0]; · iexact Hv0
    isplitl [Hv1]; · iexact Hv1
    iexact Hv2
  ihave Hko := Bk $$ [Hko HkT HkH]
  · isplitl [Hko]; · iexact Hko
    isplitl [HkT]; · iexact HkT
    iexact HkH
  ihave Hvo := Bv $$ [Hvo HvT HvH]
  · isplitl [Hvo]; · iexact Hvo
    isplitl [HvT]; · iexact HvT
    iexact HvH
  ihave Hout := (show (any 0 mOut : sProp 𝕄) ⊢ iprop(∃ g, own' 0 mOut fullShare g) from BI.Entails.refl _) $$ Hout
  icases Hout with ⟨%O, Hout⟩
  iapply (wp_output 0 fullShare (I.wo 0) (I.q' 0) I.fullA0 I.fullL0 O _) $$ [Hwo HA HL HQ Hout]
  · isplitl [Hwo]; · iexact Hwo
    isplitl [HA]; · iexact HA
    isplitl [HL]; · iexact HL
    isplitl [HQ]; · iexact HQ
    iexact Hout
  iintro ⟨Hwo, HA, HL, HQ, Hout⟩
  iapply (wp_closing I N 0 (S := s8) (C := c8) (by decide +kernel) (by decide +kernel) _) $$ HS
  iintro HS
  iapply (wp_done _)
  imod (St_end I N 0 (S := s8.erase 1) (fun k hk => unused0 k (by revert k; decide +kernel) (by revert k; decide +kernel))) $$ HS with HS
  icases HS with ⟨HO, HZ⟩
  imodintro
  iapply HK
  unfold done bufs scratch arr hl hr gg
  isplitr [HO HZ]
  · isplitl [Hx]; · iexact Hx
    isplitl [Hwq]; · iexact Hwq
    isplitl [Hwo]; · iexact Hwo
    isplitl [Hout]
    · rw [show I.out 0 = outC (I.wo 0) (ctxC I.fullA0 I.fullL0) from if_pos rfl]; iexact Hout
    isplitl [Hk]; · iexact Hk
    isplitl [Hv]; · iexact Hv
    isplitl [Hkf]; · iexact Hkf
    isplitl [Hvf]; · iexact Hvf
    isplitl [Hko]; · iapply (any_intro 0 mKo _); iexact Hko
    isplitl [Hvo]; · iapply (any_intro 0 mVo _); iexact Hvo
    isplitl [HQ]; · iapply (any_intro 0 mQ _); iexact HQ
    isplitl [HA]; · iapply (any_intro 0 mA _); iexact HA
    isplitl [HL]; · iapply (any_intro 0 mL _); iexact HL
    isplitl [Hlk Hlv]
    · isplitl [Hlk]; · iexact Hlk
      iexact Hlv
    isplitl [Hrk Hrv]
    · isplitl [Hrk]; · iexact Hrk
      iexact Hrv
    isplitl [Hg]; · iexact Hg
    isplitl [Hpa]; · iexact Hpa
    isplitl [Hpl]; · iexact Hpl
    isplitl [Ha0]; · iapply (any_intro 0 (slabA 0) _); iexact Ha0
    isplitl [Ha1]; · iapply (any_intro 0 (slabA 1) _); iexact Ha1
    isplitl [Ha2]; · iapply (any_intro 0 (slabA 2) _); iexact Ha2
    isplitl [Hl0]; · iapply (any_intro 0 (slabL 0) _); iexact Hl0
    isplitl [Hl1]; · iapply (any_intro 0 (slabL 1) _); iexact Hl1
    iapply (any_intro 0 (slabL 2) _); iexact Hl2
  isplitl [HO]; · iexact HO
  iexact HZ

theorem runS (j : Fin 3) {Q : PUnit.{1} → sProp 𝕄} :
    iprop(St I N j.succ (debtsS j) (ownS j) Finset.univ credS ∗ bufs I j.succ (any j.succ mOut)) ⊢ iprop((done I j.succ -∗ Q ⟨⟩) -∗ WP j.succ (bodyS j) Q) := by
  rw [bodyS_eq]
  unfold bufs scratch debtsS ownS locals
  iintro ⟨HS, Hx, Hwq, Hwo, Hout, Hk, Hv, Hkf, Hvf, Hko, Hvo, HQ, HA, HL, Hhl, Hhr, Hg, Hpa, Hpl, Hsl⟩ HK
  iapply (wp_opening I N j.succ (S := Finset.univ) (C := credS) (ld := near j.succ ((0, dk (rA j)) :: (0, dk (rL j)) :: toAll 1 [])) fullShare fullShare (by decide +kernel) (by decide +kernel) (by decide +kernel) (by decide +kernel) (by decide +kernel) (by decide +kernel)
    (lv_open j) (lv_open' j) _)
    $$ [HS Hwq Hx Hk Hv Hkf Hvf Hko Hvo HQ Hhl Hhr Hg]
  · isplitl [HS]; · iexact HS
    isplitl [Hwq]; · iexact Hwq
    isplitl [Hx]; · iexact Hx
    isplitl [Hk]; · iexact Hk
    isplitl [Hv]; · iexact Hv
    isplitl [Hkf]; · iexact Hkf
    isplitl [Hvf]; · iexact Hvf
    isplitl [Hko]; · iexact Hko
    isplitl [Hvo]; · iexact Hvo
    isplitl [HQ]; · iexact HQ
    isplitl [Hhl]; · iexact Hhl
    isplitl [Hhr]; · iexact Hhr
    rw [outs_succ]; iexact Hg
  iintro ⟨HS, Hwq, Hx, Hk, Hv, Hkf, Hvf, Hko, Hvo, HQ, Hhl, Hhr, Hin⟩
  ihave Hin := (Entails.of_eq (inn_succ (F := F) j)) $$ Hin
  ihave Hko := (lendHalo j.succ mKo (I.k' j.succ)) $$ Hko
  icases Hko with ⟨Hko, HkT, HkH, Bk⟩
  ihave Hvo := (lendHalo j.succ mVo (I.v' j.succ)) $$ Hvo
  icases Hvo with ⟨Hvo, HvT, HvH, Bv⟩
  unfold near
  iapply (wp_halos I N j.succ (S := s1) (C := d1) (by decide +kernel) (by decide +kernel) (by decide +kernel) (by decide +kernel) _) $$ [HS HkT HvT HkH HvH Hhl Hhr]
  · isplitl [HS]; · iexact HS
    isplitl [HkT]; · iexact HkT
    isplitl [HvT]; · iexact HvT
    isplitl [HkH]; · iexact HkH
    isplitl [HvH]; · iexact HvH
    isplitl [Hhl]; · iexact Hhl
    iexact Hhr
  iintro HS
  ihave HA := (show (any j.succ mA : sProp 𝕄) ⊢ iprop(∃ g, own' j.succ mA fullShare g) from BI.Entails.refl _) $$ HA
  icases HA with ⟨%A, HA⟩
  ihave HL := (show (any j.succ mL : sProp 𝕄) ⊢ iprop(∃ g, own' j.succ mL fullShare g) from BI.Entails.refl _) $$ HL
  icases HL with ⟨%L, HL⟩
  iapply (wp_ownBlocks j.succ j.succ _ _ _ (I.q' j.succ) (I.k' j.succ) (I.v' j.succ) A L _) $$ [HQ Hko Hvo HA HL]
  · unfold blkSt
    isplitl [HQ]; · iexact HQ
    isplitl [Hko]; · iexact Hko
    isplitl [Hvo]; · iexact Hvo
    isplitl [HA]; · iexact HA
    iexact HL
  unfold blkSt
  iintro ⟨HQ, Hko, Hvo, HA, HL⟩
  iapply (wp_partials I N j (ld := toAll 1 []) (lt := []) (S := s1) (C := d2) fullShare _ _ part_S part_10 part_19 (lv_part j) _) $$ [HS Hko Hvo Hpa Hpl Hin]
  · isplitl [HS]; · iexact HS
    isplitl [Hko]; · iexact Hko
    isplitl [Hvo]; · iexact Hvo
    isplitl [Hpa]; · iexact Hpa
    isplitl [Hpl]; · iexact Hpl
    iexact Hin
  iintro ⟨HS, Hko, Hvo, Hgq⟩
  iapply (wp_haloBlocks I N j.succ (ld := toAll 1 []) (S := t3) (C := d3) _ _ _ (by decide +kernel) (by decide +kernel) rfl _) $$ [HS HQ HA HL]
  · isplitl [HS]; · iexact HS
    isplitl [HQ]; · iexact HQ
    isplitl [HA]; · iexact HA
    iexact HL
  iintro ⟨HS, HQ, Hlk, Hlv, Hrk, Hrv, HA, HL⟩
  iapply (wp_far I N j (ld := toAll 1 []) (S := t4) (C := d4) _ _ _ (by decide +kernel) (by decide +kernel) rfl _) $$ [HS HQ HA HL]
  · isplitl [HS]; · iexact HS
    isplitl [HQ]; · iexact HQ
    isplitl [HA]; · iexact HA
    iexact HL
  iintro ⟨HS, HQ, HA, HL, Hgk, Hgv⟩
  iapply (wp_sendWaits I N j.succ (ld := toAll 1 []) (S := t5) (C := d5) (by decide +kernel) (by decide +kernel) rfl _) $$ HS
  iintro ⟨HS, HkT, HvT, HkH, HvH⟩
  iapply (wp_partialWaits I N j (ld := toAll 1 []) (S := t6) (C := d6) (by decide +kernel) (by decide +kernel) rfl _) $$ HS
  iintro ⟨HS, Hpa, Hpl⟩
  ihave Hko := Bk $$ [Hko HkT HkH]
  · isplitl [Hko]; · iexact Hko
    isplitl [HkT]; · iexact HkT
    iexact HkH
  ihave Hvo := Bv $$ [Hvo HvT HvH]
  · isplitl [Hvo]; · iexact Hvo
    isplitl [HvT]; · iexact HvT
    iexact HvH
  ihave Hout := (show (any j.succ mOut : sProp 𝕄) ⊢ iprop(∃ g, own' j.succ mOut fullShare g) from BI.Entails.refl _) $$ Hout
  icases Hout with ⟨%O, Hout⟩
  iapply (wp_output j.succ fullShare (I.wo j.succ) (I.q' j.succ) (I.fullAS j.succ) (I.fullLS j.succ) O _) $$ [Hwo HA HL HQ Hout]
  · isplitl [Hwo]; · iexact Hwo
    isplitl [HA]; · iexact HA
    isplitl [HL]; · iexact HL
    isplitl [HQ]; · iexact HQ
    iexact Hout
  iintro ⟨Hwo, HA, HL, HQ, Hout⟩
  iapply (wp_closing I N j.succ (S := t7) (C := d7) (by decide +kernel) (by decide +kernel) _) $$ HS
  iintro HS
  iapply (wp_done _)
  imod (St_end I N j.succ (S := t7.erase 1) (fun k hk => unusedS j k (by rw [usedD_succ]; revert k; decide +kernel) (by revert k; decide +kernel))) $$ HS with HS
  icases HS with ⟨HO, HZ⟩
  imodintro
  iapply HK
  unfold done bufs scratch hl hr gg
  isplitr [HO HZ]
  · isplitl [Hx]; · iexact Hx
    isplitl [Hwq]; · iexact Hwq
    isplitl [Hwo]; · iexact Hwo
    isplitl [Hout]
    · rw [show I.out j.succ = outC (I.wo j.succ) (ctxC (I.fullAS j.succ) (I.fullLS j.succ)) from if_neg (Fin.succ_ne_zero j)]; iexact Hout
    isplitl [Hk]; · iexact Hk
    isplitl [Hv]; · iexact Hv
    isplitl [Hkf]; · iexact Hkf
    isplitl [Hvf]; · iexact Hvf
    isplitl [Hko]; · iapply (any_intro j.succ mKo _); iexact Hko
    isplitl [Hvo]; · iapply (any_intro j.succ mVo _); iexact Hvo
    isplitl [HQ]; · iapply (any_intro j.succ mQ _); iexact HQ
    isplitl [HA]; · iapply (any_intro j.succ mA _); iexact HA
    isplitl [HL]; · iapply (any_intro j.succ mL _); iexact HL
    isplitl [Hlk Hlv]
    · isplitl [Hlk]; · iexact Hlk
      iexact Hlv
    isplitl [Hrk Hrv]
    · isplitl [Hrk]; · iexact Hrk
      iexact Hrv
    isplitl [Hgk Hgv Hgq]
    · isplitl [Hgk]; · iexact Hgk
      isplitl [Hgv]; · iexact Hgv
      iexact Hgq
    isplitl [Hpa]; · iexact Hpa
    isplitl [Hpl]; · iexact Hpl
    iexact Hsl
  isplitl [HO]; · iexact HO
  iexact HZ

end

end Cert.KernelIdeal
-- ==== Proof.Deal.lean ====
/-
  The launch's ghost state: each device's tokens, positions and credits, and every cell's invariant.
-/
module

public import proofs.«01_k».proof.Proof.Body

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ UU ℕ

/-! ## Every device's debts, tokens of its own cells, and credits -/

def debts (c : Dev nD) : List (Dev nD × Fin 34) := Fin.cases (motive := fun _ => List (Dev nD × Fin 34)) debts0 debtsS c
def owns' (c : Dev nD) : List (Dev nD × Fin 34) := Fin.cases (motive := fun _ => List (Dev nD × Fin 34)) own0 ownS c
def credits (c : Dev nD) : Finset (Fin 34) := Fin.cases (motive := fun _ => Finset (Fin 34)) cred0 (fun _ => credS) c
/-- What a device owes at the start. -/
def O₀ (c : Dev nD) : CellTallies nD τ sig Unit := oweL (debts c)

theorem kcell_inj : Function.Injective (kcell : Dev nD × Fin 34 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-! ## Tokens -/

/-- A payment's token: its cell and its duty. -/
def payKey (c : Dev nD) (p : Dev nD × Fin 34) : (Dev nD × Fin 34) × Dev nD := (p, dty c p.2)
def keysOf (c : Dev nD) : List ((Dev nD × Fin 34) × Dev nD) := (debts c ++ owns' c).map (payKey c)
def tokEmb : (Dev nD × Fin 34) × Dev nD ↪ GSem nD τ sig × ℕ × Dev nD :=
  ⟨fun x => (kcell x.1, 0, x.2), fun x y h => Prod.ext (kcell_inj (congrArg (fun z => z.1) h)) (congrArg (fun z => z.2.2) h)⟩
def cellEmb : Dev nD × Fin 34 ↪ GSem nD τ sig := ⟨kcell, kcell_inj⟩
def allCells : Finset (GSem nD τ sig) := Finset.univ.map cellEmb
def allKeys : Finset ((Dev nD × Fin 34) × Dev nD) := Finset.univ.biUnion fun c : Dev nD => (keysOf c).toFinset
def allToks : Finset (GSem nD τ sig × ℕ × Dev nD) := allKeys.map tokEmb

theorem keysOf_nodup (c : Dev nD) : (keysOf c).Nodup := by revert c; decide +kernel
theorem keysOf_disjoint : ∀ c d : Dev nD, c ≠ d → Disjoint (keysOf c).toFinset (keysOf d).toFinset := by decide +kernel

/-- A list of tokens, from the set of their keys. -/
theorem toks_of_keys (c : Dev nD) (l : List (Dev nD × Fin 34)) (h : (l.map (payKey c)).Nodup) :
    (bigSep (l.map (payKey c)).toFinset fun x => (dutyTok ER (kcell x.1) 0 x.2 : sProp 𝕄)) ⊢ toks c l := by
  induction l with
  | nil => exact (Entails.of_eq (by rfl))
  | cons p l ih =>
    rw [List.map_cons, List.nodup_cons] at h
    rw [List.map_cons, List.toFinset_cons, bigSep_insert (fun hm => h.1 (List.mem_toFinset.mp hm)), toks_cons]
    exact sep_mono_right (ih h.2)
theorem toks_append (c : Dev nD) (l l' : List (Dev nD × Fin 34)) : (toks c (l ++ l') : sProp 𝕄) ⊢ iprop(toks c l ∗ toks c l') := by
  induction l with
  | nil => show (toks c l' : sProp 𝕄) ⊢ iprop(emp ∗ toks c l'); iintro H; isplitr; · iempintro
           iexact H
  | cons p l ih =>
    rw [List.cons_append, toks_cons, toks_cons]
    iintro ⟨H, Hl⟩
    ihave H2 := ih $$ Hl
    icases H2 with ⟨H1, H2⟩
    isplitl [H H1]
    · isplitl [H]; · iexact H
      iexact H1
    iexact H2

/-! ## What the launch deals -/

/-- Over disjoint sets, part by part. -/
theorem bigSep_parts {J : Type} [DecidableEq J] (t : Dev nD → Finset J) (h : ∀ c d : Dev nD, c ≠ d → Disjoint (t c) (t d)) (Φ : J → sProp 𝕄) (s : Finset (Dev nD)) :
    bigSep (s.biUnion t) Φ = bigSep s fun c => bigSep (t c) Φ := by
  induction s using Finset.induction_on with
  | empty => rw [Finset.biUnion_empty, bigSep_empty, bigSep_empty]
  | insert c s hc ih =>
    rw [Finset.biUnion_insert, bigSep_insert hc, ← ih]
    exact bigSep_union (Finset.disjoint_biUnion_right _ _ _ |>.mpr fun d hd => h c d fun e => hc (e ▸ hd))

theorem sepD (Φ Ψ : Dev nD → sProp 𝕄) : (bigSep Finset.univ fun c => iprop(Φ c ∗ Ψ c)) = iprop(bigSep Finset.univ Φ ∗ bigSep Finset.univ Ψ) :=
  bigSep_sep _ _ _

section Deal
variable (I : In F)

def G (c : Dev nD) : sProp 𝕄 :=
  iprop((bigSep Finset.univ fun k : Fin 34 => roundState ER (Sd I) (kcell (c, k)) 0)
    ∗ (bigSep Finset.univ fun k : Fin 34 => iprop(atPos ER (kcell (c, k)) 0 ∅ 0 ∗ reached ER (kcell (c, k)) 0))
    ∗ toks c (debts c) ∗ toks c (owns' c))
/-- A device's part: the records of all cells, its tokens and its positions. -/
def part (N : Dev nD × Fin 34 → ℕ) (c : Dev nD) : sProp 𝕄 :=
  iprop(recs I N ∗ toks c (debts c) ∗ toks c (owns' c) ∗ (bigSep Finset.univ fun k : Fin 34 => atPos ER (kcell (c, k)) 0 ∅ 0))
def G' (c : Dev nD) : sProp 𝕄 := iprop(∃ N, part I N c)

theorem fund : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : Fin 34 => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => iprop(toks c (debts c) ∗ toks c (owns' c)) := by
    unfold allToks allKeys; rw [bigSep_map, bigSep_parts _ keysOf_disjoint]
    exact bigSep_mono fun c _ => (toks_of_keys c _ (keysOf_nodup c)).trans (toks_append c _ _)
  have hG : iprop((bigSep Finset.univ fun c : Dev nD => bigSep Finset.univ fun k : Fin 34 => roundState ER (Sd I) (kcell (c, k)) 0)
      ∗ ((bigSep Finset.univ fun c : Dev nD => bigSep Finset.univ fun k : Fin 34 => atPos ER (kcell (c, k)) 0 ∅ 0)
        ∗ (bigSep Finset.univ fun c : Dev nD => bigSep Finset.univ fun k : Fin 34 => reached ER (kcell (c, k)) 0))
      ∗ (bigSep Finset.univ fun c : Dev nD => iprop(toks c (debts c) ∗ toks c (owns' c)))) ⊢ bigSep Finset.univ (G I) := by
    have e : (bigSep Finset.univ fun c : Dev nD => (bigSep Finset.univ fun k : Fin 34 => iprop(atPos ER (kcell (c, k)) 0 ∅ 0 ∗ reached ER (kcell (c, k)) 0) : sProp 𝕄))
        = iprop((bigSep Finset.univ fun c : Dev nD => bigSep Finset.univ fun k : Fin 34 => atPos ER (kcell (c, k)) 0 ∅ 0)
          ∗ (bigSep Finset.univ fun c : Dev nD => bigSep Finset.univ fun k : Fin 34 => reached ER (kcell (c, k)) 0)) := by
      rw [← sepD]; exact bigSep_congr fun c _ => bigSep_sep' _ _ _
    rw [← e, ← sepD, ← sepD]
    exact BI.Entails.refl _
  iintro HX
  imod (Rounds.fund ER (Sd I) allCells allToks) $$ HX with ⟨Hst, Hr, Hat, Htok⟩
  imodintro
  ihave Hst' := (Entails.of_eq (hX fun g => roundState ER (Sd I) g 0)) $$ Hst
  ihave Hat' := (Entails.of_eq (hX fun g => atPos ER g 0 ∅ 0)) $$ Hat
  ihave Hr' := (Entails.of_eq (hX fun g => reached ER g 0)) $$ Hr
  ihave Htok' := hT $$ Htok
  iapply hG
  isplitl [Hst']; · iexact Hst'
  isplitl [Hat' Hr']
  · isplitl [Hat'] <;> iassumption
  iexact Htok'

/-! ### The cells' invariants -/

/-- The kernel's own semaphores: all but the runtime's barrier. -/
def osem (k : Fin 33) : SemLoc sig := csem k.succ
theorem ownSemFacts : Pipeline.OwnSemFacts cfg0.spec osem := by decide +kernel

theorem unscoped_eq : (Finset.univ.filter fun sm : SemLoc sig => ¬ sm.isScoped .tc) = {csem 0} := by decide +kernel
theorem univ34 : (Finset.univ : Finset (Fin 34)) = insert 0 (Finset.univ.map (Fin.succEmb 33)) := by decide +kernel

theorem sems_split (c : Dev nD) :
    (bigSep Finset.univ fun k : Fin 34 => semVal (kcell (c, k)) 0 : sProp 𝕄)
      = iprop(unscopedSems0 c ∗ Pipeline.ownSems0 (Ix := Unit) (Name := ℕ) (U := UU) (Lvl := ℕ) (Val := Elt F) (τ := τ) osem c) := by
  unfold unscopedSems0 Pipeline.ownSems0
  rw [unscoped_eq, bigSep_singleton, univ34, bigSep_insert (by decide +kernel), bigSep_map]
  rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : Fin 34 => iprop(∃ κ : ℕ, cellInv ER (Sd I) κ (kcell (c, k))))
          ∗ (bigSep Finset.univ fun k : Fin 34 => iprop(atPos ER (kcell (c, k)) 0 ∅ 0 ∗ reached ER (kcell (c, k)) 0)) ∗ toks c (debts c) ∗ toks c (owns' c)) := by
  unfold G
  iintro ⟨Hos, Hus, Hst, Hat, Htok⟩
  ihave Hv := (Entails.of_eq (sems_split (F := F) c).symm) $$ [Hos Hus]
  · isplitl [Hus] <;> iassumption
  imod (show iprop((bigSep Finset.univ fun k : Fin 34 => semVal (kcell (c, k)) 0) ∗ bigSep Finset.univ fun k : Fin 34 => roundState ER (Sd I) (kcell (c, k)) 0)
      ⊢ (|={Set.univ}=> bigSep Finset.univ fun k : Fin 34 => iprop(∃ κ : ℕ, cellInv ER (Sd I) κ (kcell (c, k))) : sProp 𝕄) from by
        rw [← bigSep_sep']
        exact (bigSep_mono fun k _ => (Rounds.body_intro ER (Sd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans ((Entails.of_eq (bigSep_sep _ _ _).symm).trans (bigSep_mono fun c _ => h c))

theorem regroup :
    (bigSep Finset.univ fun c : Dev nD => iprop((bigSep Finset.univ fun k : Fin 34 => iprop(∃ κ : ℕ, cellInv ER (Sd I) κ (kcell (c, k))))
          ∗ (bigSep Finset.univ fun k : Fin 34 => iprop(atPos ER (kcell (c, k)) 0 ∅ 0 ∗ reached ER (kcell (c, k)) 0)) ∗ toks c (debts c) ∗ toks c (owns' c)) : sProp 𝕄)
      ⊢ bigSep Finset.univ (G' I) := by
  have e : ∀ c : Dev nD, (bigSep Finset.univ fun k : Fin 34 => iprop(atPos ER (kcell (c, k)) 0 ∅ 0 ∗ reached ER (kcell (c, k)) 0) : sProp 𝕄)
      = iprop((bigSep Finset.univ fun k : Fin 34 => atPos ER (kcell (c, k)) 0 ∅ 0) ∗ bigSep Finset.univ fun k : Fin 34 => reached ER (kcell (c, k)) 0) :=
    fun c => bigSep_sep' _ _ _
  have s1 : ∀ Φ Ψ : Dev nD → sProp 𝕄, (bigSep Finset.univ fun c => iprop(Φ c ∗ Ψ c)) = iprop(bigSep Finset.univ Φ ∗ bigSep Finset.univ Ψ) :=
    fun Φ Ψ => bigSep_sep _ _ _
  simp only [e]
  rw [s1, s1, s1, ← bigSep_univ_prod (fun ck : Dev nD × Fin 34 => iprop(∃ κ : ℕ, cellInv ER (Sd I) κ (kcell ck))),
    ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (Sd I) κ (kcell ck) : sProp 𝕄))) $$ HI
  icases HK with ⟨%N, #HI⟩
  iapply (with_persistent (R := recs I N)
    (Φ := fun c => iprop((bigSep Finset.univ fun k : Fin 34 => atPos ER (kcell (c, k)) 0 ∅ 0) ∗ (toks c (debts c) ∗ toks c (owns' c))))
    (Ψ := G' I) (fun c => by
      unfold G' part
      iintro ⟨#H, Ha, Hd, Ho⟩
      iexists N
      isplitr; · iexact H
      isplitl [Hd]; · iexact Hd
      isplitl [Ho]; · iexact Ho
      iexact Ha))
  isplitr
  · unfold recs; isplitl; · iexact HI
    iexact HR
  · iapply (Entails.of_eq (s1 (fun c => bigSep Finset.univ fun k : Fin 34 => atPos ER (kcell (c, k)) 0 ∅ 0) (fun c => iprop(toks c (debts c) ∗ toks c (owns' c)))).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))
end Deal

/-! ## Credits -/

theorem oweL_at (l : List (Dev nD × Fin 34)) (p : Dev nD × Fin 34) : oweL l (kcell p) () = l.count p * amt p := by
  induction l with
  | nil => rw [List.count_nil, Nat.zero_mul]; rfl
  | cons q l ih =>
    rw [oweL_cons, Pi.add_apply, Finsupp.add_apply, ih, tallyAt_apply, List.count_cons]
    by_cases h : q = p
    · subst h; rw [if_pos ⟨rfl, rfl⟩, if_pos (by simp)]; ring
    · rw [if_neg (fun e => h (kcell_inj e.1.symm)), if_neg (by simpa using h)]; ring

theorem debts_count (c : Dev nD) (k : Fin 34) (h : k ∈ credits c) : (∑ d : Dev nD, (debts d).count (c, k)) = if k.val < 2 then 4 else 1 := by
  revert c k; decide +kernel

theorem launch_at (c : Dev nD) (k : Fin 34) (h : k ∈ credits c) :
    tallyOn (kcell (c, k)) (launchCredit (Pipeline.owing O₀) 0 (kcell (c, k))) = (tallyAt (kcell (c, k)) () (ex c k) : CellTallies nD τ sig Unit) := by
  unfold tallyAt; refine congrArg _ (Finsupp.ext fun u => ?_); cases u
  rw [Pipeline.launchCredit_owing, Finsupp.single_eq_same, show (∑ d : Dev nD, O₀ d (kcell (c, k)) ()) = ∑ d : Dev nD, (debts d).count (c, k) * amt (c, k) from Finset.sum_congr rfl fun d _ => (oweL_at (debts d) (c, k)), ← Finset.sum_mul, debts_count c k h]
  unfold amt ex csem
  by_cases h0 : k.val = 0
  · rw [if_pos h0, if_pos (by omega)]; rfl
  by_cases h1 : k.val = 1
  · rw [if_neg h0, if_pos h1, if_pos (by omega)]; rfl
  rw [if_neg h0, if_neg h1, if_neg (by omega)]; exact Nat.one_mul _

def csemEmb : Fin 34 ↪ SemLoc sig := ⟨csem, csem_inj⟩

theorem creds (c : Dev nD) : (Pipeline.launchCred O₀ c : sProp 𝕄) ⊢ bigSep (credits c) fun k => cred (tallyAt (kcell (c, k)) () (ex c k)) := by
  unfold Pipeline.launchCred
  refine (bigSep_subset (Finset.subset_univ ((credits c).map csemEmb))).trans ?_
  rw [bigSep_map]
  exact bigSep_mono fun k hk => Entails.of_eq (congrArg (fun t => (cred t : sProp 𝕄)) (launch_at c k hk))

end Cert.KernelIdeal
-- ==== Proof.Launch.lean ====
/-
  The launch: from any memory with zero counters the run ends with each device's output in its result array, its
  arguments as they were and every counter at zero.
-/
module

public import proofs.«01_k».proof.Proof.Deal
public import Idealize.ShloMosaic.Lib.Quiescent
public import Idealize.ShloMosaic.Lib.Pipeline.CollectiveSegs

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- Every device's inputs, read off the memory. -/
def inputs : In F where
  x c := iblk m c 0 t0_0
  wq c := iblk m c 1 t0_0
  wo c := iblk m c 2 t0_0
  k c := m ((c : Thread nD τ).loc main_arg2)
  v c := m ((c : Thread nD τ).loc main_arg3)

/-! ## Buffers held at the region's entry and exit -/

theorem own_whole (c : Dev nD) (b : Ref sig .tc) (X : b.ty.Contents (Elt F)) :
    (own' c (Memref.whole b) fullShare X : sProp 𝕄)
      ⊣⊢ (((c : Thread nD τ).loc b) ↦{fullShare} X) := by
  unfold own' owns; simp only [Memref.view_whole, View.read_whole, View.set_whole]
  constructor
  · iintro ⟨%f, %h, H⟩
    subst h; iexact H
  · iintro H
    iexists X
    isplitr; · ipureintro; rfl
    iexact H

theorem any_whole (c : Dev nD) (b : Ref sig .tc) :
    (any c (Memref.whole b) : sProp 𝕄) ⊣⊢ iprop(∃ f : Buf (Elt F) ((c : Thread nD τ).loc b), ((c : Thread nD τ).loc b) ↦{fullShare} f) := by
  unfold any
  constructor
  · iintro ⟨%g, H⟩
    iexists g; iapply (own_whole c b g).1; iexact H
  · iintro ⟨%g, H⟩
    iexists g; iapply (own_whole c b g).2; iexact H

theorem scratch_in (c : Dev nD) :
    (Pipeline.scopedRest (Ix := Unit) (Name := ℕ) (U := UU) (Lvl := ℕ) (Val := Elt F) cfg0.spec c : sProp 𝕄) ⊢ scratch c := by
  rw [show cfg0.spec = spec0 from rfl, scopedRest0_eq]
  unfold scratch hl hr gg arr
  iintro ⟨H0, H1, H2, H3, H4, H5, H6, H7, H8, H9, H10, H11, H12, H13, H14, H15, H16, H17⟩
  isplitl [H0]; · iapply (any_whole c _).2; iexact H0
  isplitl [H1]; · iapply (any_whole c _).2; iexact H1
  isplitl [H2]; · iapply (any_whole c _).2; iexact H2
  isplitl [H3]; · iapply (any_whole c _).2; iexact H3
  isplitl [H4]; · iapply (any_whole c _).2; iexact H4
  isplitl [H5]; · iapply (any_whole c _).2; iexact H5
  isplitl [H6]; · iapply (any_whole c _).2; iexact H6
  isplitl [H7 H8]
  · isplitl [H7]; · iapply (any_whole c _).2; iexact H7
    iapply (any_whole c _).2; iexact H8
  isplitl [H9 H10]
  · isplitl [H9]; · iapply (any_whole c _).2; iexact H9
    iapply (any_whole c _).2; iexact H10
  isplitl [H11 H12 H13]
  · isplitl [H11]; · iapply (any_whole c _).2; iexact H11
    isplitl [H12]; · iapply (any_whole c _).2; iexact H12
    iapply (any_whole c _).2; iexact H13
  isplitl [H14]; · iapply (any_whole c _).2; iexact H14
  isplitl [H15]; · iapply (any_whole c _).2; iexact H15
  ihave HA := (slabsA c).1 $$ H16
  ihave HL := (slabsL c).1 $$ H17
  icases HA with ⟨A0, A1, A2⟩
  isplitl [A0]; · iexact A0
  isplitl [A1]; · iexact A1
  isplitl [A2]; · iexact A2
  iexact HL

theorem scratch_out (c : Dev nD) :
    (scratch c : sProp 𝕄) ⊢ Pipeline.scopedRest (Ix := Unit) (Name := ℕ) (U := UU) (Lvl := ℕ) (Val := Elt F) cfg0.spec c := by
  rw [show cfg0.spec = spec0 from rfl, scopedRest0_eq]
  unfold scratch hl hr gg arr
  iintro ⟨H0, H1, H2, H3, H4, H5, H6, ⟨H7, H8⟩, ⟨H9, H10⟩, ⟨H11, H12, H13⟩, H14, H15, A0, A1, A2, HL⟩
  isplitl [H0]; · iapply (any_whole c _).1; iexact H0
  isplitl [H1]; · iapply (any_whole c _).1; iexact H1
  isplitl [H2]; · iapply (any_whole c _).1; iexact H2
  isplitl [H3]; · iapply (any_whole c _).1; iexact H3
  isplitl [H4]; · iapply (any_whole c _).1; iexact H4
  isplitl [H5]; · iapply (any_whole c _).1; iexact H5
  isplitl [H6]; · iapply (any_whole c _).1; iexact H6
  isplitl [H7]; · iapply (any_whole c _).1; iexact H7
  isplitl [H8]; · iapply (any_whole c _).1; iexact H8
  isplitl [H9]; · iapply (any_whole c _).1; iexact H9
  isplitl [H10]; · iapply (any_whole c _).1; iexact H10
  isplitl [H11]; · iapply (any_whole c _).1; iexact H11
  isplitl [H12]; · iapply (any_whole c _).1; iexact H12
  isplitl [H13]; · iapply (any_whole c _).1; iexact H13
  isplitl [H14]; · iapply (any_whole c _).1; iexact H14
  isplitl [H15]; · iapply (any_whole c _).1; iexact H15
  isplitl [A0 A1 A2]
  · iapply (slabsA c).2
    isplitl [A0]; · iexact A0
    isplitl [A1]; · iexact A1
    iexact A2
  iapply (slabsL c).2; iexact HL

/-! ## The region's proof data -/

/-- A device's keys and values in the arrays they were passed in. -/
def kvAt (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))
/-- What the body starts from beside its buffers. -/
def start (c : Dev nD) : sProp 𝕄 :=
  iprop(G' (inputs m) c ∗ levAts L lv ∗ (bigSep (credits c) fun k => cred (tallyAt (kcell (c, k)) () (ex c k))) ∗ kvAt m c)
def Φ₀ (c : Dev nD) : sProp 𝕄 := iprop(start m c ∗ scratch c)
def Φ₁ (c : Dev nD) : sProp 𝕄 := iprop(kvAt m c ∗ scratch c ∗ bigSep Finset.univ fun k : Fin 34 => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inputs m).x c
    | ⟨1, _⟩ => (inputs m).wq c
    | ⟨2, _⟩ => (inputs m).wo c
    | ⟨3, _⟩ => (inputs m).out c
    | ⟨_ + 4, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body at the region's one point -/

theorem bodyK_zero : bodyK (F := F) 0 = body0 := rfl
theorem bodyK_succ (j : Fin 3) : bodyK (F := F) j.succ = bodyS j := rfl
theorem debts_zero : debts 0 = debts0 := rfl
theorem debts_succ (j : Fin 3) : debts j.succ = debtsS j := rfl
theorem owns'_zero : owns' 0 = own0 := rfl
theorem owns'_succ (j : Fin 3) : owns' j.succ = ownS j := rfl
theorem credits_zero : credits 0 = cred0 := rfl
theorem credits_succ (j : Fin 3) : credits j.succ = credS := rfl

theorem wp_bodyK (c : Dev nD) {Q : PUnit.{1} → sProp 𝕄} (N : Dev nD × Fin 34 → ℕ) (I : In F) :
    iprop(St I N c (debts c) (owns' c) Finset.univ (credits c) ∗ bufs I c (any c mOut)) ⊢ iprop((done I c -∗ Q ⟨⟩) -∗ WP c (bodyK c) Q) := by
  rcases (show c = (0 : Dev nD) ∨ ∃ j : Fin 3, c = j.succ from Fin.eq_zero_or_eq_succ (n := 3) c) with rfl | ⟨j, rfl⟩
  · rw [bodyK_zero, debts_zero, owns'_zero, credits_zero]; exact run0 I N
  · rw [bodyK_succ, debts_succ, owns'_succ, credits_succ]; exact runS I N j
theorem wp_body (c : Dev nD) {Q : PUnit.{1} → sProp 𝕄} (N : Dev nD × Fin 34 → ℕ) (I : In F) :
    iprop(St I N c (debts c) (owns' c) Finset.univ (credits c) ∗ bufs I c (any c mOut)) ⊢ iprop((done I c -∗ Q ⟨⟩) -∗ WP c body Q) := by
  have e : (WP c body Q : sProp 𝕄) = WP c (bodyK c) Q := by unfold WP body; rw [wp_deviceId]
  rw [e]
  exact wp_bodyK c N I

theorem before_0 (c : Dev nD) (d) : (dats m ρ 0 c).before 0 t0_0 d = (inputs m).x c :=
  ((dats m ρ 0 c).before_in_eq_fetched 0 rfl (fun _ => rfl) (fun _ _ _ => rfl) (fun t => by rw [fin_N0 t]; rfl) t0_0 d).trans rfl
theorem before_1 (c : Dev nD) (d) : (dats m ρ 0 c).before 1 t0_0 d = (inputs m).wq c :=
  ((dats m ρ 0 c).before_in_eq_fetched 1 rfl (fun _ => rfl) (fun _ _ _ => rfl) (fun t => by rw [fin_N0 t]; rfl) t0_0 d).trans rfl
theorem before_2 (c : Dev nD) (d) : (dats m ρ 0 c).before 2 t0_0 d = (inputs m).wo c :=
  ((dats m ρ 0 c).before_in_eq_fetched 2 rfl (fun _ => rfl) (fun _ _ _ => rfl) (fun t => by rw [fin_N0 t]; rfl) t0_0 d).trans rfl

/-- What the body finds and leaves. -/
def pre (c : Dev nD) : sProp 𝕄 :=
  iprop(Φ₀ m c ∗ (dats m ρ 0 c).owesAt () t0_0.castSucc
    ∗ (∃ d, own' c mX fullShare ((dats m ρ 0 c).before 0 t0_0 d))
    ∗ (∃ d, own' c mWq fullShare ((dats m ρ 0 c).before 1 t0_0 d))
    ∗ (∃ d, own' c mWo fullShare ((dats m ρ 0 c).before 2 t0_0 d))
    ∗ (∃ d, own' c mOut fullShare ((dats m ρ 0 c).before 3 t0_0 d)))
def post (c : Dev nD) : sProp 𝕄 :=
  iprop(Φ₁ m c ∗ (dats m ρ 0 c).owesAt () t0_0.succ
    ∗ own' c mX fullShare ((inputs m).x c) ∗ own' c mWq fullShare ((inputs m).wq c) ∗ own' c mWo fullShare ((inputs m).wo c)
    ∗ own' c mOut fullShare ((inputs m).out c))

theorem body_at (c : Dev nD) : pre m ρ c ⊢ WP c body (fun _ => post m ρ c) := by
  unfold pre Φ₀ start G' part kvAt Dat.owesAt Pipeline.owesWithin
  rw [show (dats m ρ 0 c).owed t0_0.castSucc = O₀ c from rfl]
  simp only [before_0, before_1, before_2]
  iintro ⟨⟨⟨⟨%N, HR, Hd, Ho, Ha⟩, HL, HC, Hk, Hv⟩, Hs⟩, ⟨%W, %hW, HO⟩, ⟨%d0, Hx⟩, ⟨%d1, Hwq⟩, ⟨%d2, Hwo⟩, ⟨%d3, Hout⟩⟩
  iapply (wp_body c N (inputs m)) $$ [HR Hd Ho Ha HL HC Hk Hv Hs HO Hx Hwq Hwo Hout]
  · isplitl [HR Hd Ho Ha HL HC HO]
    · unfold St
      isplitl [HR]; · iexact HR
      isplitl [HL]; · iexact HL
      isplitl [HO]; · iexists W; iexact HO
      isplitl [Hd]; · iexact Hd
      isplitl [Ho]; · iexact Ho
      isplitl [Ha]; · iexact Ha
      isplitr [HC]
      · iapply (Entails.of_eq (show (iprop(emp) : sProp 𝕄) = _ from by rw [Finset.sdiff_self, bigSep_empty]; rfl)); iempintro
      iexact HC
    · unfold bufs
      isplitl [Hx]; · iexact Hx
      isplitl [Hwq]; · iexact Hwq
      isplitl [Hwo]; · iexact Hwo
      isplitl [Hout]; · iapply (any_intro c mOut _); iexact Hout
      isplitl [Hk]; · iapply (own_whole c main_arg2 _).2; iexact Hk
      isplitl [Hv]; · iapply (own_whole c main_arg3 _).2; iexact Hv
      iexact Hs
  unfold post done bufs Φ₁ kvAt Dat.owesAt Pipeline.owesWithin
  rw [show (dats m ρ 0 c).owed t0_0.succ = 0 from rfl]
  iintro ⟨⟨Hx, Hwq, Hwo, Hout, Hk, Hv, Hs⟩, ⟨%W', HO⟩, HZ⟩
  isplitl [Hk Hv Hs HZ]
  · isplitl [Hk Hv]
    · isplitl [Hk]; · iapply (own_whole c main_arg2 _).1; iexact Hk
      iapply (own_whole c main_arg3 _).1; iexact Hv
    isplitl [Hs]; · iexact Hs
    iexact HZ
  isplitl [HO]
  · iexists W'
    isplitr; · ipureintro; exact fun _ _ => Or.inl trivial
    iexact HO
  isplitl [Hx]; · iexact Hx
  isplitl [Hwq]; · iexact Hwq
  isplitl [Hwo]; · iexact Hwo
  iexact Hout

theorem body_obligation (c : Dev nD) : BodyObligation (dats (F := F) m ρ 0 c) (defs₀ (F := F)) 𝒱₀ () Set.univ := fun t => by
  rw [fin_N0 t]
  rw [bigSep_W0, bigSep_W0]
  have e := body_at m ρ c
  rw [← body_eq] at e
  exact e

/-! ## Entry, exit, waits -/

theorem hX (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inputs m) c)
      ⊢ |={Set.univ}=> iprop(start m c ∗ emp) := by
  rw [Pipeline.unscopedRestP_none, show cfg0.spec = spec0 from rfl, unscopedRest0_eq]
  iintro ⟨HU, Hlev, Hcr, -, HG⟩
  ihave Hc := (creds (F := F) c) $$ Hcr
  imodintro
  unfold start kvAt
  isplitl
  · isplitl [HG]; · iexact HG
    isplitl [Hlev]; · iexact Hlev
    isplitl [Hc]; · iexact Hc
    iexact HU
  · iempintro

theorem hin (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_in c); iexact Hr

theorem hout (c : Dev nD) :
    (dats m ρ 0 c).Φ (Fin.last cfg0.N) ⊢ iprop((unscopedSems0 c ∗ kvAt m c) ∗ Pipeline.ownSems0 osem c ∗ Pipeline.scopedRest cfg0.spec c) := by
  rw [show (dats m ρ 0 c).Φ (Fin.last cfg0.N) = Φ₁ m c from rfl]
  unfold Φ₁
  rw [sems_split]
  iintro ⟨Hkv, Hs, Hu, Ho⟩
  isplitl [Hkv Hu]
  · isplitl [Hu]; · iexact Hu
    iexact Hkv
  isplitl [Ho]; · iexact Ho
  iapply (scratch_out c); iexact Hs

theorem debts_pos (c : Dev nD) (n : DmaSem sig) (h : n.val < 20) : (debts c).all (fun p => lvS (.dma n) < lvS (csem p.2)) = true := by
  have e : lvS (.dma n) = 0 := if_pos h
  rw [e]; revert c; decide +kernel

theorem waits (c : Dev nD) : (levAts L lv : sProp 𝕄) ⊢ Pipeline.cellsWaits cfgs (dats m ρ) () 0 c :=
  Pipeline.cellsWaits_intro cfgs (dats m ρ) () 0 c fun w s t => by
    rcases t with ⟨_ | t, ht⟩
    · exact mayWait c _ (debts c) (debts_pos c _ (by fin_cases w <;> fin_cases s <;> decide))
    · rw [show (dats m ρ 0 c).owed ⟨t + 1, ht⟩ = 0 from rfl, MayWait_zero]; iintro -; iempintro

/-! ## The run -/

def u₀ : UU := (initOf (Pipeline.cells cfgs cellOf_inj) (Pipeline.launchToks cfgs cellOf_inj), initOf allCells allToks)

/-- What the run leaves: each window's array as computed, the keys and values as they were, every counter at zero. -/
def Final (s : MemSt nD τ sig (Elt F)) : Prop :=
  (∀ c : Dev nD, (∀ w : Fin cfg0.W, s.mem ((cfg0.win w).arr.view.loc (c : Thread nD τ)) = (dats m ρ 0 c).arrAt w cfg0.N)
    ∧ s.mem ((c : Thread nD τ).loc main_arg2) = m ((c : Thread nD τ).loc main_arg2)
    ∧ s.mem ((c : Thread nD τ).loc main_arg3) = m ((c : Thread nD τ).loc main_arg3)) ∧ s.sem = fun _ => 0

theorem kv_read (c : Dev nD) (s' : Phys nD τ sig (Elt F)) :
    iprop(kvAt m c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  have H := pointsTo_read_all (Ix := Unit) (Name := ℕ) (U := UU) (Lvl := ℕ) (Val := Elt F) (Finset.univ : Finset (Fin 2))
    (fun i => (c : Thread nD τ).loc (if i = 0 then main_arg2 else main_arg3)) (fun i => m ((c : Thread nD τ).loc (if i = 0 then main_arg2 else main_arg3))) s'
  rw [bigSep_univ_eq_bigSepL [0, 1] (by decide) (by decide)] at H
  unfold kvAt
  refine (show _ ⊢ _ from H).trans ?_
  iintro ⟨%h, HSI⟩
  isplitr; · ipureintro; exact ⟨h 0 (Finset.mem_univ _), h 1 (Finset.mem_univ _)⟩
  iexact HSI

set_option maxRecDepth 8000 in
/-- From any memory with zero counters every weakly fair run of the program terminates in such a state. -/
theorem run_main : θ_run defs (onTc (τ := τ) (main (F := F))) (s₀ m ρ) (fun r => Final m ρ r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inputs m)) (G' := G' (inputs m)) (u₀ := u₀)
    (hu₀ := by
      unfold u₀
      iintro Hu
      ihave H := (ownU_pair _ _) $$ Hu
      icases H with ⟨HP, HX⟩
      imod (fund (inputs m)) $$ HX with HG
      imodintro
      isplitl [HP] <;> iassumption)
    (hglob := glob (inputs m))
    (hA := fun _ _ => rfl) (hpf := fun _ k => k.elim0)
    (X := start m) (Y := fun c => iprop(unscopedSems0 c ∗ kvAt m c)) (Z := fun _ => iprop(emp))
    (hX := hX m ρ) (hin := hin m ρ) (hout := hout m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      iintro ⟨⟨Hu, Hkv⟩, -, HSI⟩
      ihave H := (kv_read m c s') $$ [Hkv HSI]
      · isplitl [Hkv] <;> iassumption
      icases H with ⟨%hkv, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hkv⟩
      iexact HSI)
    (hQ := fun _ h hs => ⟨fun c => ⟨(h c).1, (h c).2.2.2⟩, sem_eq_zero hs fun c => (h c).2.2.1⟩)

end Cert.KernelIdeal
-- ==== Proof.Same.lean ====
module

public import proofs.«01_k».proof.Defs
public import proofs.«01_k».proof.Proof.Gen.Kernel
public import proofs.«01_k».proof.Proof.Gen.KernelIdeal
public import proofs.«01_k».proof.Proof.Gen.KernelIdeal.Frame
public import Idealize.ShloMosaic.Lib.Tactic

@[expose] public section
noncomputable section
namespace Cert
open Idealize.ShloMosaic Idealize.ShloMosaic.Tactic

@[reducible] def bitsNamed : Named Bits := ⟨fun _ _ {φ} b => Scalar.ofBits φ b⟩

theorem body_same : (Cert.Kernel.defs₀ (F := Bits)) = (letI := bitsNamed; Cert.KernelIdeal.defs₀ (F := Bits)) := by
  chain_rfl

theorem main_same : (Cert.Kernel.main (F := Bits)) = (letI := bitsNamed; Cert.KernelIdeal.main (F := Bits)) := by
  chain_rfl

end Cert
-- ==== Proof.Frames.lean ====
/-
  What the launch leaves, read at the arrays: the arguments as they were, the result array at each device's output.
-/
module

public import proofs.«01_k».proof.Proof.Launch
public import proofs.«01_k».proof.Proof.Same
public import Idealize.ShloMosaic.Lib.Pipeline.ValueKit
public import Idealize.ShloMosaic.Lib.Pipeline.ValueKit.Geometry

@[expose] public section

noncomputable section

namespace Cert.KernelIdeal

open Idealize.ShloMosaic Idealize.ShloMosaic.TcCoe
open Idealize.SL.Sem
open Idealize.ShloMosaic.Pipeline (Dat Cfg Window)
open Cert.KernelIdeal.Gen

variable {F : FTy → Type} [FloatOps F] [Named F]
variable (m : (ℓ : Loc nD τ sig) → Buf (Elt F) ℓ) (ρ : Dev nD → PrngReg)

theorem idx0 : ∀ t, win0_0.index t = ![0, 0, 0] ∧ win0_1.index t = ![0, 0] ∧ win0_2.index t = ![0, 0] := by decide +kernel

theorem iblk0 (c : Dev nD) : (iblk m c 0 t0_0 : S2x512x768.Idx → Elt F .bf16) = m ((c.tc : Thread nD τ).loc main_arg0) := by
  funext y; blk_ext [iblk, V, (idx0 t0_0).1, (idx0 t0_0).2.1, (idx0 t0_0).2.2]

theorem iblk1 (c : Dev nD) : (iblk m c 1 t0_0 : S768x512.Idx → Elt F .bf16) = m ((c.tc : Thread nD τ).loc main_arg1) := by
  funext y; blk_ext [iblk, V, (idx0 t0_0).1, (idx0 t0_0).2.1, (idx0 t0_0).2.2]

theorem iblk2 (c : Dev nD) : (iblk m c 2 t0_0 : S512x768.Idx → Elt F .bf16) = m ((c.tc : Thread nD τ).loc main_arg4) := by
  funext y; blk_ext [iblk, V, (idx0 t0_0).1, (idx0 t0_0).2.1, (idx0 t0_0).2.2]

/-- The output window's array ends holding the device's output. -/
theorem arr3 (c : Dev nD) : (dats m ρ 0 c).arrAt 3 cfg0.N = (inputs m).out c :=
  (dats m ρ 0 c).arrAt_eq_of_after_last 3 t0_0 (by decide +kernel) _ fun j => rfl

/-- The arguments end unchanged on every device. -/
abbrev Kept (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem Final.kept {s : MemSt nD τ sig (Elt F)} (h : Final m ρ s) (c : Dev nD) : Kept m s c :=
  ⟨((h.1 c).1 0).trans ((dats m ρ 0 c).arrAt_in 0 rfl _), ((h.1 c).1 1).trans ((dats m ρ 0 c).arrAt_in 1 rfl _),
    (h.1 c).2.1, (h.1 c).2.2, ((h.1 c).1 2).trans ((dats m ρ 0 c).arrAt_in 2 rfl _)⟩

theorem Final.out {s : MemSt nD τ sig (Elt F)} (h : Final m ρ s) (c : Dev nD) :
    s.mem ((c.tc : Thread nD τ).loc main_v1) = (inputs m).out c :=
  ((h.1 c).1 3).trans (arr3 m ρ c)

/-- The run keeps the arguments and leaves every counter at zero. -/
theorem frame : θ_run defs (onTc (τ := τ) (main (F := F))) ⟨m, fun _ => 0, ρ⟩
    (fun r => (∀ c : Dev nD, Kept m r.2 c) ∧ r.2.sem = fun _ => 0) :=
  (θ_run defs _ _).mono (fun r h => ⟨fun c => Final.kept m ρ h c, h.2⟩) (run_main m ρ)

/-- The run leaves each device's output in its result array. -/
theorem value : θ_run defs (onTc (τ := τ) (main (F := F))) ⟨m, fun _ => 0, ρ⟩
    (fun r => ∀ c : Dev nD, r.2.mem ((c.tc : Thread nD τ).loc main_v1) = (inputs m).out c ∧ Kept m r.2 c) :=
  (θ_run defs _ _).mono (fun r h c => ⟨Final.out m ρ h c, Final.kept m ρ h c⟩) (run_main m ρ)

end Cert.KernelIdeal

namespace Cert

open Idealize.ShloMosaic Idealize.SL.Sem

theorem defs_same : (Cert.Kernel.defs (F := Bits)) = (letI := bitsNamed; Cert.KernelIdeal.defs (F := Bits)) :=
  congrArg (fun d => Pipeline.defs Cert.Kernel.pcfgs d) body_same

theorem frame_kernel : quiescent_Kernel := fun m g _ => by
  rw [defs_same, main_same]
  exact (letI := bitsNamed; Cert.KernelIdeal.frame (F := Bits) m g)

end Cert
-- ==== Proof.Sums.lean ====
/-
  Sums over the extended reals: a window of a sum as a masked sum, and masked sums added.
-/
module

public import Mathlib.Data.EReal.Operations
public import Mathlib.Data.EReal.Inv
public import Mathlib.Algebra.BigOperators.Fin
public import Mathlib.Algebra.BigOperators.Group.Finset.Piecewise

@[expose] public section

namespace Cert.KernelIdeal

/-- The sum over `nc` indices from `c0` on is the sum over all with the others masked. -/
theorem sum_window {nc n : ℕ} (c0 : ℕ) (hc : c0 + nc ≤ n) (P : ℕ → Prop) [DecidablePred P] (f : Fin n → EReal) :
    (∑ j : Fin nc, if P (c0 + j.val) then f ⟨c0 + j.val, by omega⟩ else 0)
      = ∑ J : Fin n, if (c0 ≤ J.val ∧ J.val < c0 + nc) ∧ P J.val then f J else 0 := by
  rw [← Finset.sum_filter, ← Finset.sum_filter]
  refine Finset.sum_bij (fun j _ => ⟨c0 + j.val, by omega⟩) ?_ ?_ ?_ ?_
  · intro j hj
    simp only [Finset.mem_filter, Finset.mem_univ, true_and] at hj ⊢
    exact ⟨⟨by omega, by omega⟩, hj⟩
  · intro a _ b _ e
    have := congrArg Fin.val e
    exact Fin.ext (by simp only at this; omega)
  · intro J hJ
    simp only [Finset.mem_filter, Finset.mem_univ, true_and] at hJ
    refine ⟨⟨J.val - c0, by omega⟩, ?_, Fin.ext (by simp only; omega)⟩
    simp only [Finset.mem_filter, Finset.mem_univ, true_and]
    rw [show c0 + (J.val - c0) = J.val by omega]; exact hJ.2
  · intro j _; rfl

/-- Two masked sums over disjoint masks. -/
theorem sum_or {n : ℕ} (P Q : Fin n → Prop) [DecidablePred P] [DecidablePred Q] (f : Fin n → EReal) (h : ∀ j, ¬ (P j ∧ Q j)) :
    (∑ j, if P j then f j else 0) + (∑ j, if Q j then f j else 0) = ∑ j, if P j ∨ Q j then f j else 0 := by
  rw [← Finset.sum_add_distrib]
  refine Finset.sum_congr rfl fun j _ => ?_
  have := h j
  by_cases hp : P j <;> by_cases hq : Q j
  · exact absurd ⟨hp, hq⟩ this
  · rw [if_pos hp, if_neg hq, if_pos (Or.inl hp), add_zero]
  · rw [if_neg hp, if_pos hq, if_pos (Or.inr hq), zero_add]
  · rw [if_neg hp, if_neg hq, if_neg (by tauto), add_zero]

/-- A mask rewritten. -/
theorem sum_mask {n : ℕ} (P Q : Fin n → Prop) [DecidablePred P] [DecidablePred Q] (f : Fin n → EReal) (h : ∀ j, P j ↔ Q j) :
    (∑ j, if P j then f j else 0) = ∑ j, if Q j then f j else 0 :=
  Finset.sum_congr rfl fun j _ => if_congr (h j) rfl rfl

/-- A condition on every term moved into the mask. -/
theorem ite_sum {n : ℕ} (c : Prop) [Decidable c] (P : Fin n → Prop) [DecidablePred P] (f : Fin n → EReal) :
    (if c then ∑ j, (if P j then f j else 0) else 0) = ∑ j, if c ∧ P j then f j else 0 := by
  by_cases hc : c
  · rw [if_pos hc]; exact sum_mask _ _ f fun j => by simp [hc]
  · rw [if_neg hc]; symm; exact Finset.sum_eq_zero fun j _ => if_neg (by simp [hc])

end Cert.KernelIdeal
-- ==== Proof.Read.lean ====
/-
  What one attention block leaves, read at an element over the extended reals.
-/
module

public import proofs.«01_k».proof.Proof.Phases
public import proofs.«01_k».proof.Proof.Sums
public import Idealize.ShloMosaic.Lib.Pointwise
public import Idealize.ShloMosaic.Lib.Pointwise.Contract
public import Idealize.ShloMosaic.Lib.Pipeline.Value

@[expose] public section

noncomputable section

namespace Cert.KernelIdeal

open Idealize.ShloMosaic Idealize.SL.Sem
open Cert.KernelIdeal.Gen

/-! ## Shape casts that drop or add the leading unit axis -/

theorem cast_drop {α : Type} {n k : ℕ} (v : (sh3 1 n k).Idx → α) (h : (sh3 1 n k).ShapeCasts (sh2 n k)) (i : Fin n) (j : Fin k) :
    shapeCast (sh2 n k) v h (ix2 i j) = v (ix3 0 i j) := by
  refine (shapeCast_dropUnit_apply ![n, k] v h (ix2 i j)).trans (congrArg v ?_)
  funext a; match a with | ⟨0, _⟩ => rfl | ⟨1, _⟩ => rfl | ⟨2, _⟩ => rfl

theorem cast_add {α : Type} {n k : ℕ} (v : (sh2 n k).Idx → α) (h : (sh2 n k).ShapeCasts (sh3 1 n k)) (i : Fin n) (j : Fin k) :
    shapeCast (sh3 1 n k) v h (ix3 0 i j) = v (ix2 i j) := by
  refine (shapeCast_addUnit_apply ![n, k] v h (ix3 0 i j)).trans (congrArg v ?_)
  funext a; match a with | ⟨0, _⟩ => rfl | ⟨1, _⟩ => rfl

/-! ## One block's values -/

section Block
variable {nr nc : ℕ}

theorem qk_apply (g : Geo nr nc) (q : FVec Ideal (sh2 nr 64) .bf16) (k : FVec Ideal (sh2 nc 64) .bf16) (i : Fin nr) (j : Fin nc) :
    matmul (dQK g) none q k (constant (sh2 nr nc) .f32 0x00000000#32) (ix2 i j) = ∑ e : Fin 64, q (ix2 i e) * k (ix2 j e) := by
  simp only [matmul]
  rw [Ideal.matmul_constant_zero_apply, DotDims.sum_contr₁ (dQK g) (a := 1) rfl (K := 64) rfl]
  refine Finset.sum_congr rfl fun e _ => ?_
  congr 1
  · congr 1; funext a; match a with | ⟨0, _⟩ => rfl | ⟨1, _⟩ => rfl
  · congr 1; funext a; match a with | ⟨0, _⟩ => rfl | ⟨1, _⟩ => rfl

theorem l_apply (g : Geo nr nc) (w : FVec Ideal (sh2 nr nc) .bf16) (i : Fin nr) (u : Fin 1) :
    lsumV g w (ix2 i u) = ∑ j : Fin nc, w (ix2 i j) := by
  unfold lsumV
  simp only [matmul]
  rw [Ideal.matmul_constant_zero_apply, DotDims.sum_contr₁ (dL g) (a := 1) rfl (K := nc) rfl]
  refine Finset.sum_congr rfl fun e _ => ?_
  have h1 : (broadcast (sh2 nc 1) (Scalar.ofBits .bf16 0x3F80#16) : FVec Ideal (sh2 nc 1) .bf16) = fun _ => 1 := by
    funext a; exact Ideal.ofBits_one_bf16
  rw [h1, mul_one]
  congr 1; funext a; match a with | ⟨0, _⟩ => rfl | ⟨1, _⟩ => rfl

theorem pv_apply (g : Geo nr nc) (w : FVec Ideal (sh2 nr nc) .bf16) (v : FVec Ideal (sh2 nc 64) .bf16) (i : Fin nr) (d : Fin 64) :
    pvV g w v (ix2 i d) = ∑ j : Fin nc, w (ix2 i j) * v (ix2 j d) := by
  unfold pvV
  simp only [matmul]
  rw [Ideal.matmul_constant_zero_apply, DotDims.sum_contr₁ (dPV g) (a := 1) rfl (K := nc) rfl]
  refine Finset.sum_congr rfl fun e _ => ?_
  congr 1
  · congr 1; funext a; match a with | ⟨0, _⟩ => rfl | ⟨1, _⟩ => rfl
  · congr 1; funext a; match a with | ⟨0, _⟩ => rfl | ⟨1, _⟩ => rfl

/-- The bias of a block at an element, zero where there is none. -/
def biasAt (bias : Option (FVec Ideal (sh2 nr nc) .f32)) (i : Fin nr) (j : Fin nc) : EReal :=
  match bias with
  | none => 0
  | some b => b (ix2 i j)

theorem w_apply (g : Geo nr nc) (bias : Option (FVec Ideal (sh2 nr nc) .f32)) (q : FVec Ideal (sh2 nr 64) .bf16)
    (k : FVec Ideal (sh2 nc 64) .bf16) (i : Fin nr) (j : Fin nc) :
    wV g bias q k (ix2 i j) = Ideal.exp ((∑ e : Fin 64, q (ix2 i e) * k (ix2 j e)) + biasAt bias i j) := by
  unfold wV scoreV biasAt
  show Ideal.exp _ = _
  congr 1
  cases bias with
  | none => exact (qk_apply g q k i j).trans (add_zero _).symm
  | some b => exact congrArg (· + b (ix2 i j)) (qk_apply g q k i j)

/-- Column `d` of head `h`. -/
def col (h : Fin 8) (d : Fin 64) : Fin 512 := ⟨64 * h.val + d.val, by omega⟩

theorem head_apply (gk : GeoK nc) (k : FVec Ideal (sh2 nc 512) .bf16) (h : Fin 8) (j : Fin nc) (d : Fin 64) :
    headOf gk k h (ix2 j d) = k (ix2 j (col h d)) := by
  unfold headOf
  show k _ = _
  congr 1
  funext a
  apply Fin.ext
  match a with
  | ⟨0, _⟩ => show 0 + j.val = j.val; omega
  | ⟨1, _⟩ => rfl

end Block

/-! ## Boxes at an element -/

theorem boxA_emb {B nr : ℕ} (r0 : ℕ) (hr : r0 + nr ≤ B) (b : Fin 2) (h : Fin 8) (i : Fin nr) (d : Fin 64) :
    (boxA (B := B) r0 hr (b, h)).emb (ix3 (n0 := 1) 0 i d : (sh3 1 nr 64).Idx) = (ix3 b ⟨r0 + i.val, by omega⟩ (col h d) : (sh3 2 B 512).Idx) := by
  funext a; apply Fin.ext
  match a with
  | ⟨0, _⟩ => show b.val + 1 * 0 = b.val; omega
  | ⟨1, _⟩ => show r0 + 1 * i.val = r0 + i.val; omega
  | ⟨2, _⟩ => show 64 * h.val + 1 * d.val = 64 * h.val + d.val; omega

theorem boxL_emb {B nr : ℕ} (r0 : ℕ) (hr : r0 + nr ≤ B) (b : Fin 2) (h : Fin 8) (i : Fin nr) :
    (boxL (B := B) r0 hr (b, h)).emb (ix3 (n0 := 1) 0 i (0 : Fin 1) : (sh3 1 nr 1).Idx) = (ix3 b ⟨r0 + i.val, by omega⟩ h : (sh3 2 B 8).Idx) := by
  funext a; apply Fin.ext
  match a with
  | ⟨0, _⟩ => show b.val + 1 * 0 = b.val; omega
  | ⟨1, _⟩ => show r0 + 1 * i.val = r0 + i.val; omega
  | ⟨2, _⟩ => show h.val + 1 * 0 = h.val; omega

theorem boxB_emb {B C nr : ℕ} (r0 : ℕ) (hr : r0 + nr ≤ B) (b : Fin 2) (i : Fin nr) (e : Fin C) :
    (boxB (B := B) (C := C) r0 hr b).emb (ix3 (n0 := 1) 0 i e : (sh3 1 nr C).Idx) = (ix3 b ⟨r0 + i.val, by omega⟩ e : (sh3 2 B C).Idx) := by
  funext a; apply Fin.ext
  match a with
  | ⟨0, _⟩ => show b.val + 1 * 0 = b.val; omega
  | ⟨1, _⟩ => show r0 + 1 * i.val = r0 + i.val; omega
  | ⟨2, _⟩ => show 0 + 1 * e.val = e.val; omega

theorem box_off {B C : ℕ} {x : Fin 2} {y z b c : ℕ} {hy : y + b ≤ B} {hz : z + c ≤ C} {b' : Fin 2} {I : Fin B} {e : Fin C}
    (h : ¬ (y ≤ I.val ∧ I.val < y + b)) (j : (rc x y z b c hy hz).shape.Idx) : (rc x y z b c hy hz).emb j ≠ (ix3 b' I e : (sh3 2 B C).Idx) := by
  intro e'
  obtain ⟨_, h1, h2, _⟩ := rc_emb j
  have := congrArg Fin.val (congrFun e' 1)
  have h3 : y + (j 1).val = I.val := h1.symm.trans this
  omega

theorem ord8_lt (p : Fin 2 × Fin 8) : ord8 p < 16 := by unfold ord8; omega

/-- A row of a box of rows, from its number in the buffer. -/
theorem row_eq {B nr : ℕ} {r0 : ℕ} {hr : r0 + nr ≤ B} {I : Fin B} (h : r0 ≤ I.val ∧ I.val < r0 + nr) :
    I = ⟨r0 + (⟨I.val - r0, by omega⟩ : Fin nr).val, by simp only; omega⟩ := Fin.ext (by simp only; omega)

/-! ## A block's share of a row -/

section Block
variable {nr nc nk : ℕ}

theorem keyRows_apply (gk : GeoK nc) (g : Vec Ideal (sh3 2 nk 512) .bf16) (c0 : ℕ) (hc : c0 + nc ≤ nk) (b : Fin 2) (j : Fin nc) (e : Fin 512) :
    keyRows gk g c0 hc b (ix2 j e) = g (ix3 b ⟨c0 + j.val, by omega⟩ e) := by
  unfold keyRows
  rw [cast_drop]
  show g _ = _
  congr 1
  funext a; apply Fin.ext
  match a with
  | ⟨0, _⟩ => show b.val + 1 * 0 = b.val; omega
  | ⟨1, _⟩ => show c0 + 1 * j.val = c0 + j.val; omega
  | ⟨2, _⟩ => show 0 + 1 * e.val = e.val; omega

/-- The exponential of the score of row `I` against key `J` in head `h`. -/
def E {nq : ℕ} (gQ : Vec Ideal (sh3 2 nq 512) .bf16) (gK : Vec Ideal (sh3 2 nk 512) .bf16) (b : Fin 2) (h : Fin 8) (I : Fin nq) (J : Fin nk) : EReal :=
  Ideal.exp (∑ e : Fin 64, gQ (ix3 b I (col h e)) * gK (ix3 b J (col h e)))

/-- A block's bias is zero where the mask `P` of row and key numbers holds, and minus infinity elsewhere. -/
def BiasIs (bias : Option (FVec Ideal (sh2 nr nc) .f32)) (r0 c0 : ℕ) (P : ℕ → ℕ → Prop) : Prop :=
  ∀ (i : Fin nr) (j : Fin nc), (P (r0 + i.val) (c0 + j.val) → biasAt bias i j = 0) ∧ (¬ P (r0 + i.val) (c0 + j.val) → biasAt bias i j = ⊥)

theorem exp_bot (x : EReal) : Ideal.exp (x + ⊥) = 0 := by rw [EReal.add_bot]; rfl

variable (g : Geo nr nc) (gk : GeoK nc) (bias : Option (FVec Ideal (sh2 nr nc) .f32)) (gQ : Vec Ideal (sh3 2 512 512) .bf16)
  (gK gV : Vec Ideal (sh3 2 nk 512) .bf16) (r0 c0 : ℕ) (hr : r0 + nr ≤ 512) (hc : c0 + nc ≤ nk)
  (P : ℕ → ℕ → Prop) [∀ a b, Decidable (P a b)] (hP : BiasIs bias r0 c0 P) (b : Fin 2) (h : Fin 8)

include hP in
theorem w_read (i : Fin nr) (j : Fin nc) :
    wV g bias (shapeCast (sh2 nr 64) (sub (boxA (B := 512) r0 hr (b, h)) gQ) g.cq) (headOf gk (keyRows gk gK c0 hc b) h) (ix2 i j)
      = if P (r0 + i.val) (c0 + j.val) then E gQ gK b h ⟨r0 + i.val, by omega⟩ ⟨c0 + j.val, by omega⟩ else 0 := by
  rw [w_apply]
  have hs : (∑ e : Fin 64, shapeCast (sh2 nr 64) (sub (boxA (B := 512) r0 hr (b, h)) gQ) g.cq (ix2 i e)
        * headOf gk (keyRows gk gK c0 hc b) h (ix2 j e))
      = ∑ e : Fin 64, gQ (ix3 b ⟨r0 + i.val, by omega⟩ (col h e)) * gK (ix3 b ⟨c0 + j.val, by omega⟩ (col h e)) := by
    refine Finset.sum_congr rfl fun e _ => ?_
    rw [cast_drop, head_apply, keyRows_apply]
    unfold sub
    rw [boxA_emb]
  rw [hs]
  by_cases hp : P (r0 + i.val) (c0 + j.val)
  · rw [if_pos hp, (hP i j).1 hp, add_zero]; rfl
  · rw [if_neg hp, (hP i j).2 hp, exp_bot]

/-- What a block adds to the running sum of row `I`. -/
def shL (r0 c0 : ℕ) (I : Fin 512) : EReal :=
  ∑ J : Fin nk, if (r0 ≤ I.val ∧ I.val < r0 + nr) ∧ (c0 ≤ J.val ∧ J.val < c0 + nc) ∧ P I.val J.val then E gQ gK b h I J else 0
/-- What a block adds to the running product of row `I` in column `d`. -/
def shA (r0 c0 : ℕ) (I : Fin 512) (d : Fin 64) : EReal :=
  ∑ J : Fin nk, if (r0 ≤ I.val ∧ I.val < r0 + nr) ∧ (c0 ≤ J.val ∧ J.val < c0 + nc) ∧ P I.val J.val then E gQ gK b h I J * gV (ix3 b J (col h d)) else 0

include hP in
theorem lsum_read (I : Fin 512) (hI : r0 ≤ I.val ∧ I.val < r0 + nr) :
    lsumV g (wV g bias (shapeCast (sh2 nr 64) (sub (boxA (B := 512) r0 hr (b, h)) gQ) g.cq) (headOf gk (keyRows gk gK c0 hc b) h))
        (ix2 ⟨I.val - r0, by omega⟩ 0) = shL (nr := nr) (nc := nc) gQ gK P b h r0 c0 I := by
  rw [l_apply]
  unfold shL
  rw [Finset.sum_congr rfl fun j _ => w_read g gk bias gQ gK r0 c0 hr hc P hP b h ⟨I.val - r0, by omega⟩ j]
  have e : (⟨r0 + (I.val - r0), by omega⟩ : Fin 512) = I := Fin.ext (by simp only; omega)
  simp only [e, show r0 + (I.val - r0) = I.val by omega]
  rw [sum_window c0 hc (fun J => P I.val J) (fun J => E gQ gK b h I J)]
  exact sum_mask _ _ _ fun J => by simp [hI]

include hP in
theorem pv_read (I : Fin 512) (hI : r0 ≤ I.val ∧ I.val < r0 + nr) (d : Fin 64) :
    pvV g (wV g bias (shapeCast (sh2 nr 64) (sub (boxA (B := 512) r0 hr (b, h)) gQ) g.cq) (headOf gk (keyRows gk gK c0 hc b) h))
        (headOf gk (keyRows gk gV c0 hc b) h) (ix2 ⟨I.val - r0, by omega⟩ d) = shA (nr := nr) (nc := nc) gQ gK gV P b h r0 c0 I d := by
  rw [pv_apply]
  unfold shA
  have e : (⟨r0 + (I.val - r0), by omega⟩ : Fin 512) = I := Fin.ext (by simp only; omega)
  refine (Finset.sum_congr rfl fun j _ => (?_ : _ = if P I.val (c0 + j.val) then
      E gQ gK b h I ⟨c0 + j.val, by omega⟩ * gV (ix3 b ⟨c0 + j.val, by omega⟩ (col h d)) else 0)).trans ?_
  · rw [w_read g gk bias gQ gK r0 c0 hr hc P hP b h ⟨I.val - r0, by omega⟩ j, head_apply, keyRows_apply]
    simp only [e, show r0 + (I.val - r0) = I.val by omega, ite_mul, zero_mul]
  rw [sum_window c0 hc (fun J => P I.val J) (fun J => E gQ gK b h I J * gV (ix3 b J (col h d)))]
  exact sum_mask _ _ _ fun J => by simp [hI]

theorem shL_off (I : Fin 512) (hI : ¬ (r0 ≤ I.val ∧ I.val < r0 + nr)) : shL (nr := nr) (nc := nc) gQ gK P b h r0 c0 I = 0 := by
  unfold shL; exact Finset.sum_eq_zero fun J _ => if_neg fun hh => hI hh.1
theorem shA_off (I : Fin 512) (d : Fin 64) (hI : ¬ (r0 ≤ I.val ∧ I.val < r0 + nr)) : shA (nr := nr) (nc := nc) gQ gK gV P b h r0 c0 I d = 0 := by
  unfold shA; exact Finset.sum_eq_zero fun J _ => if_neg fun hh => hI hh.1

include hP in
/-- A later block adds its share to every row's sum. -/
theorem incL_read (L : Vec Ideal (sh3 2 512 8) .f32) (I : Fin 512) :
    blkIncL g gk bias gQ gK r0 c0 hr hc L (ix3 b I h) = L (ix3 b I h) + shL (nr := nr) (nc := nc) gQ gK P b h r0 c0 I := by
  unfold blkIncL
  by_cases hI : r0 ≤ I.val ∧ I.val < r0 + nr
  · have e := boxL_emb (B := 512) r0 hr b h ⟨I.val - r0, by omega⟩
    have e1 : (⟨r0 + (I.val - r0), by omega⟩ : Fin 512) = I := Fin.ext (by simp only; omega)
    simp only [e1] at e
    rw [← lsum_read g gk bias gQ gK r0 c0 hr hc P hP b h I hI]
    rw [← e, tile_emb (apartL _ _) _ (ord8_lt _)]
    unfold wIncL incL
    rw [cast_add]
    show shapeCast _ _ _ _ + _ = _
    rw [cast_drop]
    rfl
  · rw [tile_off _ fun k x _ => box_off hI x, shL_off _ _ _ _ _ _ _ _ hI, add_zero]

include hP in
/-- A later block adds its share to every row's products. -/
theorem incA_read (A : Vec Ideal (sh3 2 512 512) .f32) (I : Fin 512) (d : Fin 64) :
    blkIncA g gk bias gQ gK gV r0 c0 hr hc A (ix3 b I (col h d)) = A (ix3 b I (col h d)) + shA (nr := nr) (nc := nc) gQ gK gV P b h r0 c0 I d := by
  unfold blkIncA
  by_cases hI : r0 ≤ I.val ∧ I.val < r0 + nr
  · have e := boxA_emb (B := 512) r0 hr b h ⟨I.val - r0, by omega⟩ d
    have e1 : (⟨r0 + (I.val - r0), by omega⟩ : Fin 512) = I := Fin.ext (by simp only; omega)
    simp only [e1] at e
    rw [← pv_read g gk bias gQ gK gV r0 c0 hr hc P hP b h I hI d]
    rw [← e, tile_emb (apartA _ _) _ (ord8_lt _)]
    unfold wIncA incA
    rw [cast_add]
    show shapeCast _ _ _ _ + _ = _
    rw [cast_drop]
    rfl
  · rw [tile_off _ fun k x _ => box_off hI x, shA_off _ _ _ _ _ _ _ _ _ _ hI, add_zero]

include hP in
/-- A first block leaves its share in its rows' sums, and the other rows as they were. -/
theorem initL_read (L : Vec Ideal (sh3 2 512 8) .f32) (I : Fin 512) :
    blkInitL g gk bias gQ gK r0 c0 hr hc L (ix3 b I h)
      = if r0 ≤ I.val ∧ I.val < r0 + nr then shL (nr := nr) (nc := nc) gQ gK P b h r0 c0 I else L (ix3 b I h) := by
  unfold blkInitL
  by_cases hI : r0 ≤ I.val ∧ I.val < r0 + nr
  · have e := boxL_emb (B := 512) r0 hr b h ⟨I.val - r0, by omega⟩
    have e1 : (⟨r0 + (I.val - r0), by omega⟩ : Fin 512) = I := Fin.ext (by simp only; omega)
    simp only [e1] at e
    rw [if_pos hI, ← lsum_read g gk bias gQ gK r0 c0 hr hc P hP b h I hI]
    rw [← e, tile_emb (apartL _ _) _ (ord8_lt _)]
    unfold wInitL initL
    rw [cast_add]
  · rw [tile_off _ fun k x _ => box_off hI x, if_neg hI]

include hP in
/-- A first block leaves its share in its rows' products, and the other rows as they were. -/
theorem initA_read (A : Vec Ideal (sh3 2 512 512) .f32) (I : Fin 512) (d : Fin 64) :
    blkInitA g gk bias gQ gK gV r0 c0 hr hc A (ix3 b I (col h d))
      = if r0 ≤ I.val ∧ I.val < r0 + nr then shA (nr := nr) (nc := nc) gQ gK gV P b h r0 c0 I d else A (ix3 b I (col h d)) := by
  unfold blkInitA
  by_cases hI : r0 ≤ I.val ∧ I.val < r0 + nr
  · have e := boxA_emb (B := 512) r0 hr b h ⟨I.val - r0, by omega⟩ d
    have e1 : (⟨r0 + (I.val - r0), by omega⟩ : Fin 512) = I := Fin.ext (by simp only; omega)
    simp only [e1] at e
    rw [if_pos hI, ← pv_read g gk bias gQ gK gV r0 c0 hr hc P hP b h I hI d]
    rw [← e, tile_emb (apartA _ _) _ (ord8_lt _)]
    unfold wInitA initA
    rw [cast_add]
  · rw [tile_off _ fun k x _ => box_off hI x, if_neg hI]

end Block

end Cert.KernelIdeal
-- ==== Proof.Bias.lean ====
/-
  The masks as words, and the biases of the blocks as masks of row and key numbers.
-/
module

public import proofs.«01_k».proof.Proof.Read
public import Idealize.ShloMosaic.Lib.WordCmp

@[expose] public section

noncomputable section

namespace Cert.KernelIdeal

open Idealize.ShloMosaic Idealize.SL.Sem Idealize.ShloMosaic.WordCmp
open Cert.KernelIdeal.Gen

/-! ## The masks over row and key numbers of the whole sequence -/

/-- Within 128 of each other. -/
def Near (g j : ℕ) : Prop := g ≤ j + 128 ∧ j ≤ g + 128
/-- The mask of the attention: near, or a global key, or a global row. -/
def Mk (g j : ℕ) : Prop := Near g j ∨ j < 32 ∨ g < 32
/-- The mask of a neighbour's keys: near, in a row that is not global. -/
def Wn (g j : ℕ) : Prop := Near g j ∧ 32 ≤ g
instance (g j : ℕ) : Decidable (Near g j) := by unfold Near; infer_instance
instance (g j : ℕ) : Decidable (Mk g j) := by unfold Mk; infer_instance
instance (g j : ℕ) : Decidable (Wn g j) := by unfold Wn; infer_instance

/-! ## The masks' words -/

theorem near_word {a b : ℕ} (ha : a < 2048) (hb : b < 2048) :
    IntOp.cmpi .sle (IntOp.absi (BitVec.ofNat 32 a - BitVec.ofNat 32 b)) 128#32 = BitVec.ofBool (decide (Near a b)) := by
  have key : ∀ n : ℕ, n < 2048 → (BitVec.ofNat 32 n).msb = false := fun n hn => by
    rw [BitVec.msb_eq_false_iff_two_mul_lt, toNat_ofNat_of_lt (by omega)]; omega
  by_cases h : b ≤ a
  · have e : BitVec.ofNat 32 a - BitVec.ofNat 32 b = BitVec.ofNat 32 (a - b) := by
      apply BitVec.eq_of_toNat_eq
      rw [BitVec.toNat_sub, toNat_ofNat_of_lt (by omega), toNat_ofNat_of_lt (by omega), toNat_ofNat_of_lt (by omega)]; omega
    rw [e, IntOp.absi, key _ (by omega)]
    simp only [Bool.false_eq_true, if_false]
    rw [cmpi_sle_ofNat (by omega) (by omega)]
    congr 1
    exact decide_eq_decide.mpr (by unfold Near; omega)
  · have e : BitVec.ofNat 32 a - BitVec.ofNat 32 b = -BitVec.ofNat 32 (b - a) := by
      apply BitVec.eq_of_toNat_eq
      rw [BitVec.toNat_sub, BitVec.toNat_neg, toNat_ofNat_of_lt (by omega), toNat_ofNat_of_lt (by omega), toNat_ofNat_of_lt (by omega)]; omega
    have m : (-BitVec.ofNat 32 (b - a)).msb = true := by
      rw [BitVec.msb_eq_true_iff_two_mul_ge, BitVec.toNat_neg, toNat_ofNat_of_lt (by omega)]; omega
    rw [e, IntOp.absi, m]
    simp only [if_true, BitVec.neg_neg]
    rw [cmpi_sle_ofNat (by omega) (by omega)]
    congr 1
    exact decide_eq_decide.mpr (by unfold Near; omega)

section Words
variable {nr nc : ℕ} (gi : GeoI nr nc)

theorem rowIx_apply (a r0 : ℕ) (i : Fin nr) (j : Fin nc) :
    rowIx gi (BitVec.ofNat 32 a) (BitVec.ofNat 32 r0) (ix2 i j) = BitVec.ofNat 32 (a + (r0 + i.val)) := by
  unfold rowIx
  show (BitVec.ofNat 32 a + BitVec.ofNat 32 r0) + iota .tc (sh2 nr nc) 32 [_] _ (ix2 i j) = _
  rw [iota_single_apply]
  show (BitVec.ofNat 32 a + BitVec.ofNat 32 r0) + BitVec.ofNat 32 i.val = _
  rw [← BitVec.ofNat_add, ← BitVec.ofNat_add, Nat.add_assoc]
theorem colIx_apply (a c0 : ℕ) (i : Fin nr) (j : Fin nc) :
    colIx gi (BitVec.ofNat 32 a) (BitVec.ofNat 32 c0) (ix2 i j) = BitVec.ofNat 32 (a + (c0 + j.val)) := by
  unfold colIx
  show (BitVec.ofNat 32 a + BitVec.ofNat 32 c0) + iota .tc (sh2 nr nc) 32 [_] _ (ix2 i j) = _
  rw [iota_single_apply]
  show (BitVec.ofNat 32 a + BitVec.ofNat 32 c0) + BitVec.ofNat 32 j.val = _
  rw [← BitVec.ofNat_add, ← BitVec.ofNat_add, Nat.add_assoc]

theorem maskFull_apply (qi ki : IVec (sh2 nr nc) 32) (x : (sh2 nr nc).Idx) {a b : ℕ} (ha : a < 2048) (hb : b < 2048)
    (hq : qi x = BitVec.ofNat 32 a) (hk : ki x = BitVec.ofNat 32 b) : maskFull qi ki x = BitVec.ofBool (decide (Mk a b)) := by
  show IntOp.ori (IntOp.ori (IntOp.cmpi .sle (IntOp.absi (qi x - ki x)) 128#32) (IntOp.cmpi .slt (ki x) 32#32)) (IntOp.cmpi .slt (qi x) 32#32) = _
  rw [hq, hk, near_word ha hb, cmpi_slt_ofNat (by omega) (by omega), cmpi_slt_ofNat (by omega) (by omega), ori_ofBool, ori_ofBool]
  congr 1
  rw [Bool.eq_iff_iff, decide_eq_true_iff]; simp [Mk, or_assoc]
theorem maskWin_apply (qi ki : IVec (sh2 nr nc) 32) (x : (sh2 nr nc).Idx) {a b : ℕ} (ha : a < 2048) (hb : b < 2048)
    (hq : qi x = BitVec.ofNat 32 a) (hk : ki x = BitVec.ofNat 32 b) : maskWin qi ki x = BitVec.ofBool (decide (Wn a b)) := by
  show IntOp.andi (IntOp.cmpi .sle (IntOp.absi (qi x - ki x)) 128#32) (IntOp.cmpi .sge (qi x) 32#32) = _
  rw [hq, hk, near_word ha hb, cmpi_sge_ofNat (by omega) (by omega), andi_ofBool]
  congr 1
  rw [Bool.eq_iff_iff, decide_eq_true_iff]; simp [Wn]

/-- The bias at an element, from the mask there. -/
theorem biasOf_apply (m : IVec (sh2 nr nc) 1) (i : Fin nr) (j : Fin nc) (p : Prop) [Decidable p] (h : m (ix2 i j) = BitVec.ofBool (decide p)) :
    (p → biasAt (some (biasOf (F := Ideal) m)) i j = 0) ∧ (¬ p → biasAt (some (biasOf (F := Ideal) m)) i j = ⊥) := by
  unfold biasAt
  have e : biasOf (F := Ideal) m (ix2 i j) = if m (ix2 i j) = 1#1 then (Scalar.ofBits .f32 0x00000000#32 : Ideal .f32) else Named.named κ "mask" 0xCE6E6B28#32 := rfl
  simp only [e, h]
  constructor
  · intro hp
    rw [decide_eq_true hp]
    refine (if_pos (by decide)).trans ?_
    exact Ideal.ofBits_zero_f32
  · intro hp
    rw [decide_eq_false hp]
    exact (if_neg (by decide)).trans rfl
end Words

/-! ## The devices' words -/

theorem me_word (d : Dev nD) : Scalar.muli (meW d) 512#32 = BitVec.ofNat 32 (512 * d.val) := by
  revert d; decide +kernel
theorem left_word (d : Dev nD) : Scalar.addi (Scalar.muli (leftW d) 512#32) 384#32 = BitVec.ofNat 32 (512 * (d + 3 : Dev nD).val + 384) := by
  revert d; decide +kernel
theorem right_word (d : Dev nD) : Scalar.muli (rightW d) 512#32 = BitVec.ofNat 32 (512 * (d + 1 : Dev nD).val) := by
  revert d; decide +kernel

/-! ## The biases -/

/-- The bias of a block of own keys is the mask at the numbers in the whole sequence. -/
theorem own_bias {nr nc : ℕ} (gi : GeoI nr nc) (d : Dev nD) (r0 c0 : ℕ) (hr : r0 + nr ≤ 512) (hc : c0 + nc ≤ 512) :
    BiasIs (some (ownBias gi d (BitVec.ofNat 32 r0) (BitVec.ofNat 32 c0))) r0 c0 (fun i j => Mk (512 * d.val + i) (512 * d.val + j)) := by
  intro i j
  have hd : d.val < 4 := d.isLt
  refine biasOf_apply _ i j _ (maskFull_apply _ _ _ (by omega) (by omega) ?_ ?_)
  · rw [me_word]; exact rowIx_apply gi _ _ i j
  · rw [me_word]; exact colIx_apply gi _ _ i j

/-- The bias of the left neighbour's last keys. -/
theorem left_bias (d : Dev nD) : BiasIs (some (leftBias d)) 0 0 (fun i j => Wn (512 * d.val + i) (512 * (d + 3 : Dev nD).val + 384 + j)) := by
  intro i j
  have hd : d.val < 4 := d.isLt
  have hd' : (d + 3 : Dev nD).val < 4 := (d + 3 : Dev nD).isLt
  refine biasOf_apply _ i j _ (maskWin_apply _ _ _ (by omega) (by omega) ?_ ?_)
  · rw [me_word]; exact rowIx_apply _ _ 0 i j
  · rw [left_word]; exact colIx_apply _ _ 0 i j

/-- The bias of the right neighbour's first keys. -/
theorem right_bias (d : Dev nD) : BiasIs (some (rightBias d)) 384 0 (fun i j => Wn (512 * d.val + i) (512 * (d + 1 : Dev nD).val + j)) := by
  intro i j
  have hd : d.val < 4 := d.isLt
  have hd' : (d + 1 : Dev nD).val < 4 := (d + 1 : Dev nD).isLt
  refine biasOf_apply _ i j _ (maskWin_apply _ _ _ (by omega) (by omega) ?_ ?_)
  · rw [me_word]; exact rowIx_apply _ _ 384 i j
  · rw [right_word]; exact colIx_apply _ _ 0 i j

/-- No bias is the mask that always holds. -/
theorem no_bias {nr nc : ℕ} (r0 c0 : ℕ) : BiasIs (nr := nr) (nc := nc) none r0 c0 (fun _ _ => True) :=
  fun _ _ => ⟨fun _ => rfl, fun h => absurd trivial h⟩

end Cert.KernelIdeal
-- ==== Proof.Dense.lean ====
/-
  The queries, the narrowed keys and values, the shares, the context and the output, read at an element over the
  extended reals.
-/
module

public import proofs.«01_k».proof.Proof.Bias
public import proofs.«01_k».proof.Proof.Run

@[expose] public section

noncomputable section

namespace Cert.KernelIdeal

open Idealize.ShloMosaic Idealize.SL.Sem
open Cert.KernelIdeal.Gen

/-- The scale of the scores. -/
theorem eighth_bf16 : (Ideal.ofBits .bf16 0x3E00#16 : EReal) = ((1 / 8 : ℝ) : EReal) := by
  simp [Ideal.ofBits, Ideal.ieee, -EReal.coe_mul]; norm_num

theorem ord2_lt (b : Fin 2) : ord2 b < 2 := b.isLt

theorem zero_add_row {n : ℕ} (i : Fin n) (h : 0 + i.val < n) : (⟨0 + i.val, h⟩ : Fin n) = i := Fin.ext (Nat.zero_add _)

/-- A query: the row of the input against the column of the scaled weights. -/
theorem qC_read (gWq : Vec Ideal S768x512 .bf16) (gX : Vec Ideal S2x512x768 .bf16) (b : Fin 2) (I e : Fin 512) :
    qC gWq gX (ix3 b I e) = ∑ p : Fin 768, gX (ix3 b I p) * (gWq (ix2 p e) * ((1 / 8 : ℝ) : EReal)) := by
  have hb := boxB_emb (B := 512) (C := 512) (nr := 512) 0 (by omega) b I e
  rw [zero_add_row] at hb
  unfold qC
  rw [← hb, tile_emb (apartB _ _) _ (ord2_lt _)]
  unfold wQ qV
  refine (cast_add _ _ I e).trans ?_
  show matmul (F := Ideal) dot_S512x768_S768x512_S512x512_1_0_0_1_n_n none
    (shapeCast S512x768 (sub (boxB (B := 512) (C := 768) (nr := 512) 0 (by omega) b) gX) Facts₀.shapeCasts_S1x512x768_S512x768)
    (wqV (sub rWq gWq)) (constant S512x512 .f32 0x00000000#32) (ix2 I e) = _
  simp only [matmul]
  rw [Ideal.matmul_constant_zero_apply, DotDims.sum_contr₁ dot_S512x768_S768x512_S512x512_1_0_0_1_n_n (a := 1) rfl (K := 768) rfl]
  refine Finset.sum_congr rfl fun p _ => ?_
  congr 1
  · refine (congrArg (shapeCast S512x768 (sub (boxB (B := 512) (C := 768) (nr := 512) 0 (by omega) b) gX) Facts₀.shapeCasts_S1x512x768_S512x768)
      (?_ : _ = ix2 I p)).trans ?_
    · funext a; match a with | ⟨0, _⟩ => rfl | ⟨1, _⟩ => rfl
    refine (cast_drop _ _ I p).trans ?_
    unfold sub
    rw [boxB_emb, zero_add_row]
  · refine (congrArg (wqV (sub rWq gWq)) (?_ : _ = ix2 p e)).trans ?_
    · funext a; match a with | ⟨0, _⟩ => rfl | ⟨1, _⟩ => rfl
    unfold wqV
    rw [shapeCast_self]
    show sub rWq gWq (ix2 p e) * Ideal.ofBits .bf16 0x3E00#16 = _
    rw [eighth_bf16]
    congr 1
    unfold sub
    congr 1
    funext a; apply Fin.ext
    match a with
    | ⟨0, _⟩ => show 0 + 1 * p.val = p.val; omega
    | ⟨1, _⟩ => show 0 + 1 * e.val = e.val; omega

/-- Narrowing keeps every element. -/
theorem nC_read (g : Vec Ideal (sh3 2 512 512) .f32) (b : Fin 2) (I e : Fin 512) : nC g (ix3 b I e) = g (ix3 b I e) := by
  have hb := boxB_emb (B := 512) (C := 512) (nr := 512) 0 (by omega) b I e
  rw [zero_add_row] at hb
  unfold nC
  conv_lhs => rw [← hb, tile_emb (apartB _ _) _ (ord2_lt _)]
  unfold wN narrowV
  refine (cast_add _ _ I e).trans ?_
  show shapeCast S512x512 (sub (boxB (B := 512) (C := 512) (nr := 512) 0 (by omega) b) g) Facts₀.shapeCasts_S1x512x512_S512x512 (ix2 I e) = _
  refine (cast_drop _ _ I e).trans ?_
  exact congrArg g hb

/-- Rows `r0` on of a buffer. -/
theorem rows_read {r : ℕ} (r0 : ℕ) (hr : r0 + r ≤ 512) (g : Vec Ideal (sh3 2 512 512) .bf16) (b : Fin 2) (i : Fin r) (e : Fin 512) :
    sub (rows r0 r hr) g (ix3 b i e) = g (ix3 b ⟨r0 + i.val, by omega⟩ e) := by
  unfold sub
  congr 1
  funext a; apply Fin.ext
  match a with
  | ⟨0, _⟩ => show 0 + 1 * b.val = b.val; omega
  | ⟨1, _⟩ => show r0 + 1 * i.val = r0 + i.val; omega
  | ⟨2, _⟩ => show 0 + 1 * e.val = e.val; omega

/-! ## The shares of device 0's first rows -/

section Part
variable (gQ : Vec Ideal (sh3 2 32 512) .bf16) (gK gV : Vec Ideal (sh3 2 512 512) .bf16) (b : Fin 2) (h : Fin 8)

theorem part_cast {n : ℕ} (g : Vec Ideal (sh3 2 n 512) .bf16) (hc : (sh3 1 n 64).ShapeCasts (sh2 n 64)) (i : Fin n) (e : Fin 64) :
    shapeCast (sh2 n 64) (sub (boxA (B := n) (nr := n) 0 (by omega) (b, h)) g) hc (ix2 i e) = g (ix3 b i (col h e)) := by
  rw [cast_drop]
  unfold sub
  rw [boxA_emb, zero_add_row]

theorem wPart_read (i : Fin 32) (J : Fin 512) : wPart gQ gK (b, h) (ix2 i J) = E gQ gK b h i J := by
  unfold wPart
  rw [w_apply]
  unfold E
  refine congrArg Ideal.exp ?_
  refine (add_zero _).trans (Finset.sum_congr rfl fun e _ => ?_)
  rw [part_cast, part_cast]

theorem pl_read (i : Fin 32) : plC gQ gK (ix3 b i h) = ∑ J : Fin 512, E gQ gK b h i J := by
  have hb := boxL_emb (B := 32) (nr := 32) 0 (by omega) b h i
  rw [zero_add_row] at hb
  unfold plC
  rw [← hb, tile_emb (apartL _ _) _ (ord8_lt _)]
  unfold wPL
  rw [cast_add, l_apply]
  exact Finset.sum_congr rfl fun J _ => wPart_read gQ gK b h i J

theorem pa_read (i : Fin 32) (d : Fin 64) : paC gQ gK gV (ix3 b i (col h d)) = ∑ J : Fin 512, E gQ gK b h i J * gV (ix3 b J (col h d)) := by
  have hb := boxA_emb (B := 32) (nr := 32) 0 (by omega) b h i d
  rw [zero_add_row] at hb
  unfold paC
  rw [← hb, tile_emb (apartA _ _) _ (ord8_lt _)]
  unfold wPA
  rw [cast_add, pv_apply]
  refine Finset.sum_congr rfl fun J _ => ?_
  rw [wPart_read, part_cast]
end Part

theorem addA_apply (a : Vec Ideal S1x32x512 .f32) (r : Vec Ideal S1x1x32x512 .f32) (i : Fin 32) (e : Fin 512) :
    addA a r (ix3 0 i e) = a (ix3 0 i e) + r (ix4 0 0 i e) := by
  unfold addA
  pointwise
theorem addL_apply (a : Vec Ideal S1x32x8 .f32) (r : Vec Ideal S1x1x32x8 .f32) (i : Fin 32) (e : Fin 8) :
    addL a r (ix3 0 i e) = a (ix3 0 i e) + r (ix4 0 0 i e) := by
  unfold addL
  pointwise

/-- A share added to the first rows. -/
theorem shareA_read (j : Fin 3) (g : Vec Ideal (sh3 2 32 512) .f32) (A : Vec Ideal (sh3 2 512 512) .f32) (b : Fin 2) (I e : Fin 512) :
    shareA j g A (ix3 b I e) = if hI : I.val < 32 then A (ix3 b I e) + g (ix3 b ⟨I.val, hI⟩ e) else A (ix3 b I e) := by
  unfold shareA
  by_cases hI : I.val < 32
  · rw [dif_pos hI]
    have hb := boxB_emb (B := 512) (C := 512) (nr := 32) 0 (by omega) b ⟨I.val, hI⟩ e
    have e1 : (⟨0 + I.val, by omega⟩ : Fin 512) = I := Fin.ext (Nat.zero_add _)
    simp only [e1] at hb
    conv_lhs => rw [← hb, tile_emb (apartB _ _) _ (ord2_lt _)]
    unfold wSA
    refine (addA_apply _ _ _ _).trans ?_
    unfold sub
    rw [hb]
    rfl
  · rw [dif_neg hI, tile_off _ fun k x _ => box_off (by omega) x]
theorem shareL_read (j : Fin 3) (g : Vec Ideal (sh3 2 32 8) .f32) (L : Vec Ideal (sh3 2 512 8) .f32) (b : Fin 2) (I : Fin 512) (e : Fin 8) :
    shareL j g L (ix3 b I e) = if hI : I.val < 32 then L (ix3 b I e) + g (ix3 b ⟨I.val, hI⟩ e) else L (ix3 b I e) := by
  unfold shareL
  by_cases hI : I.val < 32
  · rw [dif_pos hI]
    have hb := boxB_emb (B := 512) (C := 8) (nr := 32) 0 (by omega) b ⟨I.val, hI⟩ e
    have e1 : (⟨0 + I.val, by omega⟩ : Fin 512) = I := Fin.ext (Nat.zero_add _)
    simp only [e1] at hb
    conv_lhs => rw [← hb, tile_emb (apartB _ _) _ (ord2_lt _)]
    unfold wSL
    refine (addL_apply _ _ _ _).trans ?_
    unfold sub
    rw [hb]
    rfl
  · rw [dif_neg hI, tile_off _ fun k x _ => box_off (by omega) x]

/-! ## The context and the output -/

theorem linv_apply (l : Vec Ideal S1x512x8 .f32) (i : Fin 512) (h : Fin 8) : linvV l (ix2 i h) = Ideal.div 1 (l (ix3 0 i h)) := by
  unfold linvV
  pointwise

/-- The context: a head's products over its row's sum. -/
theorem ctxC_read (A : Vec Ideal (sh3 2 512 512) .f32) (L : Vec Ideal (sh3 2 512 8) .f32) (b : Fin 2) (h : Fin 8) (I : Fin 512) (d : Fin 64) :
    ctxC A L (ix3 b I (col h d)) = A (ix3 b I (col h d)) * Ideal.div 1 (L (ix3 b I h)) := by
  have hb := boxA_emb (B := 512) (nr := 512) 0 (by omega) b h I d
  rw [zero_add_row] at hb
  unfold ctxC
  rw [← hb, tile_emb (apartA _ _) _ (ord8_lt _)]
  unfold wC ctxV
  refine (cast_add _ _ I d).trans ?_
  show shapeCast S512x64 (sub (boxA (B := 512) (nr := 512) 0 (by omega) (b, h)) A) Facts₀.shapeCasts_S1x512x64_S512x64 (ix2 I d)
    * broadcastTo S512x64 (extractStridedSlice S512x1 ![0, h.val] (linvV (sub (boxB (B := 512) (C := 8) (nr := 512) 0 (by omega) b) L)) (slOne h)) Facts₀.broadcasts_S512x1_S512x64 (ix2 I d) = _
  congr 1
  · exact cast_drop _ _ I d
  · have e : broadcastTo S512x64 (extractStridedSlice S512x1 ![0, h.val] (linvV (sub (boxB (B := 512) (C := 8) (nr := 512) 0 (by omega) b) L)) (slOne h)) Facts₀.broadcasts_S512x1_S512x64 (ix2 I d)
        = linvV (sub (boxB (B := 512) (C := 8) (nr := 512) 0 (by omega) b) L) (ix2 I h) := by
      unfold broadcastTo extractStridedSlice
      congr 1
      funext a; apply Fin.ext
      match a with
      | ⟨0, _⟩ => show 0 + _ = I.val; simp
      | ⟨1, _⟩ => show h.val + _ = h.val; simp
    rw [e, linv_apply]
    unfold sub
    rw [boxB_emb, zero_add_row]

/-- The output: a row of the context against a column of the output weights. -/
theorem outC_read (gWo : Vec Ideal S512x768 .bf16) (g : Vec Ideal (sh3 2 512 512) .bf16) (b : Fin 2) (I : Fin 512) (n : Fin 768) :
    outC gWo g (ix3 b I n) = ∑ e : Fin 512, g (ix3 b I e) * gWo (ix2 e n) := by
  have hb := boxB_emb (B := 512) (C := 768) (nr := 512) 0 (by omega) b I n
  rw [zero_add_row] at hb
  unfold outC
  rw [← hb, tile_emb (apartB _ _) _ (ord2_lt _)]
  unfold wO outV
  refine (cast_add _ _ I n).trans ?_
  show matmul (F := Ideal) dot_S512x512_S512x768_S512x768_1_0_0_1_n_n none
    (shapeCast S512x512 (sub (boxB (B := 512) (C := 512) (nr := 512) 0 (by omega) b) g) Facts₀.shapeCasts_S1x512x512_S512x512)
    (shapeCast S512x768 (sub rWo gWo) Facts₀.shapeCasts_S512x768_S512x768) (constant S512x768 .f32 0x00000000#32) (ix2 I n) = _
  simp only [matmul]
  rw [Ideal.matmul_constant_zero_apply, DotDims.sum_contr₁ dot_S512x512_S512x768_S512x768_1_0_0_1_n_n (a := 1) rfl (K := 512) rfl]
  refine Finset.sum_congr rfl fun p _ => ?_
  congr 1
  · refine (congrArg (shapeCast S512x512 (sub (boxB (B := 512) (C := 512) (nr := 512) 0 (by omega) b) g) Facts₀.shapeCasts_S1x512x512_S512x512)
      (?_ : _ = ix2 I p)).trans ?_
    · funext a; match a with | ⟨0, _⟩ => rfl | ⟨1, _⟩ => rfl
    refine (cast_drop _ _ I p).trans ?_
    unfold sub
    rw [boxB_emb, zero_add_row]
  · refine (congrArg (shapeCast S512x768 (sub rWo gWo) Facts₀.shapeCasts_S512x768_S512x768) (?_ : _ = ix2 p n)).trans ?_
    · funext a; match a with | ⟨0, _⟩ => rfl | ⟨1, _⟩ => rfl
    refine (congrFun (shapeCast_self (s := S512x768) (sub rWo gWo) Facts₀.shapeCasts_S512x768_S512x768) (ix2 p n)).trans ?_
    unfold sub
    congr 1
    funext a; apply Fin.ext
    match a with
    | ⟨0, _⟩ => show 0 + 1 * p.val = p.val; omega
    | ⟨1, _⟩ => show 0 + 1 * n.val = n.val; omega

end Cert.KernelIdeal
-- ==== Proof.Pieces.lean ====
/-
  The keys a device's blocks cover: the masked sums of the blocks add up to one sum over the whole sequence.
-/
module

public import proofs.«01_k».proof.Proof.Bias

@[expose] public section

noncomputable section

namespace Cert.KernelIdeal

/-! ## Masked sums over the whole sequence -/

open Classical in
/-- The sum of `F` over the keys in `C`. -/
def S (C : ℕ → Prop) (F : Fin 2048 → EReal) : EReal := ∑ J : Fin 2048, if C J.val then F J else 0

theorem ite_inst (p : Prop) (i1 i2 : Decidable p) (a b : EReal) : @ite _ p i1 a b = @ite _ p i2 a b := by congr

theorem S_congr {C D : ℕ → Prop} (F : Fin 2048 → EReal) (h : ∀ J, J < 2048 → (C J ↔ D J)) : S C F = S D F := by
  classical
  unfold S; exact sum_mask _ _ _ fun J => h J.val J.isLt

theorem S_or {C D : ℕ → Prop} (F : Fin 2048 → EReal) (h : ∀ J, J < 2048 → C J → D J → False) : S C F + S D F = S (fun J => C J ∨ D J) F := by
  unfold S
  classical
  refine (sum_or _ _ _ fun J hh => h J.val J.isLt hh.1 hh.2).trans ?_
  exact Finset.sum_congr rfl fun J _ => ite_inst _ _ _ _ _

theorem S_none {C : ℕ → Prop} (F : Fin 2048 → EReal) (h : ∀ J, J < 2048 → ¬ C J) : S C F = 0 := by
  unfold S; exact Finset.sum_eq_zero fun J _ => if_neg (h J.val J.isLt)

/-- A masked sum over a buffer of keys that starts at key `o`. -/
theorem S_lift {nk : ℕ} (o : ℕ) (ho : o + nk ≤ 2048) (C : ℕ → Prop) [DecidablePred C] (f : Fin nk → EReal) (F : Fin 2048 → EReal)
    (hf : ∀ j : Fin nk, f j = F ⟨o + j.val, by omega⟩) :
    (∑ j : Fin nk, if C j.val then f j else 0) = S (fun J => (o ≤ J ∧ J < o + nk) ∧ C (J - o)) F := by
  have e : ∀ j : Fin nk, o + j.val - o = j.val := fun j => by omega
  have := sum_window (nc := nk) o ho (fun J => C (J - o)) F
  simp only [e] at this
  unfold S
  refine (Finset.sum_congr rfl fun j _ => (?_ : _ = if C j.val then F ⟨o + j.val, by omega⟩ else 0)).trans (this.trans ?_)
  · rw [hf j]
  · exact Finset.sum_congr rfl fun J _ => ite_inst _ _ _ _ _

/-! ## The blocks' keys -/

/-- The keys of a block for row `i`: rows `r0` on, keys `c0` on of a buffer of `nk` keys that starts at `o`, masked by `P`. -/
def Piece (o nk r0 nr c0 nc : ℕ) (P : ℕ → ℕ → Prop) (i J : ℕ) : Prop :=
  (o ≤ J ∧ J < o + nk) ∧ (r0 ≤ i ∧ i < r0 + nr) ∧ (c0 ≤ J - o ∧ J - o < c0 + nc) ∧ P i (J - o)

/-- The keys of device `c`'s own blocks for its row `i`. -/
def OwnKeys (c i J : ℕ) : Prop := (512 * c ≤ J ∧ J < 512 * c + 512) ∧ Mk (512 * c + i) J
/-- With those of its neighbours' blocks, `l` on the left and `r` on the right. -/
def NearKeys (c l r i J : ℕ) : Prop :=
  (OwnKeys c i J ∨ (512 * l + 384 ≤ J ∧ J < 512 * l + 512) ∧ i < 128 ∧ Wn (512 * c + i) J)
    ∨ (512 * r ≤ J ∧ J < 512 * r + 128) ∧ 384 ≤ i ∧ Wn (512 * c + i) J

section Combine
variable (F : Fin 2048 → EReal) (z : EReal) (c i : ℕ) (hc : c < 4) (hi : i < 512)

abbrev ownP (c : ℕ) : ℕ → ℕ → Prop := fun i j => Mk (512 * c + i) (512 * c + j)

include hi in
/-- The own blocks together. -/
theorem own_sum :
    (if 256 ≤ i ∧ i < 256 + 256 then S (Piece (512 * c) 512 256 256 128 384 (ownP c) i) F
      else if 0 ≤ i ∧ i < 0 + 256 then S (Piece (512 * c) 512 0 256 0 384 (ownP c) i) F else z)
      + S (Piece (512 * c) 512 256 256 0 32 (ownP c) i) F + S (Piece (512 * c) 512 0 32 384 128 (ownP c) i) F = S (OwnKeys c i) F := by
  have e : ∀ J, 512 * c ≤ J → 512 * c + (J - 512 * c) = J := fun J h => by omega
  by_cases h : i < 256
  · rw [if_neg (by omega), if_pos (by omega), S_none (C := Piece (512 * c) 512 256 256 0 32 (ownP c) i) F (fun J hJ hp => by unfold Piece at hp; omega), add_zero, S_or]
    · refine S_congr F fun J hJ => ?_
      unfold Piece ownP OwnKeys
      by_cases hs : 512 * c ≤ J
      · rw [e J hs]
        unfold Mk Near
        constructor
        · rintro (h1 | h1) <;> omega
        · intro h1
          by_cases h2 : J - 512 * c < 384
          · left; omega
          · right; omega
      · constructor
        · rintro (h1 | h1) <;> omega
        · intro h1; omega
    · intro J hJ h1 h2
      unfold Piece at h1 h2
      omega
  · rw [if_pos (by omega), S_none (C := Piece (512 * c) 512 0 32 384 128 (ownP c) i) F (fun J hJ hp => by unfold Piece at hp; omega), add_zero, S_or]
    · refine S_congr F fun J hJ => ?_
      unfold Piece ownP OwnKeys
      by_cases hs : 512 * c ≤ J
      · rw [e J hs]
        unfold Mk Near
        constructor
        · rintro (h1 | h1) <;> omega
        · intro h1
          by_cases h2 : J - 512 * c < 128
          · right; omega
          · left; omega
      · constructor
        · rintro (h1 | h1) <;> omega
        · intro h1; omega
    · intro J hJ h1 h2
      unfold Piece at h1 h2
      omega

include hi in
/-- The neighbours' blocks added to the own ones. -/
theorem near_sum (l r : ℕ) (hc : c < 4) (hl : (c = 0 ∧ l = 3) ∨ (0 < c ∧ l + 1 = c)) (hr : (c = 3 ∧ r = 0) ∨ (c < 3 ∧ r = c + 1)) :
    S (OwnKeys c i) F + S (Piece (512 * l + 384) 128 0 128 0 128 (fun i j => Wn (512 * c + i) (512 * l + 384 + j)) i) F
      + S (Piece (512 * r) 128 384 128 0 128 (fun i j => Wn (512 * c + i) (512 * r + j)) i) F = S (NearKeys c l r i) F := by
  rw [S_or, S_or]
  · refine S_congr F fun J hJ => ?_
    unfold NearKeys
    refine or_congr (or_congr Iff.rfl ?_) ?_
    · unfold Piece
      by_cases hs : 512 * l + 384 ≤ J
      · simp only [show 512 * l + 384 + (J - (512 * l + 384)) = J by omega]
        constructor
        · rintro ⟨h1, h2, h3, h4⟩; exact ⟨by omega, by omega, h4⟩
        · rintro ⟨h1, h2, h3⟩; exact ⟨by omega, by omega, by omega, h3⟩
      · constructor
        · rintro ⟨h1, h2, h3, h4⟩; omega
        · rintro ⟨h1, h2, h3⟩; omega
    · unfold Piece
      by_cases hs : 512 * r ≤ J
      · simp only [show 512 * r + (J - 512 * r) = J by omega]
        constructor
        · rintro ⟨h1, h2, h3, h4⟩; exact ⟨by omega, by omega, h4⟩
        · rintro ⟨h1, h2, h3⟩; exact ⟨by omega, by omega, by omega, h3⟩
      · constructor
        · rintro ⟨h1, h2, h3, h4⟩; omega
        · rintro ⟨h1, h2, h3⟩; omega
  · rintro J hJ (⟨h1, _⟩ | ⟨h1, _⟩) ⟨h2, _⟩ <;> omega
  · rintro J hJ ⟨h1, _⟩ ⟨h2, _⟩; omega

include hi in
/-- A device other than the first, device 0's first keys added: the whole mask. -/
theorem far_sum (l r : ℕ) (hc : c < 4) (h0 : 0 < c) (hl : l + 1 = c) (hr : (c = 3 ∧ r = 0) ∨ (c < 3 ∧ r = c + 1)) :
    S (NearKeys c l r i) F + S (Piece 0 32 0 512 0 32 (fun _ _ => True) i) F = S (Mk (512 * c + i)) F := by
  rw [S_or]
  · refine S_congr F fun J hJ => ?_
    unfold NearKeys OwnKeys Piece Wn Mk Near
    constructor
    · rintro (((h1 | h1) | h1) | h1) <;> omega
    · rintro (h1 | h1 | h1)
      · by_cases h2 : J < 512 * c
        · left; left; right; omega
        · by_cases h3 : J < 512 * c + 512
          · left; left; left; omega
          · left; right; omega
      · right; exact ⟨by omega, by omega, by omega, trivial⟩
      · omega
  · intro J hJ h1 h2
    unfold Piece at h2
    unfold NearKeys OwnKeys Wn Mk Near at h1
    omega

/-- The keys of a whole device. -/
def Dev512 (k J : ℕ) : Prop := 512 * k ≤ J ∧ J < 512 * k + 512

/-- Device 0's first rows, the other devices' shares added: the whole mask. -/
theorem first_sum (hi : i < 32) :
    S (NearKeys 0 3 1 i) F + S (Dev512 1) F + S (Dev512 2) F + S (Dev512 3) F = S (Mk (512 * 0 + i)) F := by
  rw [S_or, S_or, S_or]
  · refine S_congr F fun J hJ => ?_
    unfold NearKeys OwnKeys Dev512 Wn Mk Near
    omega
  · intro J hJ h1 h2
    unfold Dev512 at h1 h2; unfold NearKeys OwnKeys Wn Mk Near at h1; omega
  · intro J hJ h1 h2
    unfold Dev512 at h1 h2; unfold NearKeys OwnKeys Wn Mk Near at h1; omega
  · intro J hJ h1 h2
    unfold Dev512 at h2; unfold NearKeys OwnKeys Wn Mk Near at h1; omega

/-- Device 0's other rows: the whole mask. -/
theorem other_sum (hi : i < 512) (h : ¬ i < 32) : S (NearKeys 0 3 1 i) F = S (Mk (512 * 0 + i)) F := by
  refine S_congr F fun J hJ => ?_
  unfold NearKeys OwnKeys Wn Mk Near
  omega

end Combine

end Cert.KernelIdeal
-- ==== Proof.Attend.lean ====
/-
  The sums and the products a device ends with: one masked sum over the keys of the whole sequence.
-/
module

public import proofs.«01_k».proof.Proof.Dense
public import proofs.«01_k».proof.Proof.Pieces

@[expose] public section

noncomputable section

namespace Cert.KernelIdeal

open Idealize.ShloMosaic Idealize.SL.Sem
open Cert.KernelIdeal.Gen

variable (KG VG : Fin 2 → Fin 2048 → Fin 512 → EReal)

/-- The exponential of the score of a row of queries `qr` against key `J` of the whole sequence, in head `h`. -/
def FL (qr : Fin 512 → EReal) (b : Fin 2) (h : Fin 8) (J : Fin 2048) : EReal := Ideal.exp (∑ e : Fin 64, qr (col h e) * KG b J (col h e))
/-- The same times the value. -/
def FA (qr : Fin 512 → EReal) (b : Fin 2) (h : Fin 8) (d : Fin 64) (J : Fin 2048) : EReal := FL KG qr b h J * VG b J (col h d)

section Lift
variable {KG VG} {nr nc nk : ℕ} (gQ : Vec Ideal (sh3 2 512 512) .bf16) (gK gV : Vec Ideal (sh3 2 nk 512) .bf16) (P : ℕ → ℕ → Prop)
  [∀ a b, Decidable (P a b)] (b : Fin 2) (h : Fin 8) (r0 c0 : ℕ) (i : Fin 512) (d : Fin 64) (o : ℕ) (ho : o + nk ≤ 2048)

/-- A block's share of the sums over the whole sequence. -/
theorem shL_S (hK : ∀ (b : Fin 2) (j : Fin nk) (e : Fin 512), gK (ix3 b j e) = KG b ⟨o + j.val, by omega⟩ e) :
    shL (nr := nr) (nc := nc) gQ gK P b h r0 c0 i = S (Piece o nk r0 nr c0 nc P i.val) (FL KG (fun e => gQ (ix3 b i e)) b h) := by
  unfold shL
  refine S_lift o ho (fun J => (r0 ≤ i.val ∧ i.val < r0 + nr) ∧ (c0 ≤ J ∧ J < c0 + nc) ∧ P i.val J) _ _ fun j => ?_
  unfold E FL
  simp only [hK]
/-- A block's share of the products over the whole sequence. -/
theorem shA_S (hK : ∀ (b : Fin 2) (j : Fin nk) (e : Fin 512), gK (ix3 b j e) = KG b ⟨o + j.val, by omega⟩ e)
    (hV : ∀ (b : Fin 2) (j : Fin nk) (e : Fin 512), gV (ix3 b j e) = VG b ⟨o + j.val, by omega⟩ e) :
    shA (nr := nr) (nc := nc) gQ gK gV P b h r0 c0 i d = S (Piece o nk r0 nr c0 nc P i.val) (FA KG VG (fun e => gQ (ix3 b i e)) b h d) := by
  unfold shA
  refine S_lift o ho (fun J => (r0 ≤ i.val ∧ i.val < r0 + nr) ∧ (c0 ≤ J ∧ J < c0 + nc) ∧ P i.val J) _ _ fun j => ?_
  unfold E FA FL
  simp only [hK, hV]
end Lift

theorem devs (c : Dev nD) : c.val < 4 ∧ ((c.val = 0 ∧ (c + 3 : Dev nD).val = 3) ∨ (0 < c.val ∧ (c + 3 : Dev nD).val + 1 = c.val))
    ∧ ((c.val = 3 ∧ (c + 1 : Dev nD).val = 0) ∨ (c.val < 3 ∧ (c + 1 : Dev nD).val = c.val + 1)) := by
  revert c; decide +kernel

/-- A row of a device is a row of the whole sequence. -/
theorem key_lt (c : Dev nD) (j : Fin 512) : 512 * c.val + j.val < 2048 := by have := (devs c).1; omega

theorem head_lt (e : Fin 512) : e.val / 64 < 8 := by omega
theorem part_lt (e : Fin 512) : e.val % 64 < 64 := by omega

namespace In
variable {KG VG} (I : In Ideal)
  (hK : ∀ (c : Dev nD) (b : Fin 2) (j e : Fin 512), I.k c (ix3 b j e) = KG b ⟨512 * c.val + j.val, key_lt c j⟩ e)
  (hV : ∀ (c : Dev nD) (b : Fin 2) (j e : Fin 512), I.v c (ix3 b j e) = VG b ⟨512 * c.val + j.val, key_lt c j⟩ e)
  (c : Dev nD) (b : Fin 2) (h : Fin 8) (i : Fin 512) (d : Fin 64)

/-- A row of a device's queries. -/
def qr : Fin 512 → EReal := fun e => I.q' c (ix3 b i e)

include hK in
theorem k_own (b : Fin 2) (j e : Fin 512) : I.k' c (ix3 b j e) = KG b ⟨512 * c.val + j.val, key_lt c j⟩ e :=
  (nC_read _ b j e).trans (hK c b j e)
include hV in
theorem v_own (b : Fin 2) (j e : Fin 512) : I.v' c (ix3 b j e) = VG b ⟨512 * c.val + j.val, key_lt c j⟩ e :=
  (nC_read _ b j e).trans (hV c b j e)
include hK in
theorem k_rows {r : ℕ} (r0 : ℕ) (hr : r0 + r ≤ 512) (b : Fin 2) (j : Fin r) (e : Fin 512) :
    sub (rows r0 r hr) (I.k' c) (ix3 b j e) = KG b ⟨512 * c.val + r0 + j.val, by have := (devs c).1; omega⟩ e :=
  (rows_read r0 hr _ b j e).trans ((k_own I hK c b _ e).trans (congrArg (KG b · e) (Fin.ext (by simp only; omega))))
include hV in
theorem v_rows {r : ℕ} (r0 : ℕ) (hr : r0 + r ≤ 512) (b : Fin 2) (j : Fin r) (e : Fin 512) :
    sub (rows r0 r hr) (I.v' c) (ix3 b j e) = VG b ⟨512 * c.val + r0 + j.val, by have := (devs c).1; omega⟩ e :=
  (rows_read r0 hr _ b j e).trans ((v_own I hV c b _ e).trans (congrArg (VG b · e) (Fin.ext (by simp only; omega))))

include hK in
/-- The sums after the own blocks. -/
theorem ownL_S : ownL c (I.q' c) (I.k' c) (ix3 b i h) = S (OwnKeys c.val i.val) (FL KG (I.qr c b i) b h) := by
  have hd := (devs c).1
  have hk := k_own I hK c
  unfold ownL ownL0
  rw [incL_read _ _ _ _ _ _ _ _ _ _ (own_bias geoI_rest c 0 384 (by omega) (by omega)),
    incL_read _ _ _ _ _ _ _ _ _ _ (own_bias geoI_glob c 256 0 (by omega) (by omega)),
    initL_read _ _ _ _ _ _ _ _ _ _ (own_bias geoI_own c 256 128 (by omega) (by omega)),
    initL_read _ _ _ _ _ _ _ _ _ _ (own_bias geoI_own c 0 0 (by omega) (by omega)),
    shL_S _ _ _ _ _ _ _ _ (512 * c.val) (by omega) hk, shL_S _ _ _ _ _ _ _ _ (512 * c.val) (by omega) hk,
    shL_S _ _ _ _ _ _ _ _ (512 * c.val) (by omega) hk, shL_S _ _ _ _ _ _ _ _ (512 * c.val) (by omega) hk]
  exact own_sum _ _ _ _ i.isLt

include hK hV in
/-- The products after the own blocks. -/
theorem ownA_S : ownA c (I.q' c) (I.k' c) (I.v' c) (ix3 b i (col h d)) = S (OwnKeys c.val i.val) (FA KG VG (I.qr c b i) b h d) := by
  have hd := (devs c).1
  have hk := k_own I hK c
  have hv := v_own I hV c
  unfold ownA ownA0
  rw [incA_read _ _ _ _ _ _ _ _ _ _ _ (own_bias geoI_rest c 0 384 (by omega) (by omega)),
    incA_read _ _ _ _ _ _ _ _ _ _ _ (own_bias geoI_glob c 256 0 (by omega) (by omega)),
    initA_read _ _ _ _ _ _ _ _ _ _ _ (own_bias geoI_own c 256 128 (by omega) (by omega)),
    initA_read _ _ _ _ _ _ _ _ _ _ _ (own_bias geoI_own c 0 0 (by omega) (by omega)),
    shA_S _ _ _ _ _ _ _ _ _ _ (512 * c.val) (by omega) hk hv, shA_S _ _ _ _ _ _ _ _ _ _ (512 * c.val) (by omega) hk hv,
    shA_S _ _ _ _ _ _ _ _ _ _ (512 * c.val) (by omega) hk hv, shA_S _ _ _ _ _ _ _ _ _ _ (512 * c.val) (by omega) hk hv]
  exact own_sum _ _ _ _ i.isLt

include hK in
/-- The sums after the neighbours' blocks. -/
theorem nearL_S : I.nearL c (ix3 b i h) = S (NearKeys c.val (c + 3 : Dev nD).val (c + 1 : Dev nD).val i.val) (FL KG (I.qr c b i) b h) := by
  obtain ⟨hd, hl, hr⟩ := devs c
  unfold nearL haloL
  rw [incL_read _ _ _ _ _ _ _ _ _ _ (right_bias c), incL_read _ _ _ _ _ _ _ _ _ _ (left_bias c), ownL_S I hK,
    shL_S _ _ _ _ _ _ _ _ (512 * (c + 3 : Dev nD).val + 384) (by omega) (k_rows I hK (c + 3) 384 (by omega)),
    shL_S _ _ _ _ _ _ _ _ (512 * (c + 1 : Dev nD).val + 0) (by omega) (k_rows I hK (c + 1) 0 (by omega))]
  exact near_sum _ _ _ i.isLt _ _ hd hl hr

include hK hV in
/-- The products after the neighbours' blocks. -/
theorem nearA_S : I.nearA c (ix3 b i (col h d)) = S (NearKeys c.val (c + 3 : Dev nD).val (c + 1 : Dev nD).val i.val) (FA KG VG (I.qr c b i) b h d) := by
  obtain ⟨hd, hl, hr⟩ := devs c
  unfold nearA haloA
  rw [incA_read _ _ _ _ _ _ _ _ _ _ _ (right_bias c), incA_read _ _ _ _ _ _ _ _ _ _ _ (left_bias c), ownA_S I hK hV,
    shA_S _ _ _ _ _ _ _ _ _ _ (512 * (c + 3 : Dev nD).val + 384) (by omega) (k_rows I hK (c + 3) 384 (by omega)) (v_rows I hV (c + 3) 384 (by omega)),
    shA_S _ _ _ _ _ _ _ _ _ _ (512 * (c + 1 : Dev nD).val + 0) (by omega) (k_rows I hK (c + 1) 0 (by omega)) (v_rows I hV (c + 1) 0 (by omega))]
  exact near_sum _ _ _ i.isLt _ _ hd hl hr

include hK in
/-- The sums of a device other than the first are over the whole mask. -/
theorem fullLS_S (hc : c ≠ 0) : I.fullLS c (ix3 b i h) = S (Mk (512 * c.val + i.val)) (FL KG (I.qr c b i) b h) := by
  obtain ⟨hd, hl, hr⟩ := devs c
  have h0 : 0 < c.val := Nat.pos_of_ne_zero fun e => hc (Fin.ext e)
  unfold fullLS farL
  rw [incL_read _ _ _ _ _ _ _ _ _ _ (no_bias 0 0), nearL_S I hK,
    shL_S _ _ _ _ _ _ _ _ 0 (by omega) (fun b j e => (k_rows I hK 0 0 (by omega) b j e).trans (congrArg (KG b · e) (Fin.ext (by simp))))]
  exact far_sum _ _ _ i.isLt _ _ hd h0 (by omega) hr

include hK hV in
/-- The products of a device other than the first are over the whole mask. -/
theorem fullAS_S (hc : c ≠ 0) : I.fullAS c (ix3 b i (col h d)) = S (Mk (512 * c.val + i.val)) (FA KG VG (I.qr c b i) b h d) := by
  obtain ⟨hd, hl, hr⟩ := devs c
  have h0 : 0 < c.val := Nat.pos_of_ne_zero fun e => hc (Fin.ext e)
  unfold fullAS farA
  rw [incA_read _ _ _ _ _ _ _ _ _ _ _ (no_bias 0 0), nearA_S I hK hV,
    shA_S _ _ _ _ _ _ _ _ _ _ 0 (by omega) (fun b j e => (k_rows I hK 0 0 (by omega) b j e).trans (congrArg (KG b · e) (Fin.ext (by simp))))
      (fun b j e => (v_rows I hV 0 0 (by omega) b j e).trans (congrArg (VG b · e) (Fin.ext (by simp))))]
  exact far_sum _ _ _ i.isLt _ _ hd h0 (by omega) hr

/-- A whole device's keys. -/
theorem all_S (k : ℕ) (hk : k < 4) (f : Fin 512 → EReal) (F : Fin 2048 → EReal) (hf : ∀ j, f j = F ⟨512 * k + j.val, by omega⟩) :
    ∑ j, f j = S (Dev512 k) F := by
  have := S_lift (nk := 512) (512 * k) (by omega) (fun _ => True) f F hf
  simp only [if_true] at this
  rw [this]
  exact S_congr F fun J hJ => by unfold Dev512; simp

include hK in
/-- A device's share of the sums of device 0's first rows. -/
theorem pl_S (k : Dev nD) (u : Fin 32) : I.pl k (ix3 b u h) = S (Dev512 k.val) (FL KG (I.qr 0 b ⟨u.val, by omega⟩) b h) := by
  unfold pl
  rw [pl_read]
  refine all_S k.val (devs k).1 _ _ fun j => ?_
  unfold E FL qr
  refine congrArg Ideal.exp (Finset.sum_congr rfl fun e _ => ?_)
  rw [k_own I hK, rows_read]
  simp only [Nat.zero_add]

include hK hV in
/-- A device's share of the products of device 0's first rows. -/
theorem pa_S (k : Dev nD) (u : Fin 32) : I.pa k (ix3 b u (col h d)) = S (Dev512 k.val) (FA KG VG (I.qr 0 b ⟨u.val, by omega⟩) b h d) := by
  unfold pa
  rw [pa_read]
  refine all_S k.val (devs k).1 _ _ fun j => ?_
  unfold E FA FL qr
  rw [v_own I hV]
  congr 1
  refine congrArg Ideal.exp (Finset.sum_congr rfl fun e _ => ?_)
  rw [k_own I hK, rows_read]
  simp only [Nat.zero_add]

include hK in
/-- The sums of device 0 are over the whole mask. -/
theorem fullL0_S : I.fullL0 (ix3 b i h) = S (Mk (512 * 0 + i.val)) (FL KG (I.qr 0 b i) b h) := by
  unfold fullL0
  rw [shareL_read, shareL_read, shareL_read, nearL_S I hK]
  by_cases hi : i.val < 32
  · rw [dif_pos hi, dif_pos hi, dif_pos hi, pl_S I hK, pl_S I hK, pl_S I hK]
    exact first_sum _ _ hi
  · rw [dif_neg hi, dif_neg hi, dif_neg hi]
    exact other_sum _ _ i.isLt hi

include hK hV in
/-- The products of device 0 are over the whole mask. -/
theorem fullA0_S : I.fullA0 (ix3 b i (col h d)) = S (Mk (512 * 0 + i.val)) (FA KG VG (I.qr 0 b i) b h d) := by
  unfold fullA0
  rw [shareA_read, shareA_read, shareA_read, nearA_S I hK hV]
  by_cases hi : i.val < 32
  · rw [dif_pos hi, dif_pos hi, dif_pos hi, pa_S I hK hV, pa_S I hK hV, pa_S I hK hV]
    exact first_sum _ _ hi
  · rw [dif_neg hi, dif_neg hi, dif_neg hi]
    exact other_sum _ _ i.isLt hi

/-- A column of the buffers as a head and a column of it. -/
theorem col_split (e : Fin 512) : e = col ⟨e.val / 64, head_lt e⟩ ⟨e.val % 64, part_lt e⟩ := Fin.ext (by unfold col; simp only; omega)

include hK hV in
/-- A device's output: the attention over the whole mask, projected. -/
theorem out_S (n : Fin 768) : I.out c (ix3 b i n) = ∑ e : Fin 512,
    (S (Mk (512 * c.val + i.val)) (FA KG VG (I.qr c b i) b ⟨e.val / 64, head_lt e⟩ ⟨e.val % 64, part_lt e⟩)
      * Ideal.div 1 (S (Mk (512 * c.val + i.val)) (FL KG (I.qr c b i) b ⟨e.val / 64, head_lt e⟩))) * I.wo c (ix2 e n) := by
  unfold out
  split
  · rename_i hc
    subst hc
    rw [outC_read]
    refine Finset.sum_congr rfl fun e _ => ?_
    conv_lhs => rw [col_split e, ctxC_read, fullA0_S I hK hV, fullL0_S I hK, ← col_split e]
    rfl
  · rename_i hc
    rw [outC_read]
    refine Finset.sum_congr rfl fun e _ => ?_
    conv_lhs => rw [col_split e, ctxC_read, fullAS_S I hK hV _ _ _ _ _ hc, fullLS_S I hK _ _ _ _ hc, ← col_split e]

end In

end Cert.KernelIdeal
-- ==== Proof.RefVal.lean ====
/-
  The reference's result read at an element over the extended reals: the mask, the scores, their exponentials, the
  weights and the output, one stage after another.
-/
module

public import proofs.«01_k».proof.Proof.Gen.ReferenceIdeal.Run
public import proofs.«01_k».proof.Proof.Bias
public import Idealize.ShloMosaic.Lib.Pointwise
public import Idealize.ShloMosaic.Lib.Pointwise.Contract
public import Idealize.ShloMosaic.Lib.Tactic.CleanTypes
public import Idealize.ShloMosaic.Lib.Routing.OpsOrder
public import Idealize.ShloMosaic.Lib.WordCmp

@[expose] public section

noncomputable section

namespace Cert.ReferenceIdeal

open Idealize.ShloMosaic Idealize.SL.Sem Idealize.ShloMosaic.TcCoe Idealize.ShloMosaic.WordCmp
open Cert.ReferenceIdeal.Gen Cert.ReferenceIdeal.Value
open Cert.KernelIdeal (Mk Near col near_word)

/-- The mask. -/
def maskR : IVec S2048x2048 1 :=
  ori (cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32)))
    (ori (broadcastInDim S2048x2048 ![0, 1] bcast_S1x2048_S2048x2048_0_1 (cmpi .slt (broadcastInDim S1x2048 ![1] bcast_S2048_S1x2048_1 (iotaInDim S2048 32 0)) (broadcastInDim S1x2048 ![] bcast_S_S1x2048 (constantI S_ 32 32#32))))
      (broadcastInDim S2048x2048 ![0, 1] bcast_S2048x1_S2048x2048_0_1 (cmpi .slt (broadcastInDim S2048x1 ![0] bcast_S2048_S2048x1_0 (iotaInDim S2048 32 0)) (broadcastInDim S2048x1 ![] bcast_S_S2048x1 (constantI S_ 32 32#32)))))
/-- The masked scores. -/
def scoreR (x : FVec Ideal S2x2048x768 .bf16) (wq : FVec Ideal S768x512 .bf16) (k : FVec Ideal S2x2048x512 .f32) : FVec Ideal S2x8x2048x2048 .f32 :=
  select (broadcastInDim S2x8x2048x2048 ![0, 1, 2, 3] bcast_S1x1x2048x2048_S2x8x2048x2048_0_1_2_3 (broadcastInDim S1x1x2048x2048 ![2, 3] bcast_S2048x2048_S1x1x2048x2048_2_3 maskR))
    (mulf (Host.dotGeneral dot_S2x2048x8x64_S2x2048x8x64_S2x8x2048x2048_3_3_1_1_02_02 none
        (shapeCast _ (Host.dotGeneral dot_S2x2048x768_S768x512_S2x2048x512_2_0_01_1_n_n none (extf .f32 x bitsLt_bf16_f32) (extf .f32 wq bitsLt_bf16_f32)) shapeCasts_S2x2048x512_S2x2048x8x64)
        (shapeCast _ k shapeCasts_S2x2048x512_S2x2048x8x64)) (broadcastInDim S2x8x2048x2048 ![] bcast_S_S2x8x2048x2048 (constant S_ .f32 0x3E000000#32)))
    (broadcastInDim S2x8x2048x2048 ![] bcast_S_S2x8x2048x2048 (id (constant S_ .f32 0xFF800000#32)))
/-- The exponentials of the scores less their row's greatest. -/
def expR (s : FVec Ideal S2x8x2048x2048 .f32) : FVec Ideal S2x8x2048x2048 .f32 :=
  Host.exp (subf s (broadcastInDim S2x8x2048x2048 ![0, 1, 2, 3] bcast_S2x8x2048x1_S2x8x2048x2048_0_1_2_3 (broadcastInDim S2x8x2048x1 ![0, 1, 2] bcast_S2x8x2048_S2x8x2048x1_0_1_2
    (Host.reduce FloatOps.maximumf s (constant S_ .f32 0xFF800000#32) reducesTo_S2x8x2048x2048_S2x8x2048_d3 h_S_))))
/-- Whether a row has any key. -/
def keepR : IVec S2048 1 := Host.reduce IntOp.ori maskR (constantI S_ 1 0#1) reducesTo_S2048x2048_S2048_d1 h_S_
/-- The sums of a row. -/
def totalR (e : FVec Ideal S2x8x2048x2048 .f32) : FVec Ideal S2x8x2048 .f32 :=
  Host.reduceAdd e (constant S_ .f32 0x00000000#32) reducesTo_S2x8x2048x2048_S2x8x2048_d3 h_S_
/-- The weights. -/
def weightR (e : FVec Ideal S2x8x2048x2048 .f32) : FVec Ideal S2x8x2048x2048 .f32 :=
  select (broadcastInDim S2x8x2048x2048 ![0, 1, 2, 3] bcast_S1x1x2048x1_S2x8x2048x2048_0_1_2_3 (broadcastInDim S1x1x2048x1 ![2] bcast_S2048_S1x1x2048x1_2 keepR))
    (Host.divf e (broadcastInDim S2x8x2048x2048 ![0, 1, 2, 3] bcast_S2x8x2048x1_S2x8x2048x2048_0_1_2_3
      (select (broadcastInDim S2x8x2048x1 ![0, 1, 2, 3] bcast_S1x1x2048x1_S2x8x2048x1_0_1_2_3 (broadcastInDim S1x1x2048x1 ![2] bcast_S2048_S1x1x2048x1_2 keepR))
        (broadcastInDim S2x8x2048x1 ![0, 1, 2] bcast_S2x8x2048_S2x8x2048x1_0_1_2 (totalR e))
        (broadcastInDim S2x8x2048x1 ![] bcast_S_S2x8x2048x1 (id (constant S_ .f32 0x3F800000#32))))))
    (broadcastInDim S2x8x2048x2048 ![] bcast_S_S2x8x2048x2048 (id (constant S_ .f32 0x00000000#32)))
/-- The weighted values, a head's columns and the rows. -/
def attnR (v : FVec Ideal S2x2048x512 .f32) (w : FVec Ideal S2x8x2048x2048 .f32) : FVec Ideal S2x8x64x2048 .f32 :=
  Host.dotGeneral dot_S2x2048x8x64_S2x8x2048x2048_S2x8x64x2048_1_3_3_2_02_01 none (shapeCast _ v shapeCasts_S2x2048x512_S2x2048x8x64) w
/-- The context. -/
def ctxR (a : FVec Ideal S2x8x64x2048 .f32) : FVec Ideal S2x2048x512 .f32 :=
  shapeCast _ (transpose S2x2048x8x64 [0, 3, 1, 2] a transposes_S2x8x64x2048_S2x2048x8x64_0_3_1_2) shapeCasts_S2x2048x8x64_S2x2048x512
/-- The output. -/
def outR (c : FVec Ideal S2x2048x512 .f32) (wo : FVec Ideal S512x768 .bf16) : FVec Ideal S2x2048x768 .bf16 :=
  truncf .bf16 (Host.dotGeneral dot_S2x2048x512_S512x768_S2x2048x768_2_0_01_1_n_n none c (extf .f32 wo bitsLt_bf16_f32)) bitsLt_bf16_f32

/-- The reference's result is its stages one after another. -/
theorem res_eq (m : (ℓ : Loc nD τ sig) → Buf (Elt Ideal) ℓ) (c : Dev nD) :
    res_out0 m c = outR (ctxR (attnR (m ((c.tc : Thread nD τ).loc main_arg3))
      (weightR (expR (scoreR (m ((c.tc : Thread nD τ).loc main_arg0)) (m ((c.tc : Thread nD τ).loc main_arg1)) (m ((c.tc : Thread nD τ).loc main_arg2)))))))
      (m ((c.tc : Thread nD τ).loc main_arg4)) := by
  unfold res_out0 res_main_v48 outR ctxR attnR weightR totalR expR scoreR keepR maskR
  rfl

theorem maskR_read (I J : Fin 2048) : maskR (ix2 I J) = BitVec.ofBool (decide (Mk I.val J.val)) := by
  have e : maskR (ix2 I J) = IntOp.ori (IntOp.cmpi .sle (IntOp.absi (BitVec.ofNat 32 I.val - BitVec.ofNat 32 J.val)) 128#32)
      (IntOp.ori (IntOp.cmpi .slt (BitVec.ofNat 32 J.val) 32#32) (IntOp.cmpi .slt (BitVec.ofNat 32 I.val) 32#32)) := by
    unfold maskR
    rfl
  rw [e, near_word I.isLt J.isLt, cmpi_slt_ofNat (by omega) (by omega), cmpi_slt_ofNat (by omega) (by omega), ori_ofBool, ori_ofBool]
  congr 1
  rw [Bool.eq_iff_iff, decide_eq_true_iff]; simp [Mk]

/-- Every row has a key: its own. -/
theorem keepR_read (I : Fin 2048) : keepR (ix1 I) = 1#1 := by
  have e : keepR (ix1 I) = Finset.univ.fold IntOp.ori (0#1) (fun k : Fin 2048 => maskR (ix2 I k)) := by
    unfold keepR
    pointwise
  rw [e]
  refine (Routing.fold_ori _ _).2 ⟨I, Finset.mem_univ _, ?_⟩
  rw [maskR_read, decide_eq_true (show Mk I.val I.val from Or.inl ⟨by omega, by omega⟩)]
  rfl

theorem eighth_f32 : (Ideal.ofBits .f32 0x3E000000#32 : EReal) = ((1 / 8 : ℝ) : EReal) := by
  simp [Ideal.ofBits, Ideal.ieee, -EReal.coe_mul]; norm_num

theorem bot_f32 : (Ideal.ofBits .f32 0xFF800000#32 : EReal) = ⊥ := by
  simp [Ideal.ofBits, Ideal.ieee]

theorem scoreR_read (x : FVec Ideal S2x2048x768 .bf16) (wq : FVec Ideal S768x512 .bf16) (k : FVec Ideal S2x2048x512 .f32)
    (b : Fin 2) (h : Fin 8) (I J : Fin 2048) : scoreR x wq k (ix4 b h I J)
      = if Mk I.val J.val then (∑ e : Fin 64, (∑ p : Fin 768, x (ix3 b I p) * wq (ix2 p (col h e))) * k (ix3 b J (col h e))) * ((1 / 8 : ℝ) : EReal) else ⊥ := by
  have hc : ∀ e : Fin 64, (⟨h.val * 64 + e.val, by omega⟩ : Fin 512) = col h e := fun e => Fin.ext (by unfold col; simp only; omega)
  have e : scoreR x wq k (ix4 b h I J) = Scalar.select (maskR (ix2 I J))
      ((∑ e : Fin 64, (∑ p : Fin 768, x (ix3 b I p) * wq (ix2 p ⟨h.val * 64 + e.val, by omega⟩)) * k (ix3 b J ⟨h.val * 64 + e.val, by omega⟩)) *
        Ideal.ofBits .f32 0x3E000000#32) (Ideal.ofBits .f32 0xFF800000#32) := by
    unfold scoreR
    pointwise
    rfl
  rw [e, maskR_read, eighth_f32, bot_f32]
  simp only [hc]
  by_cases hm : Mk I.val J.val
  · rw [if_pos hm, decide_eq_true hm]; rfl
  · rw [if_neg hm, decide_eq_false hm]; rfl

theorem expR_read (s : FVec Ideal S2x8x2048x2048 .f32) (b : Fin 2) (h : Fin 8) (I J : Fin 2048) :
    expR s (ix4 b h I J) = Ideal.exp (s (ix4 b h I J) - Finset.univ.fold max ⊥ (fun k : Fin 2048 => s (ix4 b h I k))) := by
  unfold expR
  pointwise
  rw [bot_f32]

theorem totalR_read (e : FVec Ideal S2x8x2048x2048 .f32) (b : Fin 2) (h : Fin 8) (I : Fin 2048) :
    totalR e (ix3 b h I) = ∑ k : Fin 2048, e (ix4 b h I k) := by
  unfold totalR
  pointwise

theorem weightR_read (e : FVec Ideal S2x8x2048x2048 .f32) (b : Fin 2) (h : Fin 8) (I J : Fin 2048) :
    weightR e (ix4 b h I J) = Ideal.div (e (ix4 b h I J)) (∑ k : Fin 2048, e (ix4 b h I k)) := by
  rw [← totalR_read]
  have k1 : broadcastInDim S2x8x2048x2048 ![0, 1, 2, 3] bcast_S1x1x2048x1_S2x8x2048x2048_0_1_2_3 (broadcastInDim S1x1x2048x1 ![2] bcast_S2048_S1x1x2048x1_2 keepR) (ix4 b h I J)
      = keepR (ix1 I) := by pointwise
  have k2 : broadcastInDim S2x8x2048x1 ![0, 1, 2, 3] bcast_S1x1x2048x1_S2x8x2048x1_0_1_2_3 (broadcastInDim S1x1x2048x1 ![2] bcast_S2048_S1x1x2048x1_2 keepR) (ix4 b h I 0)
      = keepR (ix1 I) := by pointwise
  have k3 : broadcastInDim S2x8x2048x1 ![0, 1, 2] bcast_S2x8x2048_S2x8x2048x1_0_1_2 (totalR e) (ix4 b h I 0) = totalR e (ix3 b h I) := by pointwise
  have k4 : ∀ y : FVec Ideal S2x8x2048x1 .f32, broadcastInDim S2x8x2048x2048 ![0, 1, 2, 3] bcast_S2x8x2048x1_S2x8x2048x2048_0_1_2_3 y (ix4 b h I J) = y (ix4 b h I 0) := by
    intro y; pointwise
  have s1 : ∀ (M : IVec S2x8x2048x2048 1) (y z : FVec Ideal S2x8x2048x2048 .f32) (i : S2x8x2048x2048.Idx), M i = 1#1 →
      select M (Host.divf e y) z i = Ideal.div (e i) (y i) := by
    intro M y z i hM
    refine Eq.trans (b := Scalar.select (M i) (Ideal.div (e i) (y i)) (z i)) rfl ?_
    rw [hM]; rfl
  have s2 : ∀ (M : IVec S2x8x2048x1 1) (y z : FVec Ideal S2x8x2048x1 .f32) (i : S2x8x2048x1.Idx), M i = 1#1 → select M y z i = y i := by
    intro M y z i hM
    refine Eq.trans (b := Scalar.select (M i) (y i) (z i)) rfl ?_
    rw [hM]; rfl
  unfold weightR
  rw [s1 _ _ _ _ (k1.trans (keepR_read I)), k4, s2 _ _ _ _ (k2.trans (keepR_read I)), k3]

theorem attnR_read (v : FVec Ideal S2x2048x512 .f32) (w : FVec Ideal S2x8x2048x2048 .f32) (b : Fin 2) (h : Fin 8) (d : Fin 64) (I : Fin 2048) :
    attnR v w (ix4 b h d I) = ∑ J : Fin 2048, v (ix3 b J (col h d)) * w (ix4 b h I J) := by
  have hc : (⟨h.val * 64 + d.val, by omega⟩ : Fin 512) = col h d := Fin.ext (by unfold col; simp only; omega)
  rw [← hc]
  unfold attnR
  pointwise

theorem ctxR_read (a : FVec Ideal S2x8x64x2048 .f32) (b : Fin 2) (I : Fin 2048) (e : Fin 512) :
    ctxR a (ix3 b I e) = a (ix4 b ⟨e.val / 64, by omega⟩ ⟨e.val % 64, by omega⟩ I) := by
  unfold ctxR
  pointwise

theorem outR_read (c : FVec Ideal S2x2048x512 .f32) (wo : FVec Ideal S512x768 .bf16) (b : Fin 2) (I : Fin 2048) (n : Fin 768) :
    outR c wo (ix3 b I n) = ∑ e : Fin 512, c (ix3 b I e) * wo (ix2 e n) := by
  unfold outR
  pointwise

end Cert.ReferenceIdeal
-- ==== Proof.Softmax.lean ====
/-
  A masked softmax over the extended reals with finite scores: taking the maximum off before the exponential, and
  dividing each weight before the values are summed, change nothing.
-/
module

public import Idealize.ShloMosaic.Lib.Pointwise

@[expose] public section

noncomputable section

namespace Cert.Softmax

open Idealize.ShloMosaic

section
variable {ι : Type} (s : Finset ι)

/-- A finite sum of reals, read among the extended reals. -/
theorem coe_sum (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative comes out of a finite sum of extended reals. -/
theorem sum_mul_coe (f : ι → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.2 hr) (EReal.coe_ne_top r)]
end

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem exp_coe (r : ℝ) : Ideal.exp (r : EReal) = ((Real.exp r : ℝ) : EReal) := rfl
theorem exp_low : Ideal.exp ⊥ = 0 := rfl

section
variable {n : ℕ} (C : Fin n → Prop) [DecidablePred C] (s : Fin n → ℝ)

/-- A score under the mask. -/
def msk (J : Fin n) : EReal := if C J then (s J : EReal) else ⊥
/-- The largest of the scores under the mask. -/
def top : EReal := Finset.univ.fold max ⊥ (msk C s)
/-- An exponential under the mask. -/
def ex (J : Fin n) : ℝ := if C J then Real.exp (s J) else 0

/-- Some key in the mask makes the largest score a real. -/
theorem top_real (J0 : Fin n) (h0 : C J0) : ∃ μ : ℝ, top C s = (μ : EReal) := by
  have h1 : top C s ≠ ⊤ := by
    refine ne_of_lt ?_
    unfold top
    rw [Finset.fold_max_lt]
    refine ⟨bot_lt_top, fun J _ => ?_⟩
    unfold msk
    split
    · exact EReal.coe_lt_top _
    · exact bot_lt_top
  have h2 : top C s ≠ ⊥ := by
    refine ne_of_gt ?_
    unfold top
    rw [Finset.lt_fold_max]
    refine Or.inr ⟨J0, Finset.mem_univ _, ?_⟩
    unfold msk
    rw [if_pos h0]
    exact EReal.bot_lt_coe _
  exact ⟨(top C s).toReal, (EReal.coe_toReal h1 h2).symm⟩

theorem ex_nonneg (J : Fin n) : 0 ≤ ex C s J := by
  unfold ex; split
  · exact (Real.exp_pos _).le
  · exact le_rfl

theorem ex_sum_pos (J0 : Fin n) (h0 : C J0) : 0 < ∑ J, ex C s J := by
  refine Finset.sum_pos' (fun J _ => ex_nonneg C s J) ⟨J0, Finset.mem_univ _, ?_⟩
  unfold ex; rw [if_pos h0]; exact Real.exp_pos _

theorem exp_msk (μ : ℝ) (J : Fin n) : Ideal.exp (msk C s J - (μ : EReal)) = ((ex C s J * Real.exp (-μ) : ℝ) : EReal) := by
  unfold msk ex
  split
  · rw [← EReal.coe_sub, exp_coe, ← Real.exp_add, sub_eq_add_neg]
  · rw [EReal.bot_sub, exp_low, zero_mul, EReal.coe_zero]

/-- A weight of the softmax. -/
theorem weight_eq (J0 : Fin n) (h0 : C J0) (J : Fin n) :
    Ideal.div (Ideal.exp (msk C s J - top C s)) (∑ k, Ideal.exp (msk C s k - top C s)) = ((ex C s J * (∑ k, ex C s k)⁻¹ : ℝ) : EReal) := by
  obtain ⟨μ, hμ⟩ := top_real C s J0 h0
  simp only [hμ, exp_msk, ← coe_sum, ← Finset.sum_mul]
  have hL := ex_sum_pos C s J0 h0
  have hm := Real.exp_pos (-μ)
  rw [div_coe _ _ (mul_pos hL hm).ne', mul_div_mul_right _ _ hm.ne', div_eq_mul_inv]

/-- The softmax's combination of the values is the sum of the exponentials times the values over the sum of the exponentials. -/
theorem softmax_eq (J0 : Fin n) (h0 : C J0) (V : Fin n → EReal) :
    ∑ J, V J * Ideal.div (Ideal.exp (msk C s J - top C s)) (∑ k, Ideal.exp (msk C s k - top C s))
      = (∑ J, if C J then Ideal.exp (s J : EReal) * V J else 0) * Ideal.div 1 (∑ J, if C J then Ideal.exp (s J : EReal) else 0) := by
  have hL := ex_sum_pos C s J0 h0
  have e1 : ∀ J, (if C J then Ideal.exp (s J : EReal) else 0) = ((ex C s J : ℝ) : EReal) := fun J => by
    unfold ex; split
    · exact exp_coe _
    · rfl
  have e2 : ∀ J, (if C J then Ideal.exp (s J : EReal) * V J else 0) = ((ex C s J : ℝ) : EReal) * V J := fun J => by
    rw [← e1]; split
    · rfl
    · rw [zero_mul]
  simp only [weight_eq C s J0 h0, e1, e2, ← coe_sum]
  rw [show (1 : EReal) = ((1 : ℝ) : EReal) from rfl, div_coe _ _ hL.ne', one_div, sum_mul_coe _ _ _ (inv_nonneg.2 hL.le)]
  refine Finset.sum_congr rfl fun J _ => ?_
  rw [EReal.coe_mul, ← mul_assoc, mul_comm (V J)]
end

/-! ## The scores -/

section
variable {E P : Type} [Fintype E] [Fintype P] (x : P → EReal) (w : P → E → EReal) (k : E → EReal)

/-- A finite score is a real, whether the queries are scaled before the products with the keys or the scores after. -/
theorem score_real (xr : P → ℝ) (wr : P → E → ℝ) (kr : E → ℝ) (a : ℝ) (hx : ∀ p, x p = (xr p : EReal)) (hw : ∀ p e, w p e = (wr p e : EReal))
    (hk : ∀ e, k e = (kr e : EReal)) :
    (∑ e, (∑ p, x p * w p e) * k e) * (a : EReal) = (((∑ e, (∑ p, xr p * wr p e) * kr e) * a : ℝ) : EReal)
      ∧ ∑ e, (∑ p, x p * (w p e * (a : EReal))) * k e = (((∑ e, (∑ p, xr p * wr p e) * kr e) * a : ℝ) : EReal) := by
  simp only [hx, hw, hk, ← EReal.coe_mul, ← coe_sum]
  refine ⟨trivial, congrArg _ ?_⟩
  rw [Finset.sum_mul]
  refine Finset.sum_congr rfl fun e _ => ?_
  rw [Finset.sum_mul, Finset.sum_mul, Finset.sum_mul]
  exact Finset.sum_congr rfl fun p _ => by ring
end

end Cert.Softmax
-- ==== Proof.Equation.lean ====
/-
  A device's output is its block of the reference's result, when the input, the query projection and the keys are finite.
-/
module

public import proofs.«01_k».proof.Proof.Attend
public import proofs.«01_k».proof.Proof.RefVal
public import proofs.«01_k».proof.Proof.Softmax

@[expose] public section

noncomputable section

namespace Cert.KernelIdeal

open Idealize.ShloMosaic Idealize.SL.Sem
open Cert.KernelIdeal.Gen Cert.Softmax
open Cert.ReferenceIdeal (scoreR expR weightR attnR ctxR outR scoreR_read expR_read weightR_read attnR_read ctxR_read outR_read)

/-- An extended real that is a real. -/
def Fin' (a : EReal) : Prop := ∃ r : ℝ, a = (r : EReal)

section
variable (x : FVec Ideal Cert.ReferenceIdeal.S2x2048x768 .bf16) (wq : FVec Ideal Cert.ReferenceIdeal.S768x512 .bf16)
  (k v : FVec Ideal Cert.ReferenceIdeal.S2x2048x512 .f32)
  (hx : ∀ b I p, Fin' (x (ix3 b I p))) (hw : ∀ p e, Fin' (wq (ix2 p e))) (hk : ∀ b J e, Fin' (k (ix3 b J e)))
  (b : Fin 2) (h : Fin 8) (d : Fin 64) (I : Fin 2048)

include hx hw hk in
/-- The reference's attention at a row is the kernel's quotient of masked sums. -/
theorem attn_eq (qr : Fin 512 → EReal) (hq : ∀ e, qr e = ∑ p : Fin 768, x (ix3 b I p) * (wq (ix2 p e) * ((1 / 8 : ℝ) : EReal))) :
    attnR v (weightR (expR (scoreR x wq k))) (ix4 b h d I)
      = S (Mk I.val) (FA (fun b J e => k (ix3 b J e)) (fun b J e => v (ix3 b J e)) qr b h d)
        * Ideal.div 1 (S (Mk I.val) (FL (fun b J e => k (ix3 b J e)) qr b h)) := by
  choose xr hxr using hx
  choose wr hwr using hw
  choose kr hkr using hk
  obtain ⟨s, hs⟩ : ∃ s : Fin 2048 → ℝ, ∀ J,
      (∑ e : Fin 64, (∑ p : Fin 768, x (ix3 b I p) * wq (ix2 p (col h e))) * k (ix3 b J (col h e))) * ((1 / 8 : ℝ) : EReal) = (s J : EReal)
        ∧ ∑ e : Fin 64, (∑ p : Fin 768, x (ix3 b I p) * (wq (ix2 p (col h e)) * ((1 / 8 : ℝ) : EReal))) * k (ix3 b J (col h e)) = (s J : EReal) :=
    ⟨fun J => (∑ e : Fin 64, (∑ p : Fin 768, xr b I p * wr p (col h e)) * kr b J (col h e)) * (1 / 8), fun J =>
      score_real (fun p => x (ix3 b I p)) (fun p e => wq (ix2 p (col h e))) (fun e => k (ix3 b J (col h e))) (xr b I)
        (fun p e => wr p (col h e)) (fun e => kr b J (col h e)) (1 / 8) (hxr b I) (fun p e => hwr p (col h e)) (fun e => hkr b J (col h e))⟩
  have hFL : ∀ J, FL (fun b J e => k (ix3 b J e)) qr b h J = Ideal.exp (s J : EReal) := fun J => by
    unfold FL
    simp only [hq]
    rw [(hs J).2]
  have hm : ∀ J, scoreR x wq k (ix4 b h I J) = msk (fun J : Fin 2048 => Mk I.val J.val) s J := fun J => by
    rw [scoreR_read, (hs J).1, msk]
  have hI : Mk I.val I.val := by unfold Mk Near; omega
  have key := softmax_eq (fun J : Fin 2048 => Mk I.val J.val) s I hI (fun J => v (ix3 b J (col h d)))
  rw [attnR_read]
  simp only [weightR_read, expR_read, hm]
  refine key.trans ?_
  unfold S FA
  simp only [hFL]
end

section
variable (A : In Ideal)
  (x : FVec Ideal Cert.ReferenceIdeal.S2x2048x768 .bf16) (wq : FVec Ideal Cert.ReferenceIdeal.S768x512 .bf16)
  (k v : FVec Ideal Cert.ReferenceIdeal.S2x2048x512 .f32) (wo : FVec Ideal Cert.ReferenceIdeal.S512x768 .bf16)
  (hx : ∀ b I p, Fin' (x (ix3 b I p))) (hw : ∀ p e, Fin' (wq (ix2 p e))) (hk : ∀ b J e, Fin' (k (ix3 b J e)))
  (ex : ∀ (c : Dev nD) (b : Fin 2) (i : Fin 512) (p : Fin 768), A.x c (ix3 b i p) = x (ix3 b ⟨512 * c.val + i.val, key_lt c i⟩ p))
  (ek : ∀ (c : Dev nD) (b : Fin 2) (j e : Fin 512), A.k c (ix3 b j e) = k (ix3 b ⟨512 * c.val + j.val, key_lt c j⟩ e))
  (ev : ∀ (c : Dev nD) (b : Fin 2) (j e : Fin 512), A.v c (ix3 b j e) = v (ix3 b ⟨512 * c.val + j.val, key_lt c j⟩ e))
  (eq : ∀ c : Dev nD, A.wq c = wq) (eo : ∀ c : Dev nD, A.wo c = wo)

include hx hw hk ex ek ev eq eo in
/-- A device's output at an element is the reference's at the element it stands for. -/
theorem out_eq (c : Dev nD) (b : Fin 2) (i : Fin 512) (n : Fin 768) :
    A.out c (ix3 b i n) = outR (ctxR (attnR v (weightR (expR (scoreR x wq k))))) wo (ix3 b ⟨512 * c.val + i.val, key_lt c i⟩ n) := by
  rw [In.out_S (KG := fun b J e => k (ix3 b J e)) (VG := fun b J e => v (ix3 b J e)) A ek ev, outR_read]
  refine Finset.sum_congr rfl fun e _ => ?_
  rw [ctxR_read, attn_eq x wq k v hx hw hk _ _ _ _ (A.qr c b i) ?_, eo]
  intro e'
  unfold In.qr In.q'
  rw [qC_read, eq]
  simp only [ex]
end

end Cert.KernelIdeal
-- ==== Proof.Finite.lean ====
/-
  What the precondition says of the arrays it reads: every element is a real.
-/
module

public import proofs.«01_k».proof.Defs
public import Idealize.ShloMosaic.Lib.Pointwise
public import Idealize.ShloMosaic.Lib.ReduceAll

@[expose] public section

noncomputable section

namespace Cert.Finite

open Idealize.ShloMosaic Idealize.SL.Sem
open Cert.Pre_finite_scores_KernelIdeal

/-- An absolute value below the infinity is a real's. -/
theorem real_of_olt (x : Ideal .f32)
    (h : FloatOps.cmpf .olt (FloatOps.hostAbsf x) (FloatOps.ofBits (F := Ideal) .f32 0x7F800000#32) = 1#1) : ∃ r : ℝ, (x : EReal) = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hl : max (x : EReal) (-(x : EReal)) < ⊤ := by
    by_contra hn
    simp [hn] at h'
  rw [max_lt_iff] at hl
  have hb : (x : EReal) ≠ ⊥ := by
    intro e
    rw [e] at hl
    simp at hl
  exact ⟨(x : EReal).toReal, (EReal.coe_toReal hl.1.ne hb).symm⟩

instance : Subsingleton S_.Idx := ⟨fun a b => funext fun i => i.elim0⟩

variable [Facts] (x : FVec Ideal S2x512x768 .bf16) (wq : FVec Ideal S768x512 .bf16) (k v : FVec Ideal S2x512x512 .f32) (wo : FVec Ideal S512x768 .bf16)

/-- The precondition makes the input, the query projection and the keys finite. -/
theorem finite (h : fn (F := Ideal) x wq k v wo = fun _ => 1#1) :
    (∀ i, ∃ r : ℝ, (x i : EReal) = (r : EReal)) ∧ (∀ i, ∃ r : ℝ, (wq i : EReal) = (r : EReal)) ∧ ∀ i, ∃ r : ℝ, (k i : EReal) = (r : EReal) := by
  have h0 := congrFun h (fun i => i.elim0)
  unfold fn at h0
  obtain ⟨h1, hk⟩ := IntOp.andi_eq_one.1 h0
  obtain ⟨hx, hw⟩ := IntOp.andi_eq_one.1 h1
  exact ⟨fun i => real_of_olt _ (Host.reduce_andi_all _ _ _ _ _ hx i), fun i => real_of_olt _ (Host.reduce_andi_all _ _ _ _ _ hw i),
    fun i => real_of_olt _ (Host.reduce_andi_all _ _ _ _ _ hk i)⟩

end Cert.Finite
-- ==== Proof.Whole.lean ====
/-
  Every device's output is its block of the reference's result.
-/
module

public import proofs.«01_k».proof.Proof.Equation
public import proofs.«01_k».proof.Proof.Frames
public import proofs.«01_k».proof.Proof.Finite

@[expose] public section

noncomputable section

namespace Cert.KernelIdeal

open Idealize.ShloMosaic Idealize.SL.Sem
open Cert.KernelIdeal.Gen Cert.Softmax

/-- A block's element of an array whose second axis is cut in four. -/
theorem block_read {α : Type} {n : ℕ} (hT : Layout.Tiles ⟨3, ![2, 512, n]⟩ ⟨3, ![2, 2048, n]⟩ 1 4) (c : Dev nD)
    (f : Shape.Idx ⟨3, ![2, 2048, n]⟩ → α) (b : Fin 2) (i : Fin 512) (p : Fin n) :
    Layout.block ⟨3, ![2, 512, n]⟩ ⟨3, ![2, 2048, n]⟩ 1 4 c f hT (ix3 b i p) = f (ix3 b ⟨512 * c.val + i.val, key_lt c i⟩ p) := by
  rw [Layout.block_apply]
  refine congrArg f (funext fun a => Fin.ext ?_)
  rw [Layout.Tiles.idx_val]
  fin_cases a
  · rfl
  · show c.val * 512 + i.val = 512 * c.val + i.val
    omega
  · rfl

/-- A row of the whole sequence is a row of one of the devices. -/
theorem row_split (J : Fin 2048) : ∃ (c : Dev nD) (i : Fin 512), (⟨512 * c.val + i.val, key_lt c i⟩ : Fin 2048) = J :=
  ⟨⟨J.val / 512, by show J.val / 512 < 4; omega⟩, ⟨J.val % 512, by omega⟩, Fin.ext (by show 512 * (J.val / 512) + J.val % 512 = J.val; omega)⟩

section
variable (m : (ℓ : Loc nD τ sig) → Buf (Elt Ideal) ℓ)
  (x : FVec Ideal Cert.ReferenceIdeal.S2x2048x768 .bf16) (wq : FVec Ideal Cert.ReferenceIdeal.S768x512 .bf16)
  (k v : FVec Ideal Cert.ReferenceIdeal.S2x2048x512 .f32) (wo : FVec Ideal Cert.ReferenceIdeal.S512x768 .bf16)
  (hTx : Layout.Tiles ⟨3, ![2, 512, 768]⟩ ⟨3, ![2, 2048, 768]⟩ 1 4) (hTk : Layout.Tiles ⟨3, ![2, 512, 512]⟩ ⟨3, ![2, 2048, 512]⟩ 1 4)
  (h0 : ∀ c : Dev nD, m ((c.tc : Thread nD τ).loc main_arg0) = Layout.block ⟨3, ![2, 512, 768]⟩ ⟨3, ![2, 2048, 768]⟩ 1 4 c x hTx)
  (h1 : ∀ c : Dev nD, m ((c.tc : Thread nD τ).loc main_arg1) = wq)
  (h2 : ∀ c : Dev nD, m ((c.tc : Thread nD τ).loc main_arg2) = Layout.block ⟨3, ![2, 512, 512]⟩ ⟨3, ![2, 2048, 512]⟩ 1 4 c k hTk)
  (h3 : ∀ c : Dev nD, m ((c.tc : Thread nD τ).loc main_arg3) = Layout.block ⟨3, ![2, 512, 512]⟩ ⟨3, ![2, 2048, 512]⟩ 1 4 c v hTk)
  (h4 : ∀ c : Dev nD, m ((c.tc : Thread nD τ).loc main_arg4) = wo)
  [Cert.Pre_finite_scores_KernelIdeal.Facts]
  (hp : ∀ c : Dev nD, Cert.Pre_finite_scores_KernelIdeal.fn (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) = fun _ => 1#1)

include h0 h1 h2 h3 h4 hp in
/-- Every device's output is its block of the reference's stages one after another. -/
theorem out_block (c : Dev nD) : (inputs m).out c = Layout.block ⟨3, ![2, 512, 768]⟩ ⟨3, ![2, 2048, 768]⟩ 1 4 c
    (Cert.ReferenceIdeal.outR (Cert.ReferenceIdeal.ctxR (Cert.ReferenceIdeal.attnR v (Cert.ReferenceIdeal.weightR (Cert.ReferenceIdeal.expR (Cert.ReferenceIdeal.scoreR x wq k))))) wo) hTx := by
  have fin := fun c => Cert.Finite.finite _ _ _ _ _ (hp c)
  have hx : ∀ b I p, Fin' (x (ix3 b I p)) := fun b I p => by
    obtain ⟨d, i, rfl⟩ := row_split I
    have := (fin d).1 (ix3 b i p)
    rw [h0 d, block_read] at this
    exact this
  have hk : ∀ b J e, Fin' (k (ix3 b J e)) := fun b J e => by
    obtain ⟨d, i, rfl⟩ := row_split J
    have := (fin d).2.2 (ix3 b i e)
    rw [h2 d, block_read] at this
    exact this
  have hw : ∀ p e, Fin' (wq (ix2 p e)) := fun p e => by
    have := (fin c).2.1 (ix2 p e)
    rw [h1 c] at this
    exact this
  have e0 : ∀ (d : Dev nD) (b : Fin 2) (i : Fin 512) (p : Fin 768), (inputs m).x d (ix3 b i p) = x (ix3 b ⟨512 * d.val + i.val, key_lt d i⟩ p) :=
    fun d b i p => (congrFun ((iblk0 m d).trans (h0 d)) (ix3 b i p)).trans (block_read hTx d x b i p)
  have e2 : ∀ (d : Dev nD) (b : Fin 2) (j e : Fin 512), (inputs m).k d (ix3 b j e) = k (ix3 b ⟨512 * d.val + j.val, key_lt d j⟩ e) :=
    fun d b j e => (congrFun (h2 d) (ix3 b j e)).trans (block_read hTk d k b j e)
  have e3 : ∀ (d : Dev nD) (b : Fin 2) (j e : Fin 512), (inputs m).v d (ix3 b j e) = v (ix3 b ⟨512 * d.val + j.val, key_lt d j⟩ e) :=
    fun d b j e => (congrFun (h3 d) (ix3 b j e)).trans (block_read hTk d v b j e)
  have e1 : ∀ d : Dev nD, (inputs m).wq d = wq := fun d => (iblk1 m d).trans (h1 d)
  have e4 : ∀ d : Dev nD, (inputs m).wo d = wo := fun d => (iblk2 m d).trans (h4 d)
  refine funext fun i => ?_
  rw [show i = ix3 (i 0) (i 1) (i 2) from (ix3_eta i).symm]
  exact (out_eq (inputs m) x wq k v wo hx hw hk e0 e2 e3 e1 e4 c (i 0) (i 1) (i 2)).trans (block_read hTx c _ (i 0) (i 1) (i 2)).symm
end

end Cert.KernelIdeal
-- ==== Proof.lean ====
/- The proof of the claims. -/
module

public import proofs.«01_k».proof.Defs
public import proofs.«01_k».proof.Proof.Frames
public import proofs.«01_k».proof.Proof.Whole
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal

@[expose] public section

noncomputable section

namespace Cert.Proof

open Idealize.ShloMosaic Idealize.SL.Sem

/-- The reference runs, keeps its arguments and leaves every counter at zero. -/
theorem frame_reference : quiescent_ReferenceIdeal := fun m g _ =>
  (θ_run _ _ _).mono (fun r h => ⟨fun c => (h c).2, sem_eq_zero_of_no_sems (by decide) _⟩) (Cert.ReferenceIdeal.Value.run m g)

/-- The same of the memories the precondition holds of. -/
theorem frame_reference_finite [Cert.Pre_finite_scores_ReferenceIdeal.Facts] : quiescent_ReferenceIdeal_pre_finite_scores_ReferenceIdeal := fun m g _ =>
  frame_reference m g trivial

/-- The kernel runs, keeps its arguments and leaves every counter at zero, over the extended reals. -/
theorem frame_kernelIdeal : quiescent_KernelIdeal := fun m g _ => Cert.KernelIdeal.frame m g

/-- The same of the memories the precondition holds of. -/
theorem frame_kernelIdeal_finite [Cert.Pre_finite_scores_KernelIdeal.Facts] : quiescent_KernelIdeal_pre_finite_scores_KernelIdeal := fun m g _ =>
  Cert.KernelIdeal.frame m g

theorem preserves : preserves_Kernel_KernelIdeal :=
  IdealRules.named_const.statement Cert.KernelIdeal.κ "mask" .f32 0xCE6E6B28#32 ⊥ rfl

/-- Over the extended reals every device's result is its block of the reference's result, when the input, the query
    projection and the keys are finite. -/
theorem algebraic [Cert.Pre_finite_scores_KernelIdeal.Facts] : algebraic_KernelIdeal_ReferenceIdeal_pre_finite_scores_KernelIdeal :=
  fun m g m' g' hp hm => ⟨Cert.ReferenceIdeal.Value.res_out0 m' 0,
    (θ_run _ _ _).mono (fun r h c => ⟨(h c).1.trans ((Cert.KernelIdeal.out_block m _ _ _ _ _ _ _ (fun c => (hm c).1) (fun c => (hm c).2.1)
      (fun c => (hm c).2.2.1) (fun c => (hm c).2.2.2.1) (fun c => (hm c).2.2.2.2) hp c).trans
        (congrArg (fun f => Layout.block ⟨3, ![2, 512, 768]⟩ ⟨3, ![2, 2048, 768]⟩ 1 4 c f) (Cert.ReferenceIdeal.res_eq m' 0).symm)), (h c).2⟩)
      (Cert.KernelIdeal.value m g),
    (θ_run _ _ _).mono (fun r h => h 0) (Cert.ReferenceIdeal.Value.run m' g')⟩

theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, frame_kernel, frame_kernelIdeal, frame_kernelIdeal_finite, frame_reference,
    frame_reference_finite, preserves, algebraic⟩

end Cert.Proof
